-- ==== Defs.lean ====
def Pre_Kernel (m : (ℓ : Loc Cert.Kernel.nD Cert.Kernel.τ Cert.Kernel.sig) → Buf (Elt Bits) ℓ) : Prop :=
  True

def Pre_FfnUp (m : (ℓ : Loc Cert.FfnUp.nD Cert.FfnUp.τ Cert.FfnUp.sig) → Buf (Elt Bits) ℓ) : Prop :=
  True

def Pre_FfnDown (m : (ℓ : Loc Cert.FfnDown.nD Cert.FfnDown.τ Cert.FfnDown.sig) → Buf (Elt Bits) ℓ) : Prop :=
  True

def Pre_InProj (m : (ℓ : Loc Cert.InProj.nD Cert.InProj.τ Cert.InProj.sig) → Buf (Elt Bits) ℓ) : Prop :=
  True

def Pre_OutProj (m : (ℓ : Loc Cert.OutProj.nD Cert.OutProj.τ Cert.OutProj.sig) → Buf (Elt Bits) ℓ) : Prop :=
  True

def Pre_Qkv (m : (ℓ : Loc Cert.Qkv.nD Cert.Qkv.τ Cert.Qkv.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)) →
    ∃ (v0 : (c : Dev Cert.FfnUpIdeal.nD) → Buf (Elt Ideal) ((c.tc : Thread Cert.FfnUpIdeal.nD Cert.FfnUpIdeal.τ).loc Cert.FfnUpIdeal.main_v4)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v4) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v49) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v2)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v2) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v17) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v10)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v10) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v18) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)) →
    ∃ (v0 : (c : Dev Cert.OutProjIdeal.nD) → Buf (Elt Ideal) ((c.tc : Thread Cert.OutProjIdeal.nD Cert.OutProjIdeal.τ).loc Cert.OutProjIdeal.main_v12_0)) (v1 : (c : Dev Cert.OutProjIdeal.nD) → Buf (Elt Ideal) ((c.tc : Thread Cert.OutProjIdeal.nD Cert.OutProjIdeal.τ).loc Cert.OutProjIdeal.main_v12_1)) (v2 : (c : Dev Cert.OutProjIdeal.nD) → Buf (Elt Ideal) ((c.tc : Thread Cert.OutProjIdeal.nD Cert.OutProjIdeal.τ).loc Cert.OutProjIdeal.main_v12_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v12_0) = v0 c
          ∧ r.2.mem ((c.tc : Thread Cert.OutProjIdeal.nD Cert.OutProjIdeal.τ).loc Cert.OutProjIdeal.main_v12_1) = v1 c
          ∧ r.2.mem ((c.tc : Thread Cert.OutProjIdeal.nD Cert.OutProjIdeal.τ).loc Cert.OutProjIdeal.main_v12_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v48) = v0 c
          ∧ r.2.mem ((c.tc : Thread Cert.OutProjRefIdeal.nD Cert.OutProjRefIdeal.τ).loc Cert.OutProjRefIdeal.main_v63) = v1 c
          ∧ r.2.mem ((c.tc : Thread Cert.OutProjRefIdeal.nD Cert.OutProjRefIdeal.τ).loc Cert.OutProjRefIdeal.main_v65) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v33_0)) (v1 : (c : Dev Cert.QkvIdeal.nD) → Buf (Elt Ideal) ((c.tc : Thread Cert.QkvIdeal.nD Cert.QkvIdeal.τ).loc Cert.QkvIdeal.main_v33_1)) (v2 : (c : Dev Cert.QkvIdeal.nD) → Buf (Elt Ideal) ((c.tc : Thread Cert.QkvIdeal.nD Cert.QkvIdeal.τ).loc Cert.QkvIdeal.main_v33_2)) (v3 : (c : Dev Cert.QkvIdeal.nD) → Buf (Elt Ideal) ((c.tc : Thread Cert.QkvIdeal.nD Cert.QkvIdeal.τ).loc Cert.QkvIdeal.main_v33_3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v33_0) = v0 c
          ∧ r.2.mem ((c.tc : Thread Cert.QkvIdeal.nD Cert.QkvIdeal.τ).loc Cert.QkvIdeal.main_v33_1) = v1 c
          ∧ r.2.mem ((c.tc : Thread Cert.QkvIdeal.nD Cert.QkvIdeal.τ).loc Cert.QkvIdeal.main_v33_2) = v2 c
          ∧ r.2.mem ((c.tc : Thread Cert.QkvIdeal.nD Cert.QkvIdeal.τ).loc Cert.QkvIdeal.main_v33_3) = v3 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v92) = v0 c
          ∧ r.2.mem ((c.tc : Thread Cert.QkvRefIdeal.nD Cert.QkvRefIdeal.τ).loc Cert.QkvRefIdeal.main_v94) = v1 c
          ∧ r.2.mem ((c.tc : Thread Cert.QkvRefIdeal.nD Cert.QkvRefIdeal.τ).loc Cert.QkvRefIdeal.main_v96) = v2 c
          ∧ r.2.mem ((c.tc : Thread Cert.QkvRefIdeal.nD Cert.QkvRefIdeal.τ).loc Cert.QkvRefIdeal.main_v98) = v3 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4))

def Claim : Prop :=
  ∃ (hKernel : Cert.Kernel.Facts) (hFfnUp : Cert.FfnUp.Facts) (hFfnDown : Cert.FfnDown.Facts) (hInProj : Cert.InProj.Facts) (hOutProj : Cert.OutProj.Facts) (hQkv : Cert.Qkv.Facts) (hKernelIdeal : Cert.KernelIdeal.Facts) (hReferenceIdeal : Cert.ReferenceIdeal.Facts) (hFfnUpIdeal : Cert.FfnUpIdeal.Facts) (hFfnUpRefIdeal : Cert.FfnUpRefIdeal.Facts) (hFfnDownIdeal : Cert.FfnDownIdeal.Facts) (hFfnDownRefIdeal : Cert.FfnDownRefIdeal.Facts) (hInProjIdeal : Cert.InProjIdeal.Facts) (hInProjRefIdeal : Cert.InProjRefIdeal.Facts) (hOutProjIdeal : Cert.OutProjIdeal.Facts) (hOutProjRefIdeal : Cert.OutProjRefIdeal.Facts) (hQkvIdeal : Cert.QkvIdeal.Facts) (hQkvRefIdeal : Cert.QkvRefIdeal.Facts) (hPre_finite_queries_and_keys : Cert.Pre_finite_queries_and_keys.Facts),
    quiescent_Kernel (hKernel := hKernel)
    ∧ quiescent_FfnUp (hFfnUp := hFfnUp)
    ∧ quiescent_FfnDown (hFfnDown := hFfnDown)
    ∧ quiescent_InProj (hInProj := hInProj)
    ∧ quiescent_OutProj (hOutProj := hOutProj)
    ∧ quiescent_Qkv (hQkv := hQkv)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_FfnUpIdeal (hFfnUpIdeal := hFfnUpIdeal)
    ∧ quiescent_FfnUpRefIdeal (hFfnUpRefIdeal := hFfnUpRefIdeal)
    ∧ quiescent_FfnDownIdeal (hFfnDownIdeal := hFfnDownIdeal)
    ∧ quiescent_FfnDownRefIdeal (hFfnDownRefIdeal := hFfnDownRefIdeal)
    ∧ quiescent_InProjIdeal (hInProjIdeal := hInProjIdeal)
    ∧ quiescent_InProjRefIdeal (hInProjRefIdeal := hInProjRefIdeal)
    ∧ quiescent_OutProjIdeal (hOutProjIdeal := hOutProjIdeal)
    ∧ quiescent_OutProjRefIdeal (hOutProjRefIdeal := hOutProjRefIdeal)
    ∧ quiescent_QkvIdeal (hQkvIdeal := hQkvIdeal)
    ∧ quiescent_QkvRefIdeal (hQkvRefIdeal := hQkvRefIdeal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Qkv_QkvIdeal
    ∧ algebraic_QkvIdeal_QkvRefIdeal (hQkvIdeal := hQkvIdeal) (hQkvRefIdeal := hQkvRefIdeal)
-- ==== Pre_finite_queries_and_keys.lean ====
abbrev S8x8x2048x256 : Shape := ⟨4, ![8, 8, 2048, 256]⟩
abbrev S8x8x2048x128 : Shape := ⟨4, ![8, 8, 2048, 128]⟩
abbrev S8x2048x128 : Shape := ⟨3, ![8, 2048, 128]⟩
abbrev S_ : Shape := ⟨0, ![]⟩

class Facts : Prop where
  bitsLt_bf16_f32 : FTy.bits .bf16 < FTy.bits .f32
  bcast_S_S8x8x2048x256 : S_.BroadcastsInDim S8x8x2048x256 (![] : Fin 0 → Fin S8x8x2048x256.rank)
  reducesTo_S8x8x2048x256_S_d0_1_2_3 : S8x8x2048x256.ReducesTo [0, 1, 2, 3] S_
  h_S_ : 0 < S_.numel
  bcast_S_S8x8x2048x128 : S_.BroadcastsInDim S8x8x2048x128 (![] : Fin 0 → Fin S8x8x2048x128.rank)
  reducesTo_S8x8x2048x128_S_d0_1_2_3 : S8x8x2048x128.ReducesTo [0, 1, 2, 3] S_
  bcast_S_S8x2048x128 : S_.BroadcastsInDim S8x2048x128 (![] : Fin 0 → Fin S8x2048x128.rank)
  reducesTo_S8x2048x128_S_d0_1_2 : S8x2048x128.ReducesTo [0, 1, 2] S_

variable [Facts]

def fn {F : FTy → Type} [FloatOps F] (main_arg0 : FVec F S8x8x2048x256 .bf16) (main_arg1 : FVec F S8x8x2048x128 .bf16) (main_arg2 : FVec F S8x2048x128 .bf16) (main_arg3 : FVec F S8x8x2048x128 .bf16) : IVec S_ 1 :=
  let main_v0 : FVec F S8x8x2048x256 .f32 := (extf .f32 · bitsLt_bf16_f32) main_arg0
  let main_v1 : FVec F S8x8x2048x256 .f32 := Host.absf main_v0
  let main_cst : FVec F S_ .f32 := constant S_ .f32 0x7F800000#32
  let main_v2 : FVec F S8x8x2048x256 .f32 := broadcastInDim S8x8x2048x256 ![] bcast_S_S8x8x2048x256 main_cst
  let main_v3 : IVec S8x8x2048x256 1 := cmpf .olt main_v1 main_v2
  let main_c : IVec S_ 1 := constantI S_ 1 1#1
  let main_v4 : IVec S_ 1 := (fun x v => Host.reduce IntOp.andi x v reducesTo_S8x8x2048x256_S_d0_1_2_3 h_S_) main_v3 main_c
  let main_v5 : FVec F S8x8x2048x128 .f32 := (extf .f32 · bitsLt_bf16_f32) main_arg1
  let main_v6 : FVec F S8x8x2048x128 .f32 := Host.absf main_v5
  let main_cst_0 : FVec F S_ .f32 := constant S_ .f32 0x7F800000#32
  let main_v7 : FVec F S8x8x2048x128 .f32 := broadcastInDim S8x8x2048x128 ![] bcast_S_S8x8x2048x128 main_cst_0
  let main_v8 : IVec S8x8x2048x128 1 := cmpf .olt main_v6 main_v7
  let main_c_1 : IVec S_ 1 := constantI S_ 1 1#1
  let main_v9 : IVec S_ 1 := (fun x v => Host.reduce IntOp.andi x v reducesTo_S8x8x2048x128_S_d0_1_2_3 h_S_) main_v8 main_c_1
  let main_v10 : IVec S_ 1 := andi main_v4 main_v9
  let main_v11 : FVec F S8x2048x128 .f32 := (extf .f32 · bitsLt_bf16_f32) main_arg2
  let main_v12 : FVec F S8x2048x128 .f32 := Host.absf main_v11
  let main_cst_2 : FVec F S_ .f32 := constant S_ .f32 0x7F800000#32
  let main_v13 : FVec F S8x2048x128 .f32 := broadcastInDim S8x2048x128 ![] bcast_S_S8x2048x128 main_cst_2
  let main_v14 : IVec S8x2048x128 1 := cmpf .olt main_v12 main_v13
  let main_c_3 : IVec S_ 1 := constantI S_ 1 1#1
  let main_v15 : IVec S_ 1 := (fun x v => Host.reduce IntOp.andi x v reducesTo_S8x2048x128_S_d0_1_2 h_S_) main_v14 main_c_3
  let main_v16 : IVec S_ 1 := andi main_v10 main_v15
  main_v16
-- ==== Kernel.lean ====
abbrev S8x8x2048x256 : Shape := ⟨4, ![8, 8, 2048, 256]⟩
abbrev S8x8x2048x128 : Shape := ⟨4, ![8, 8, 2048, 128]⟩
abbrev S8x2048x128 : Shape := ⟨3, ![8, 2048, 128]⟩
abbrev S8x2048x1024 : Shape := ⟨3, ![8, 2048, 1024]⟩
abbrev S1x2x2048x256 : Shape := ⟨4, ![1, 2, 2048, 256]⟩
abbrev S1x2x2048x128 : Shape := ⟨4, ![1, 2, 2048, 128]⟩
abbrev S1x2048x128 : Shape := ⟨3, ![1, 2048, 128]⟩
abbrev S1x2048x256 : Shape := ⟨3, ![1, 2048, 256]⟩
abbrev S1x1x2048x128 : Shape := ⟨4, ![1, 1, 2048, 128]⟩
abbrev S2048x128 : Shape := ⟨2, ![2048, 128]⟩
abbrev S2048x256 : Shape := ⟨2, ![2048, 256]⟩
abbrev S1x1x256x256 : Shape := ⟨4, ![1, 1, 256, 256]⟩
abbrev S256x256 : Shape := ⟨2, ![256, 256]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩

abbrev nBuf : Space → Nat
  | .hbm => 5
  | .vmem => 10
  | .smem => 0
  | _ => 0

abbrev bufTy : (tb : Table) → Fin (tcTables nBuf tb) → BufTy
  | .hbm, ⟨0, _⟩ => ⟨S8x8x2048x256, .bf16⟩
  | .hbm, ⟨1, _⟩ => ⟨S8x8x2048x128, .bf16⟩
  | .hbm, ⟨2, _⟩ => ⟨S8x2048x128, .bf16⟩
  | .hbm, ⟨3, _⟩ => ⟨S8x8x2048x128, .bf16⟩
  | .hbm, ⟨4, _⟩ => ⟨S8x2048x1024, .bf16⟩
  | .local _ .vmem, ⟨0, _⟩ => ⟨S1x2x2048x256, .bf16⟩
  | .local _ .vmem, ⟨1, _⟩ => ⟨S1x2x2048x256, .bf16⟩
  | .local _ .vmem, ⟨2, _⟩ => ⟨S1x2x2048x128, .bf16⟩
  | .local _ .vmem, ⟨3, _⟩ => ⟨S1x2x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2x2048x128, .bf16⟩
  | .local _ .vmem, ⟨7, _⟩ => ⟨S1x2x2048x128, .bf16⟩
  | .local _ .vmem, ⟨8, _⟩ => ⟨S1x2048x256, .bf16⟩
  | .local _ .vmem, ⟨9, _⟩ => ⟨S1x2048x256, .bf16⟩
  | _, _ => ⟨S8x8x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnUp.lean ====
abbrev S16384x2048 : Shape := ⟨2, ![16384, 2048]⟩
abbrev S1x2048x11264 : Shape := ⟨3, ![1, 2048, 11264]⟩
abbrev S1x3x5632 : Shape := ⟨3, ![1, 3, 5632]⟩
abbrev S1x5632 : Shape := ⟨2, ![1, 5632]⟩
abbrev S2048x11264 : Shape := ⟨2, ![2048, 11264]⟩
abbrev S3x5632 : Shape := ⟨2, ![3, 5632]⟩
abbrev S5632 : Shape := ⟨1, ![5632]⟩
abbrev S16384x5632 : Shape := ⟨2, ![16384, 5632]⟩
abbrev S2048x2048 : Shape := ⟨2, ![2048, 2048]⟩
abbrev S2048x512 : Shape := ⟨2, ![2048, 512]⟩
abbrev S3x512 : Shape := ⟨2, ![3, 512]⟩
abbrev S1x512 : Shape := ⟨2, ![1, 512]⟩
abbrev S1040x2048 : Shape := ⟨2, ![1040, 2048]⟩
abbrev S1040x512 : Shape := ⟨2, ![1040, 512]⟩
abbrev S1024x512 : Shape := ⟨2, ![1024, 512]⟩
abbrev S1024x2048 : Shape := ⟨2, ![1024, 2048]⟩

abbrev nBuf : Space → Nat
  | .hbm => 9
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S1x2048x11264, .f32⟩
  | .hbm, ⟨2, _⟩ => ⟨S1x3x5632, .f32⟩
  | .hbm, ⟨3, _⟩ => ⟨S1x5632, .f32⟩
  | .hbm, ⟨4, _⟩ => ⟨S2048x11264, .f32⟩
  | .hbm, ⟨5, _⟩ => ⟨S3x5632, .f32⟩
  | .hbm, ⟨6, _⟩ => ⟨S5632, .f32⟩
  | .hbm, ⟨7, _⟩ => ⟨S1x5632, .f32⟩
  | .hbm, ⟨8, _⟩ => ⟨S16384x5632, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnDown.lean ====
abbrev S16384x5632 : Shape := ⟨2, ![16384, 5632]⟩
abbrev S5632x2048 : Shape := ⟨2, ![5632, 2048]⟩
abbrev S16384x2048 : Shape := ⟨2, ![16384, 2048]⟩
abbrev S1x2048 : Shape := ⟨2, ![1, 2048]⟩
abbrev S2048 : Shape := ⟨1, ![2048]⟩
abbrev S512x5632 : Shape := ⟨2, ![512, 5632]⟩
abbrev S512x2048 : Shape := ⟨2, ![512, 2048]⟩
abbrev S256x2048 : Shape := ⟨2, ![256, 2048]⟩
abbrev S256x5632 : Shape := ⟨2, ![256, 5632]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .bf16⟩
  | .hbm, ⟨2, _⟩ => ⟨S16384x2048, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S16384x2048, .f32⟩
  | .local _ .vmem, ⟨0, _⟩ => ⟨S512x5632, .bf16⟩
  | .local _ .vmem, ⟨1, _⟩ => ⟨S512x5632, .bf16⟩
  | .local _ .vmem, ⟨2, _⟩ => ⟨S5632x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InProj.lean ====
abbrev S8x2048x2048 : Shape := ⟨3, ![8, 2048, 2048]⟩
abbrev S1x2048 : Shape := ⟨2, ![1, 2048]⟩
abbrev S1x2048x3904 : Shape := ⟨3, ![1, 2048, 3904]⟩
abbrev S16384x2048 : Shape := ⟨2, ![16384, 2048]⟩
abbrev S2048x3904 : Shape := ⟨2, ![2048, 3904]⟩
abbrev S3904x2048 : Shape := ⟨2, ![3904, 2048]⟩
abbrev S832x2048 : Shape := ⟨2, ![832, 2048]⟩
abbrev S_ : Shape := ⟨0, ![]⟩
abbrev S1024x2048 : Shape := ⟨2, ![1024, 2048]⟩
abbrev S2048 : Shape := ⟨1, ![2048]⟩
abbrev S3072x2048 : Shape := ⟨2, ![3072, 2048]⟩
abbrev S16384x4096 : Shape := ⟨2, ![16384, 4096]⟩
abbrev S1024x1024 : Shape := ⟨2, ![1024, 1024]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩

abbrev nBuf : Space → Nat
  | .hbm => 16
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x3904, .f32⟩
  | .hbm, ⟨3, _⟩ => ⟨S16384x2048, .f32⟩
  | .hbm, ⟨4, _⟩ => ⟨S2048x3904, .f32⟩
  | .hbm, ⟨5, _⟩ => ⟨S3904x2048, .f32⟩
  | .hbm, ⟨6, _⟩ => ⟨S832x2048, .f32⟩
  | .hbm, ⟨7, _⟩ => ⟨S832x2048, .bf16⟩
  | .hbm, ⟨8, _⟩ => ⟨S_, .i32⟩
  | .hbm, ⟨9, _⟩ => ⟨S_, .bf16⟩
  | .hbm, ⟨10, _⟩ => ⟨S1024x2048, .bf16⟩
  | .hbm, ⟨11, _⟩ => ⟨S2048, .f32⟩
  | .hbm, ⟨12, _⟩ => ⟨S1x2048, .f32⟩
  | .hbm, ⟨13, _⟩ => ⟨S3072x2048, .f32⟩
  | .hbm, ⟨14, _⟩ => ⟨S3072x2048, .bf16⟩
  | .hbm, ⟨15, _⟩ => ⟨S16384x4096, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x1024, .bf16⟩
  | .local _ .vmem, ⟨7, _⟩ => ⟨S1024x1024, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c3_i32 : BitVec 32 := 3#32
  let v0 : BitVec 1 := Scalar.cmpi .slt arg1 c3_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c3_i32_0 : BitVec 32 := 3#32
  let v3 : BitVec 1 := Scalar.cmpi .eq arg1 c3_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProj.lean ====
abbrev S16384x1024 : Shape := ⟨2, ![16384, 1024]⟩
abbrev S1x1024 : Shape := ⟨2, ![1, 1024]⟩
abbrev S1x2048x2048 : Shape := ⟨3, ![1, 2048, 2048]⟩
abbrev S8x2048x2048 : Shape := ⟨3, ![8, 2048, 2048]⟩
abbrev S1x2048 : Shape := ⟨2, ![1, 2048]⟩
abbrev S1x5632x2048 : Shape := ⟨3, ![1, 5632, 2048]⟩
abbrev S1024 : Shape := ⟨1, ![1024]⟩
abbrev S2048x2048 : Shape := ⟨2, ![2048, 2048]⟩
abbrev S16384x2048 : Shape := ⟨2, ![16384, 2048]⟩
abbrev S2048 : Shape := ⟨1, ![2048]⟩
abbrev S5632x2048 : Shape := ⟨2, ![5632, 2048]⟩
abbrev S512x1024 : Shape := ⟨2, ![512, 1024]⟩
abbrev S512x2048 : Shape := ⟨2, ![512, 2048]⟩
abbrev S176x2048 : Shape := ⟨2, ![176, 2048]⟩
abbrev S256x1024 : Shape := ⟨2, ![256, 1024]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩

abbrev nBuf : Space → Nat
  | .hbm => 24
  | .vmem => 19
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x1024, .f32⟩
  | .hbm, ⟨3, _⟩ => ⟨S1x1024, .f32⟩
  | .hbm, ⟨4, _⟩ => ⟨S1x2048x2048, .f32⟩
  | .hbm, ⟨5, _⟩ => ⟨S8x2048x2048, .f32⟩
  | .hbm, ⟨6, _⟩ => ⟨S1x2048, .f32⟩
  | .hbm, ⟨7, _⟩ => ⟨S1x2048, .f32⟩
  | .hbm, ⟨8, _⟩ => ⟨S1x5632x2048, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S2048x2048, .f32⟩
  | .hbm, ⟨14, _⟩ => ⟨S2048x2048, .bf16⟩
  | .hbm, ⟨15, _⟩ => ⟨S16384x2048, .f32⟩
  | .hbm, ⟨16, _⟩ => ⟨S2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S5632x2048, .f32⟩
  | .hbm, ⟨21, _⟩ => ⟨S16384x2048, .f32⟩
  | .hbm, ⟨22, _⟩ => ⟨S16384x2048, .bf16⟩
  | .hbm, ⟨23, _⟩ => ⟨S5632x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | .local _ .vmem, ⟨10, _⟩ => ⟨S1x2048, .f32⟩
  | .local _ .vmem, ⟨11, _⟩ => ⟨S176x2048, .f32⟩
  | .local _ .vmem, ⟨12, _⟩ => ⟨S176x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .bf16⟩
  | .local _ .vmem, ⟨17, _⟩ => ⟨S176x2048, .bf16⟩
  | .local _ .vmem, ⟨18, _⟩ => ⟨S176x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S176x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Qkv.lean ====
abbrev S16384x4096 : Shape := ⟨2, ![16384, 4096]⟩
abbrev S1x512 : Shape := ⟨2, ![1, 512]⟩
abbrev S1x512x1536 : Shape := ⟨3, ![1, 512, 1536]⟩
abbrev S1x256 : Shape := ⟨2, ![1, 256]⟩
abbrev S1x256x2048 : Shape := ⟨3, ![1, 256, 2048]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S512x1536 : Shape := ⟨2, ![512, 1536]⟩
abbrev S512x8x192 : Shape := ⟨3, ![512, 8, 192]⟩
abbrev S512x8x256 : Shape := ⟨3, ![512, 8, 256]⟩
abbrev S512x2048 : Shape := ⟨2, ![512, 2048]⟩
abbrev S512 : Shape := ⟨1, ![512]⟩
abbrev S256 : Shape := ⟨1, ![256]⟩
abbrev S256x2048 : Shape := ⟨2, ![256, 2048]⟩
abbrev S8x8x2048x256 : Shape := ⟨4, ![8, 8, 2048, 256]⟩
abbrev S8x8x2048x128 : Shape := ⟨4, ![8, 8, 2048, 128]⟩
abbrev S8x2048x128 : Shape := ⟨3, ![8, 2048, 128]⟩
abbrev S1024x512 : Shape := ⟨2, ![1024, 512]⟩
abbrev S1024x256 : Shape := ⟨2, ![1024, 256]⟩
abbrev S1024x128 : Shape := ⟨2, ![1024, 128]⟩
abbrev S1x8x1024x256 : Shape := ⟨4, ![1, 8, 1024, 256]⟩
abbrev S1x8x1024x128 : Shape := ⟨4, ![1, 8, 1024, 128]⟩
abbrev S1x1024x128 : Shape := ⟨3, ![1, 1024, 128]⟩
abbrev S256x512 : Shape := ⟨2, ![256, 512]⟩
abbrev S256x1 : Shape := ⟨2, ![256, 1]⟩
abbrev S256x256 : Shape := ⟨2, ![256, 256]⟩
abbrev S256x128 : Shape := ⟨2, ![256, 128]⟩
abbrev S1x256x128 : Shape := ⟨3, ![1, 256, 128]⟩
abbrev S1x1x256x128 : Shape := ⟨4, ![1, 1, 256, 128]⟩

abbrev nBuf : Space → Nat
  | .hbm => 53
  | .vmem => 22
  | .smem => 0
  | _ => 0

abbrev bufTy : (tb : Table) → Fin (tcTables nBuf tb) → BufTy
  | .hbm, ⟨0, _⟩ => ⟨S16384x4096, .bf16⟩
  | .hbm, ⟨1, _⟩ => ⟨S1x512, .f32⟩
  | .hbm, ⟨2, _⟩ => ⟨S1x512x1536, .f32⟩
  | .hbm, ⟨3, _⟩ => ⟨S1x256, .f32⟩
  | .hbm, ⟨4, _⟩ => ⟨S1x256x2048, .f32⟩
  | .hbm, ⟨5, _⟩ => ⟨S2048, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S2048x1, .f32⟩
  | .hbm, ⟨23, _⟩ => ⟨S1x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x64, .f32⟩
  | .hbm, ⟨28, _⟩ => ⟨S2048x64, .f32⟩
  | .hbm, ⟨29, _⟩ => ⟨S_, .i32⟩
  | .hbm, ⟨30, _⟩ => ⟨S_, .f32⟩
  | .hbm, ⟨31, _⟩ => ⟨S2048x128, .f32⟩
  | .hbm, ⟨32, _⟩ => ⟨S2048x64, .f32⟩
  | .hbm, ⟨33, _⟩ => ⟨S_, .i32⟩
  | .hbm, ⟨34, _⟩ => ⟨S_, .f32⟩
  | .hbm, ⟨35, _⟩ => ⟨S2048x128, .f32⟩
  | .hbm, ⟨36, _⟩ => ⟨S512x1536, .f32⟩
  | .hbm, ⟨37, _⟩ => ⟨S512x8x192, .f32⟩
  | .hbm, ⟨38, _⟩ => ⟨S_, .i32⟩
  | .hbm, ⟨39, _⟩ => ⟨S_, .f32⟩
  | .hbm, ⟨40, _⟩ => ⟨S512x8x256, .f32⟩
  | .hbm, ⟨41, _⟩ => ⟨S512x2048, .f32⟩
  | .hbm, ⟨42, _⟩ => ⟨S512, .f32⟩
  | .hbm, ⟨43, _⟩ => ⟨S1x512, .f32⟩
  | .hbm, ⟨44, _⟩ => ⟨S256, .f32⟩
  | .hbm, ⟨45, _⟩ => ⟨S1x256, .f32⟩
  | .hbm, ⟨46, _⟩ => ⟨S512x2048, .bf16⟩
  | .hbm, ⟨47, _⟩ => ⟨S256x2048, .f32⟩
  | .hbm, ⟨48, _⟩ => ⟨S256x2048, .bf16⟩
  | .hbm, ⟨49, _⟩ => ⟨S8x8x2048x256, .bf16⟩
  | .hbm, ⟨50, _⟩ => ⟨S8x8x2048x128, .bf16⟩
  | .hbm, ⟨51, _⟩ => ⟨S8x2048x128, .bf16⟩
  | .hbm, ⟨52, _⟩ => ⟨S8x8x2048x128, .bf16⟩
  | .local _ .vmem, ⟨0, _⟩ => ⟨S1024x512, .bf16⟩
  | .local _ .vmem, ⟨1, _⟩ => ⟨S1024x512, .bf16⟩
  | .local _ .vmem, ⟨2, _⟩ => ⟨S1024x256, .bf16⟩
  | .local _ .vmem, ⟨3, _⟩ => ⟨S1024x256, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1x512, .f32⟩
  | .local _ .vmem, ⟨11, _⟩ => ⟨S1x256, .f32⟩
  | .local _ .vmem, ⟨12, _⟩ => ⟨S512x2048, .bf16⟩
  | .local _ .vmem, ⟨13, _⟩ => ⟨S256x2048, .bf16⟩
  | .local _ .vmem, ⟨14, _⟩ => ⟨S1x8x1024x256, .bf16⟩
  | .local _ .vmem, ⟨15, _⟩ => ⟨S1x8x1024x256, .bf16⟩
  | .local _ .vmem, ⟨16, _⟩ => ⟨S1x8x1024x128, .bf16⟩
  | .local _ .vmem, ⟨17, _⟩ => ⟨S1x8x1024x128, .bf16⟩
  | .local _ .vmem, ⟨18, _⟩ => ⟨S1x1024x128, .bf16⟩
  | .local _ .vmem, ⟨19, _⟩ => ⟨S1x1024x128, .bf16⟩
  | .local _ .vmem, ⟨20, _⟩ => ⟨S1x8x1024x128, .bf16⟩
  | .local _ .vmem, ⟨21, _⟩ => ⟨S1x8x1024x128, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_call1_v0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_call2_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33_0 : Ref sig .tc := ⟨.hbm, 49, rfl⟩
abbrev main_v33_1 : Ref sig .tc := ⟨.hbm, 50, rfl⟩
abbrev main_v33_2 : Ref sig .tc := ⟨.hbm, 51, rfl⟩
abbrev main_v33_3 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c6_i32 : BitVec 32 := 6#32
  let c0_i32 : BitVec 32 := 0#32
  ![v1.toNat, c6_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c14_i32 : BitVec 32 := 14#32
  let c0_i32 : BitVec 32 := 0#32
  ![v1.toNat, c14_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c30_i32 : BitVec 32 := 30#32
  let c0_i32 : BitVec 32 := 0#32
  ![v1.toNat, c30_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S8x8x2048x256 : Shape := ⟨4, ![8, 8, 2048, 256]⟩
abbrev S8x8x2048x128 : Shape := ⟨4, ![8, 8, 2048, 128]⟩
abbrev S8x2048x128 : Shape := ⟨3, ![8, 2048, 128]⟩
abbrev S8x1x2048x128 : Shape := ⟨4, ![8, 1, 2048, 128]⟩
abbrev S8x8x2048x2048 : Shape := ⟨4, ![8, 8, 2048, 2048]⟩
abbrev S_ : Shape := ⟨0, ![]⟩
abbrev S8x8x2048 : Shape := ⟨3, ![8, 8, 2048]⟩
abbrev S8x8x2048x1 : Shape := ⟨4, ![8, 8, 2048, 1]⟩
abbrev S8x8x128x2048 : Shape := ⟨4, ![8, 8, 128, 2048]⟩
abbrev S8x2048x8x128 : Shape := ⟨4, ![8, 2048, 8, 128]⟩
abbrev S8x2048x1024 : Shape := ⟨3, ![8, 2048, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8x8x2048x256, .bf16⟩
  | .hbm, ⟨1, _⟩ => ⟨S8x8x2048x128, .bf16⟩
  | .hbm, ⟨2, _⟩ => ⟨S8x2048x128, .bf16⟩
  | .hbm, ⟨3, _⟩ => ⟨S8x8x2048x128, .bf16⟩
  | .hbm, ⟨4, _⟩ => ⟨S8x1x2048x128, .bf16⟩
  | .hbm, ⟨5, _⟩ => ⟨S8x8x2048x128, .bf16⟩
  | .hbm, ⟨6, _⟩ => ⟨S8x8x2048x128, .f32⟩
  | .hbm, ⟨7, _⟩ => ⟨S8x8x2048x128, .f32⟩
  | .hbm, ⟨8, _⟩ => ⟨S8x8x2048x256, .f32⟩
  | .hbm, ⟨9, _⟩ => ⟨S8x8x2048x256, .f32⟩
  | .hbm, ⟨10, _⟩ => ⟨S8x8x2048x2048, .f32⟩
  | .hbm, ⟨11, _⟩ => ⟨S_, .f32⟩
  | .hbm, ⟨12, _⟩ => ⟨S_, .f32⟩
  | .hbm, ⟨13, _⟩ => ⟨S8x8x2048x2048, .f32⟩
  | .hbm, ⟨14, _⟩ => ⟨S8x8x2048x2048, .f32⟩
  | .hbm, ⟨15, _⟩ => ⟨S_, .f32⟩
  | .hbm, ⟨16, _⟩ => ⟨S8x8x2048, .f32⟩
  | .hbm, ⟨17, _⟩ => ⟨S_, .f32⟩
  | .hbm, ⟨18, _⟩ => ⟨S8x8x2048, .f32⟩
  | .hbm, ⟨19, _⟩ => ⟨S8x8x2048, .f32⟩
  | .hbm, ⟨20, _⟩ => ⟨S8x8x2048x1, .f32⟩
  | .hbm, ⟨21, _⟩ => ⟨S8x8x2048x2048, .f32⟩
  | .hbm, ⟨22, _⟩ => ⟨S8x8x2048x2048, .f32⟩
  | .hbm, ⟨23, _⟩ => ⟨S8x8x2048x2048, .f32⟩
  | .hbm, ⟨24, _⟩ => ⟨S_, .f32⟩
  | .hbm, ⟨25, _⟩ => ⟨S8x8x2048, .f32⟩
  | .hbm, ⟨26, _⟩ => ⟨S8x8x2048x1, .f32⟩
  | .hbm, ⟨27, _⟩ => ⟨S8x8x2048x2048, .f32⟩
  | .hbm, ⟨28, _⟩ => ⟨S8x8x2048x2048, .f32⟩
  | .hbm, ⟨29, _⟩ => ⟨S8x8x2048x2048, .bf16⟩
  | .hbm, ⟨30, _⟩ => ⟨S8x8x2048x2048, .f32⟩
  | .hbm, ⟨31, _⟩ => ⟨S8x8x2048x128, .f32⟩
  | .hbm, ⟨32, _⟩ => ⟨S8x8x128x2048, .f32⟩
  | .hbm, ⟨33, _⟩ => ⟨S8x2048x8x128, .f32⟩
  | .hbm, ⟨34, _⟩ => ⟨S8x2048x8x128, .bf16⟩
  | .hbm, ⟨35, _⟩ => ⟨S8x2048x1024, .bf16⟩
  | _, _ => ⟨S8x8x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== FfnUpRefIdeal.lean ====
abbrev S16384x2048 : Shape := ⟨2, ![16384, 2048]⟩
abbrev S1x2048x11264 : Shape := ⟨3, ![1, 2048, 11264]⟩
abbrev S1x3x5632 : Shape := ⟨3, ![1, 3, 5632]⟩
abbrev S1x5632 : Shape := ⟨2, ![1, 5632]⟩
abbrev S8x2048x2048 : Shape := ⟨3, ![8, 2048, 2048]⟩
abbrev S2048x11264 : Shape := ⟨2, ![2048, 11264]⟩
abbrev S8x2048x11264 : Shape := ⟨3, ![8, 2048, 11264]⟩
abbrev S8x2048x5632 : Shape := ⟨3, ![8, 2048, 5632]⟩
abbrev S3x5632 : Shape := ⟨2, ![3, 5632]⟩
abbrev S5632 : Shape := ⟨1, ![5632]⟩
abbrev S_ : Shape := ⟨0, ![]⟩
abbrev S8x2050x5632 : Shape := ⟨3, ![8, 2050, 5632]⟩
abbrev S1x1x5632 : Shape := ⟨3, ![1, 1, 5632]⟩
abbrev S16384x5632 : Shape := ⟨2, ![16384, 5632]⟩

abbrev nBuf : Space → Nat
  | .hbm => 61
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x11264, .f32⟩
  | .hbm, ⟨2, _⟩ => ⟨S1x3x5632, .f32⟩
  | .hbm, ⟨3, _⟩ => ⟨S1x5632, .f32⟩
  | .hbm, ⟨4, _⟩ => ⟨S16384x2048, .f32⟩
  | .hbm, ⟨5, _⟩ => ⟨S8x2048x2048, .f32⟩
  | .hbm, ⟨6, _⟩ => ⟨S2048x11264, .f32⟩
  | .hbm, ⟨7, _⟩ => ⟨S8x2048x11264, .f32⟩
  | .hbm, ⟨8, _⟩ => ⟨S8x2048x5632, .f32⟩
  | .hbm, ⟨9, _⟩ => ⟨S3x5632, .f32⟩
  | .hbm, ⟨10, _⟩ => ⟨S5632, .f32⟩
  | .hbm, ⟨11, _⟩ => ⟨S_, .i32⟩
  | .hbm, ⟨12, _⟩ => ⟨S_, .f32⟩
  | .hbm, ⟨13, _⟩ => ⟨S8x2050x5632, .f32⟩
  | .hbm, ⟨14, _⟩ => ⟨S8x2048x5632, .f32⟩
  | .hbm, ⟨15, _⟩ => ⟨S1x5632, .f32⟩
  | .hbm, ⟨16, _⟩ => ⟨S5632, .f32⟩
  | .hbm, ⟨17, _⟩ => ⟨S1x1x5632, .f32⟩
  | .hbm, ⟨18, _⟩ => ⟨S8x2048x5632, .f32⟩
  | .hbm, ⟨19, _⟩ => ⟨S8x2048x5632, .f32⟩
  | .hbm, ⟨20, _⟩ => ⟨S_, .f32⟩
  | .hbm, ⟨21, _⟩ => ⟨S8x2048x5632, .f32⟩
  | .hbm, ⟨22, _⟩ => ⟨S8x2048x5632, .f32⟩
  | .hbm, ⟨23, _⟩ => ⟨S8x2048x5632, .f32⟩
  | .hbm, ⟨24, _⟩ => ⟨S1x5632, .f32⟩
  | .hbm, ⟨25, _⟩ => ⟨S5632, .f32⟩
  | .hbm, ⟨26, _⟩ => ⟨S1x1x5632, .f32⟩
  | .hbm, ⟨27, _⟩ => ⟨S8x2048x5632, .f32⟩
  | .hbm, ⟨28, _⟩ => ⟨S8x2048x5632, .f32⟩
  | .hbm, ⟨29, _⟩ => ⟨S8x2048x5632, .f32⟩
  | .hbm, ⟨30, _⟩ => ⟨S8x2048x5632, .f32⟩
  | .hbm, ⟨31, _⟩ => ⟨S1x5632, .f32⟩
  | .hbm, ⟨32, _⟩ => ⟨S5632, .f32⟩
  | .hbm, ⟨33, _⟩ => ⟨S1x1x5632, .f32⟩
  | .hbm, ⟨34, _⟩ => ⟨S8x2048x5632, .f32⟩
  | .hbm, ⟨35, _⟩ => ⟨S8x2048x5632, .f32⟩
  | .hbm, ⟨36, _⟩ => ⟨S8x2048x5632, .f32⟩
  | .hbm, ⟨37, _⟩ => ⟨S1x1x5632, .f32⟩
  | .hbm, ⟨38, _⟩ => ⟨S8x2048x5632, .f32⟩
  | .hbm, ⟨39, _⟩ => ⟨S8x2048x5632, .f32⟩
  | .hbm, ⟨40, _⟩ => ⟨S8x2048x5632, .f32⟩
  | .hbm, ⟨41, _⟩ => ⟨S8x2048x5632, .f32⟩
  | .hbm, ⟨42, _⟩ => ⟨S8x2048x5632, .f32⟩
  | .hbm, ⟨43, _⟩ => ⟨S_, .f32⟩
  | .hbm, ⟨44, _⟩ => ⟨S8x2048x5632, .f32⟩
  | .hbm, ⟨45, _⟩ => ⟨S8x2048x5632, .f32⟩
  | .hbm, ⟨46, _⟩ => ⟨S8x2048x5632, .f32⟩
  | .hbm, ⟨47, _⟩ => ⟨S_, .f32⟩
  | .hbm, ⟨48, _⟩ => ⟨S8x2048x5632, .f32⟩
  | .hbm, ⟨49, _⟩ => ⟨S8x2048x5632, .f32⟩
  | .hbm, ⟨50, _⟩ => ⟨S8x2048x5632, .f32⟩
  | .hbm, ⟨51, _⟩ => ⟨S_, .f32⟩
  | .hbm, ⟨52, _⟩ => ⟨S8x2048x5632, .f32⟩
  | .hbm, ⟨53, _⟩ => ⟨S8x2048x5632, .f32⟩
  | .hbm, ⟨54, _⟩ => ⟨S_, .f32⟩
  | .hbm, ⟨55, _⟩ => ⟨S8x2048x5632, .f32⟩
  | .hbm, ⟨56, _⟩ => ⟨S8x2048x5632, .f32⟩
  | .hbm, ⟨57, _⟩ => ⟨S8x2048x5632, .f32⟩
  | .hbm, ⟨58, _⟩ => ⟨S8x2048x5632, .f32⟩
  | .hbm, ⟨59, _⟩ => ⟨S8x2048x5632, .bf16⟩
  | .hbm, ⟨60, _⟩ => ⟨S16384x5632, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_0 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_1 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_2 : Ref sig .tc := ⟨.hbm, 51, rfl⟩
abbrev main_v42 : Ref sig .tc := ⟨.hbm, 52, rfl⟩
abbrev main_v43 : Ref sig .tc := ⟨.hbm, 53, rfl⟩
abbrev main_cst_3 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩

abbrev nD : Nat := 1
abbrev τ : Topo := Topo.v7x

variable {F : FTy → Type} [FloatOps F]
-- ==== FfnDownRefIdeal.lean ====
abbrev S16384x5632 : Shape := ⟨2, ![16384, 5632]⟩
abbrev S5632x2048 : Shape := ⟨2, ![5632, 2048]⟩
abbrev S16384x2048 : Shape := ⟨2, ![16384, 2048]⟩
abbrev S1x2048 : Shape := ⟨2, ![1, 2048]⟩
abbrev S2048 : Shape := ⟨1, ![2048]⟩
abbrev S_ : Shape := ⟨0, ![]⟩
abbrev S16384 : Shape := ⟨1, ![16384]⟩
abbrev S16384x1 : Shape := ⟨2, ![16384, 1]⟩

abbrev nBuf : Space → Nat
  | .hbm => 25
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .bf16⟩
  | .hbm, ⟨2, _⟩ => ⟨S16384x2048, .f32⟩
  | .hbm, ⟨3, _⟩ => ⟨S1x2048, .f32⟩
  | .hbm, ⟨4, _⟩ => ⟨S16384x5632, .f32⟩
  | .hbm, ⟨5, _⟩ => ⟨S5632x2048, .f32⟩
  | .hbm, ⟨6, _⟩ => ⟨S16384x2048, .f32⟩
  | .hbm, ⟨7, _⟩ => ⟨S2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== InProjRefIdeal.lean ====
abbrev S8x2048x2048 : Shape := ⟨3, ![8, 2048, 2048]⟩
abbrev S1x2048 : Shape := ⟨2, ![1, 2048]⟩
abbrev S1x2048x3904 : Shape := ⟨3, ![1, 2048, 3904]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x3904 : Shape := ⟨2, ![2048, 3904]⟩
abbrev S8x2048x3904 : Shape := ⟨3, ![8, 2048, 3904]⟩
abbrev S16384x3904 : Shape := ⟨2, ![16384, 3904]⟩
abbrev S16384x4096 : Shape := ⟨2, ![16384, 4096]⟩

abbrev nBuf : Space → Nat
  | .hbm => 27
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x3904, .f32⟩
  | .hbm, ⟨3, _⟩ => ⟨S2048, .f32⟩
  | .hbm, ⟨4, _⟩ => ⟨S8x2048x2048, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S1x1x2048, .f32⟩
  | .hbm, ⟨18, _⟩ => ⟨S8x2048x2048, .f32⟩
  | .hbm, ⟨19, _⟩ => ⟨S8x2048x2048, .f32⟩
  | .hbm, ⟨20, _⟩ => ⟨S2048x3904, .f32⟩
  | .hbm, ⟨21, _⟩ => ⟨S8x2048x3904, .f32⟩
  | .hbm, ⟨22, _⟩ => ⟨S8x2048x3904, .bf16⟩
  | .hbm, ⟨23, _⟩ => ⟨S16384x3904, .bf16⟩
  | .hbm, ⟨24, _⟩ => ⟨S_, .i32⟩
  | .hbm, ⟨25, _⟩ => ⟨S_, .bf16⟩
  | .hbm, ⟨26, _⟩ => ⟨S16384x4096, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== OutProjRefIdeal.lean ====
abbrev S16384x1024 : Shape := ⟨2, ![16384, 1024]⟩
abbrev S1x1024 : Shape := ⟨2, ![1, 1024]⟩
abbrev S1x2048x2048 : Shape := ⟨3, ![1, 2048, 2048]⟩
abbrev S8x2048x2048 : Shape := ⟨3, ![8, 2048, 2048]⟩
abbrev S1x2048 : Shape := ⟨2, ![1, 2048]⟩
abbrev S1x5632x2048 : Shape := ⟨3, ![1, 5632, 2048]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x2048 : Shape := ⟨2, ![16384, 2048]⟩
abbrev S2048x2048 : Shape := ⟨2, ![2048, 2048]⟩
abbrev S2048 : Shape := ⟨1, ![2048]⟩
abbrev S5632x2048 : Shape := ⟨2, ![5632, 2048]⟩

abbrev nBuf : Space → Nat
  | .hbm => 87
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x1024, .f32⟩
  | .hbm, ⟨3, _⟩ => ⟨S1x1024, .f32⟩
  | .hbm, ⟨4, _⟩ => ⟨S1x2048x2048, .f32⟩
  | .hbm, ⟨5, _⟩ => ⟨S8x2048x2048, .f32⟩
  | .hbm, ⟨6, _⟩ => ⟨S1x2048, .f32⟩
  | .hbm, ⟨7, _⟩ => ⟨S1x2048, .f32⟩
  | .hbm, ⟨8, _⟩ => ⟨S1x5632x2048, .f32⟩
  | .hbm, ⟨9, _⟩ => ⟨S16384x1024, .f32⟩
  | .hbm, ⟨10, _⟩ => ⟨S1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S16384x2048, .f32⟩
  | .hbm, ⟨46, _⟩ => ⟨S2048x2048, .f32⟩
  | .hbm, ⟨47, _⟩ => ⟨S16384x2048, .f32⟩
  | .hbm, ⟨48, _⟩ => ⟨S16384x2048, .f32⟩
  | .hbm, ⟨49, _⟩ => ⟨S2048, .f32⟩
  | .hbm, ⟨50, _⟩ => ⟨S16384x2048, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1, .f32⟩
  | .hbm, ⟨61, _⟩ => ⟨S16384x2048, .f32⟩
  | .hbm, ⟨62, _⟩ => ⟨S16384x2048, .f32⟩
  | .hbm, ⟨63, _⟩ => ⟨S1x2048, .f32⟩
  | .hbm, ⟨64, _⟩ => ⟨S16384x2048, .f32⟩
  | .hbm, ⟨65, _⟩ => ⟨S16384x2048, .f32⟩
  | .hbm, ⟨66, _⟩ => ⟨S16384x2048, .f32⟩
  | .hbm, ⟨67, _⟩ => ⟨S2048, .f32⟩
  | .hbm, ⟨68, _⟩ => ⟨S16384x2048, .f32⟩
  | .hbm, ⟨69, _⟩ => ⟨S_, .f32⟩
  | .hbm, ⟨70, _⟩ => ⟨S16384, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S16384x1, .f32⟩
  | .hbm, ⟨79, _⟩ => ⟨S16384x2048, .f32⟩
  | .hbm, ⟨80, _⟩ => ⟨S16384x2048, .f32⟩
  | .hbm, ⟨81, _⟩ => ⟨S1x2048, .f32⟩
  | .hbm, ⟨82, _⟩ => ⟨S16384x2048, .f32⟩
  | .hbm, ⟨83, _⟩ => ⟨S16384x2048, .f32⟩
  | .hbm, ⟨84, _⟩ => ⟨S16384x2048, .bf16⟩
  | .hbm, ⟨85, _⟩ => ⟨S5632x2048, .f32⟩
  | .hbm, ⟨86, _⟩ => ⟨S5632x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩

abbrev nD : Nat := 1
abbrev τ : Topo := Topo.v7x

variable {F : FTy → Type} [FloatOps F]
-- ==== QkvRefIdeal.lean ====
abbrev S16384x4096 : Shape := ⟨2, ![16384, 4096]⟩
abbrev S1x512 : Shape := ⟨2, ![1, 512]⟩
abbrev S1x512x1536 : Shape := ⟨3, ![1, 512, 1536]⟩
abbrev S1x256 : Shape := ⟨2, ![1, 256]⟩
abbrev S1x256x2048 : Shape := ⟨3, ![1, 256, 2048]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S8x2048x4096 : Shape := ⟨3, ![8, 2048, 4096]⟩
abbrev S8x2048x512 : Shape := ⟨3, ![8, 2048, 512]⟩
abbrev S8x2048x256 : Shape := ⟨3, ![8, 2048, 256]⟩
abbrev S8x2048x64 : Shape := ⟨3, ![8, 2048, 64]⟩
abbrev S512 : Shape := ⟨1, ![512]⟩
abbrev S8x2048 : Shape := ⟨2, ![8, 2048]⟩
abbrev S8x2048x1 : Shape := ⟨3, ![8, 2048, 1]⟩
abbrev S1x1x512 : Shape := ⟨3, ![1, 1, 512]⟩
abbrev S512x1536 : Shape := ⟨2, ![512, 1536]⟩
abbrev S8x2048x1536 : Shape := ⟨3, ![8, 2048, 1536]⟩
abbrev S8x2048x8x192 : Shape := ⟨4, ![8, 2048, 8, 192]⟩
abbrev S8x2048x8x128 : Shape := ⟨4, ![8, 2048, 8, 128]⟩
abbrev S8x2048x8x64 : Shape := ⟨4, ![8, 2048, 8, 64]⟩
abbrev S256 : Shape := ⟨1, ![256]⟩
abbrev S1x1x256 : Shape := ⟨3, ![1, 1, 256]⟩
abbrev S256x2048 : Shape := ⟨2, ![256, 2048]⟩
abbrev S8x2048x2048 : Shape := ⟨3, ![8, 2048, 2048]⟩
abbrev S8x2048x8x256 : Shape := ⟨4, ![8, 2048, 8, 256]⟩
abbrev S2048x1x64 : Shape := ⟨3, ![2048, 1, 64]⟩
abbrev S8x2048x8x32 : Shape := ⟨4, ![8, 2048, 8, 32]⟩
abbrev S1x2048x1x64 : Shape := ⟨4, ![1, 2048, 1, 64]⟩
abbrev S8x2048x32 : Shape := ⟨3, ![8, 2048, 32]⟩
abbrev S1x2048x64 : Shape := ⟨3, ![1, 2048, 64]⟩
abbrev S8x8x2048x256 : Shape := ⟨4, ![8, 8, 2048, 256]⟩
abbrev S8x8x2048x128 : Shape := ⟨4, ![8, 8, 2048, 128]⟩
abbrev S8x2048x128 : Shape := ⟨3, ![8, 2048, 128]⟩

abbrev nBuf : Space → Nat
  | .hbm => 120
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x512, .f32⟩
  | .hbm, ⟨2, _⟩ => ⟨S1x512x1536, .f32⟩
  | .hbm, ⟨3, _⟩ => ⟨S1x256, .f32⟩
  | .hbm, ⟨4, _⟩ => ⟨S1x256x2048, .f32⟩
  | .hbm, ⟨5, _⟩ => ⟨S2048, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S2048x1, .f32⟩
  | .hbm, ⟨23, _⟩ => ⟨S1x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x64, .f32⟩
  | .hbm, ⟨28, _⟩ => ⟨S2048x64, .f32⟩
  | .hbm, ⟨29, _⟩ => ⟨S2048x64, .f32⟩
  | .hbm, ⟨30, _⟩ => ⟨S16384x4096, .f32⟩
  | .hbm, ⟨31, _⟩ => ⟨S8x2048x4096, .f32⟩
  | .hbm, ⟨32, _⟩ => ⟨S8x2048x512, .f32⟩
  | .hbm, ⟨33, _⟩ => ⟨S8x2048x256, .f32⟩
  | .hbm, ⟨34, _⟩ => ⟨S8x2048x64, .f32⟩
  | .hbm, ⟨35, _⟩ => ⟨S512, .f32⟩
  | .hbm, ⟨36, _⟩ => ⟨S8x2048x512, .f32⟩
  | .hbm, ⟨37, _⟩ => ⟨S_, .f32⟩
  | .hbm, ⟨38, _⟩ => ⟨S8x2048, .f32⟩
  | .hbm, ⟨39, _⟩ => ⟨S8x2048x1, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S_, .f32⟩
  | .hbm, ⟨44, _⟩ => ⟨S8x2048x1, .f32⟩
  | .hbm, ⟨45, _⟩ => ⟨S8x2048x1, .f32⟩
  | .hbm, ⟨46, _⟩ => ⟨S8x2048x1, .f32⟩
  | .hbm, ⟨47, _⟩ => ⟨S8x2048x512, .f32⟩
  | .hbm, ⟨48, _⟩ => ⟨S8x2048x512, .f32⟩
  | .hbm, ⟨49, _⟩ => ⟨S1x1x512, .f32⟩
  | .hbm, ⟨50, _⟩ => ⟨S8x2048x512, .f32⟩
  | .hbm, ⟨51, _⟩ => ⟨S8x2048x512, .f32⟩
  | .hbm, ⟨52, _⟩ => ⟨S512x1536, .f32⟩
  | .hbm, ⟨53, _⟩ => ⟨S8x2048x1536, .f32⟩
  | .hbm, ⟨54, _⟩ => ⟨S8x2048x8x192, .f32⟩
  | .hbm, ⟨55, _⟩ => ⟨S8x2048x8x128, .f32⟩
  | .hbm, ⟨56, _⟩ => ⟨S8x2048x8x64, .f32⟩
  | .hbm, ⟨57, _⟩ => ⟨S256, .f32⟩
  | .hbm, ⟨58, _⟩ => ⟨S8x2048x256, .f32⟩
  | .hbm, ⟨59, _⟩ => ⟨S_, .f32⟩
  | .hbm, ⟨60, _⟩ => ⟨S8x2048, .f32⟩
  | .hbm, ⟨61, _⟩ => ⟨S8x2048x1, .f32⟩
  | .hbm, ⟨62, _⟩ => ⟨S_, .f32⟩
  | .hbm, ⟨63, _⟩ => ⟨S8x2048x1, .f32⟩
  | .hbm, ⟨64, _⟩ => ⟨S8x2048x1, .f32⟩
  | .hbm, ⟨65, _⟩ => ⟨S_, .f32⟩
  | .hbm, ⟨66, _⟩ => ⟨S8x2048x1, .f32⟩
  | .hbm, ⟨67, _⟩ => ⟨S8x2048x1, .f32⟩
  | .hbm, ⟨68, _⟩ => ⟨S8x2048x1, .f32⟩
  | .hbm, ⟨69, _⟩ => ⟨S8x2048x256, .f32⟩
  | .hbm, ⟨70, _⟩ => ⟨S8x2048x256, .f32⟩
  | .hbm, ⟨71, _⟩ => ⟨S1x1x256, .f32⟩
  | .hbm, ⟨72, _⟩ => ⟨S8x2048x256, .f32⟩
  | .hbm, ⟨73, _⟩ => ⟨S8x2048x256, .f32⟩
  | .hbm, ⟨74, _⟩ => ⟨S256x2048, .f32⟩
  | .hbm, ⟨75, _⟩ => ⟨S8x2048x2048, .f32⟩
  | .hbm, ⟨76, _⟩ => ⟨S8x2048x8x256, .f32⟩
  | .hbm, ⟨77, _⟩ => ⟨S8x2048x8x128, .f32⟩
  | .hbm, ⟨78, _⟩ => ⟨S8x2048x8x128, .f32⟩
  | .hbm, ⟨79, _⟩ => ⟨S2048x1x64, .f32⟩
  | .hbm, ⟨80, _⟩ => ⟨S2048x1x64, .f32⟩
  | .hbm, ⟨81, _⟩ => ⟨S8x2048x8x32, .f32⟩
  | .hbm, ⟨82, _⟩ => ⟨S8x2048x8x32, .f32⟩
  | .hbm, ⟨83, _⟩ => ⟨S1x2048x1x64, .f32⟩
  | .hbm, ⟨84, _⟩ => ⟨S8x2048x8x64, .f32⟩
  | .hbm, ⟨85, _⟩ => ⟨S8x2048x8x64, .f32⟩
  | .hbm, ⟨86, _⟩ => ⟨S8x2048x8x32, .f32⟩
  | .hbm, ⟨87, _⟩ => ⟨S8x2048x8x64, .f32⟩
  | .hbm, ⟨88, _⟩ => ⟨S1x2048x1x64, .f32⟩
  | .hbm, ⟨89, _⟩ => ⟨S8x2048x8x64, .f32⟩
  | .hbm, ⟨90, _⟩ => ⟨S8x2048x8x64, .f32⟩
  | .hbm, ⟨91, _⟩ => ⟨S8x2048x8x64, .f32⟩
  | .hbm, ⟨92, _⟩ => ⟨S8x2048x32, .f32⟩
  | .hbm, ⟨93, _⟩ => ⟨S8x2048x32, .f32⟩
  | .hbm, ⟨94, _⟩ => ⟨S1x2048x64, .f32⟩
  | .hbm, ⟨95, _⟩ => ⟨S8x2048x64, .f32⟩
  | .hbm, ⟨96, _⟩ => ⟨S8x2048x64, .f32⟩
  | .hbm, ⟨97, _⟩ => ⟨S8x2048x32, .f32⟩
  | .hbm, ⟨98, _⟩ => ⟨S8x2048x64, .f32⟩
  | .hbm, ⟨99, _⟩ => ⟨S1x2048x64, .f32⟩
  | .hbm, ⟨100, _⟩ => ⟨S8x2048x64, .f32⟩
  | .hbm, ⟨101, _⟩ => ⟨S8x2048x64, .f32⟩
  | .hbm, ⟨102, _⟩ => ⟨S8x2048x64, .f32⟩
  | .hbm, ⟨103, _⟩ => ⟨S8x2048x8x192, .f32⟩
  | .hbm, ⟨104, _⟩ => ⟨S_, .f32⟩
  | .hbm, ⟨105, _⟩ => ⟨S8x2048x8x192, .f32⟩
  | .hbm, ⟨106, _⟩ => ⟨S8x2048x8x192, .f32⟩
  | .hbm, ⟨107, _⟩ => ⟨S_, .i32⟩
  | .hbm, ⟨108, _⟩ => ⟨S_, .f32⟩
  | .hbm, ⟨109, _⟩ => ⟨S8x2048x8x256, .f32⟩
  | .hbm, ⟨110, _⟩ => ⟨S8x8x2048x256, .f32⟩
  | .hbm, ⟨111, _⟩ => ⟨S8x8x2048x256, .bf16⟩
  | .hbm, ⟨112, _⟩ => ⟨S8x8x2048x128, .f32⟩
  | .hbm, ⟨113, _⟩ => ⟨S8x8x2048x128, .bf16⟩
  | .hbm, ⟨114, _⟩ => ⟨S_, .i32⟩
  | .hbm, ⟨115, _⟩ => ⟨S_, .f32⟩
  | .hbm, ⟨116, _⟩ => ⟨S8x2048x128, .f32⟩
  | .hbm, ⟨117, _⟩ => ⟨S8x2048x128, .bf16⟩
  | .hbm, ⟨118, _⟩ => ⟨S8x8x2048x128, .f32⟩
  | .hbm, ⟨119, _⟩ => ⟨S8x8x2048x128, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_cst_10 : Ref sig .tc := ⟨.hbm, 104, rfl⟩
abbrev main_v88 : Ref sig .tc := ⟨.hbm, 105, rfl⟩
abbrev main_v89 : Ref sig .tc := ⟨.hbm, 106, rfl⟩
abbrev main_c : Ref sig .tc := ⟨.hbm, 107, rfl⟩
abbrev main_call0_v0 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_c_11 : Ref sig .tc := ⟨.hbm, 114, rfl⟩
abbrev main_call1_v0 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩

abbrev nD : Nat := 1
abbrev τ : Topo := Topo.v7x

variable {F : FTy → Type} [FloatOps F]
-- ==== Proof.SoftmaxMath.lean ====
/- The arithmetic of a softmax over extended reals: the row maximum, the base-two and base-e exponentials, and dividing
   by the row sum before or after the weighted sum of the values. -/
module

public import Idealize.ShloMosaic.PureOps.Ideal.Laws
public import Idealize.ShloMosaic.Lib.IdealHost

@[expose] public section

noncomputable section

namespace Cert.SoftmaxMath

open Idealize.ShloMosaic

/-- The word of minus infinity denotes the bottom of the extended reals. -/
theorem neg_inf_word : Ideal.ofBits .f32 0xFF800000#32 = ⊥ := by
  simp [Ideal.ofBits, Ideal.ieee]

/-- A nonnegative real factor on the right moves into a sum. -/
theorem sum_mul_real {ι : Type} (S : Finset ι) (f : ι → EReal) (c : ℝ) (hc : 0 ≤ c) :
    (∑ k ∈ S, f k) * (c : EReal) = ∑ k ∈ S, f k * (c : EReal) := by
  classical
  induction S using Finset.induction_on with
  | empty => simp
  | insert a S ha ih =>
    rw [Finset.sum_insert ha, Finset.sum_insert ha, ← ih]
    exact EReal.right_distrib_of_nonneg_of_ne_top (by exact_mod_cast hc) (EReal.coe_ne_top c) _ _

/-- A nonnegative real factor on the left moves into a sum. -/
theorem real_mul_sum {ι : Type} (S : Finset ι) (f : ι → EReal) (c : ℝ) (hc : 0 ≤ c) :
    (c : EReal) * (∑ k ∈ S, f k) = ∑ k ∈ S, (c : EReal) * f k := by
  rw [mul_comm, sum_mul_real S f c hc]
  exact Finset.sum_congr rfl fun k _ => mul_comm _ _

/-- Two to the power of a real is e to the power of its product with the logarithm of two. -/
theorem exp2_real (r : ℝ) : Ideal.exp2 (r : EReal) = Ideal.exp ((r * Real.log 2 : ℝ) : EReal) := by
  show ((Real.rpow 2 r : ℝ) : EReal) = ((Real.exp (r * Real.log 2) : ℝ) : EReal)
  have h : Real.rpow 2 r = Real.exp (Real.log 2 * r) := Real.rpow_def_of_pos (by norm_num) r
  rw [h, mul_comm]

/-- The maximum of the scores of one row, starting from minus infinity. -/
def rowMax {n : ℕ} (s : Fin n → EReal) : EReal :=
  Finset.univ.fold max (Ideal.ofBits .f32 0xFF800000#32) s

/-- One row of attention with the weights in base two and one division at the end. -/
def attExp2 {n : ℕ} (s v : Fin n → EReal) : EReal :=
  Ideal.div (∑ k, Ideal.exp2 (s k - rowMax s) * v k) (∑ k, Ideal.exp2 (s k - rowMax s))

/-- One row of attention as a softmax in base e of the scores times `c`, each weight divided by the row sum. -/
def attExp {n : ℕ} (c : EReal) (s v : Fin n → EReal) : EReal :=
  ∑ k, Ideal.div (Ideal.exp (s k * c - max (Ideal.ofBits .f32 0xFF800000#32) (rowMax fun k => s k * c)))
      (0 + ∑ l, Ideal.exp (s l * c - max (Ideal.ofBits .f32 0xFF800000#32) (rowMax fun k => s k * c))) * v k

/-- The maximum of a nonempty row of reals is one of reals. -/
theorem rowMax_real {n : ℕ} (hn : 0 < n) (f : Fin n → ℝ) : ∃ μ : ℝ, rowMax (fun k => (f k : EReal)) = (μ : EReal) := by
  have htop : rowMax (fun k => (f k : EReal)) < ⊤ := by
    unfold rowMax
    rw [Finset.fold_max_lt, neg_inf_word]
    exact ⟨bot_lt_top, fun k _ => EReal.coe_lt_top _⟩
  have hbot : ⊥ < rowMax (fun k => (f k : EReal)) := by
    refine lt_of_lt_of_le (EReal.bot_lt_coe (f ⟨0, hn⟩)) ?_
    unfold rowMax
    rw [Finset.le_fold_max]
    exact Or.inr ⟨⟨0, hn⟩, Finset.mem_univ _, le_rfl⟩
  exact ⟨_, (EReal.coe_toReal htop.ne hbot.ne').symm⟩

/-- A positive real factor commutes with the maximum of two extended reals. -/
theorem max_mul_real (c : ℝ) (hc : 0 < c) (x y : EReal) : max x y * (c : EReal) = max (x * (c : EReal)) (y * (c : EReal)) := by
  have mono : Monotone fun x : EReal => x * (c : EReal) := fun a b h =>
    mul_le_mul_of_nonneg_right h (by exact_mod_cast hc.le)
  exact mono.map_max

/-- A positive real factor commutes with the row maximum. -/
theorem rowMax_mul {n : ℕ} (c : ℝ) (hc : 0 < c) (s : Fin n → EReal) :
    rowMax (fun k => s k * (c : EReal)) = rowMax s * (c : EReal) := by
  unfold rowMax
  rw [neg_inf_word]
  have h := Finset.fold_hom (s := (Finset.univ : Finset (Fin n))) (op := max) (op' := max) (f := s) (b := (⊥ : EReal))
    (m := fun x : EReal => x * (c : EReal)) (fun x y => max_mul_real c hc x y)
  rw [← h, EReal.bot_mul_of_pos (by exact_mod_cast hc)]

/-- On a row of real scores the two ways of computing attention agree, whatever the values are. -/
theorem attExp2_eq {n : ℕ} (hn : 0 < n) (f : Fin n → ℝ) (v : Fin n → EReal) :
    attExp2 (fun k => (f k : EReal)) v = attExp ((Real.log 2 : ℝ) : EReal) (fun k => (f k : EReal)) v := by
  have hlog : 0 < Real.log 2 := Real.log_pos (by norm_num)
  obtain ⟨μ, hμ⟩ := rowMax_real hn f
  unfold attExp2 attExp
  rw [rowMax_mul _ hlog, hμ, neg_inf_word, zero_add, max_eq_right bot_le]
  have hw : ∀ k, Ideal.exp ((f k : EReal) * ((Real.log 2 : ℝ) : EReal) - (μ : EReal) * ((Real.log 2 : ℝ) : EReal))
      = Ideal.exp2 ((f k : EReal) - (μ : EReal)) := by
    intro k
    rw [← EReal.coe_sub, exp2_real, ← EReal.coe_mul, ← EReal.coe_mul, ← EReal.coe_sub, sub_mul]
  simp only [hw]
  have hr : ∀ k, Ideal.exp2 ((f k : EReal) - (μ : EReal)) = ((Real.rpow 2 (f k - μ) : ℝ) : EReal) := by
    intro k
    rw [← EReal.coe_sub]
    rfl
  simp only [hr]
  have hsum : ∑ k : Fin n, ((Real.rpow 2 (f k - μ) : ℝ) : EReal) = ((∑ k : Fin n, Real.rpow 2 (f k - μ) : ℝ) : EReal) := by
    induction (Finset.univ : Finset (Fin n)) using Finset.induction_on with
    | empty => simp
    | insert a S ha ih => rw [Finset.sum_insert ha, Finset.sum_insert ha, ih, EReal.coe_add]
  have hpos : 0 < ∑ k : Fin n, Real.rpow 2 (f k - μ) :=
    Finset.sum_pos (fun k _ => Real.rpow_pos_of_pos (by norm_num) _) ⟨⟨0, hn⟩, Finset.mem_univ _⟩
  rw [hsum]
  generalize (∑ k : Fin n, Real.rpow 2 (f k - μ)) = L at hpos
  simp only [Ideal.div_coe hpos.ne']
  rw [sum_mul_real _ _ _ (one_div_pos.mpr hpos).le]
  refine Finset.sum_congr rfl fun k _ => ?_
  rw [mul_assoc, mul_assoc, mul_comm (v k)]

/-- A sum of products of reals is a real. -/
theorem dot_real {n : ℕ} (a b : Fin n → EReal) (ha : ∀ k, ∃ r : ℝ, a k = (r : EReal)) (hb : ∀ k, ∃ r : ℝ, b k = (r : EReal)) :
    ∃ r : ℝ, ∑ k, a k * b k = (r : EReal) := by
  induction (Finset.univ : Finset (Fin n)) using Finset.induction_on with
  | empty => exact ⟨0, by simp⟩
  | insert i S hi ih =>
    obtain ⟨r, hr⟩ := ih
    obtain ⟨x, hx⟩ := ha i
    obtain ⟨y, hy⟩ := hb i
    exact ⟨x * y + r, by rw [Finset.sum_insert hi, hr, hx, hy, EReal.coe_add, EReal.coe_mul]⟩

/-- On a row whose scores are all real the two ways of computing attention agree. -/
theorem attExp2_eq_attExp {n : ℕ} (hn : 0 < n) (s v : Fin n → EReal) (hs : ∀ k, ∃ r : ℝ, s k = (r : EReal)) :
    attExp2 s v = attExp ((Real.log 2 : ℝ) : EReal) s v := by
  choose f hf using hs
  obtain rfl : s = fun k => (f k : EReal) := funext hf
  exact attExp2_eq hn f v

end Cert.SoftmaxMath

end
-- ==== Proof.AttnPre.lean ====
/- What the precondition of the attention says: every query and key element is a real number. -/
module

public import proofs.«01_k».proof.Proof.SoftmaxMath
public import proofs.«01_k».proof.Proof.Gen.KernelIdeal.Frame
public import Idealize.ShloMosaic.Lib.Pipeline.ValueKit
public import Idealize.ShloMosaic.Lib.ReduceAll
public import proofs.«01_k».proof.Pre_finite_queries_and_keys

@[expose] public section

set_option maxRecDepth 16384

noncomputable section

namespace Cert.AttnPre

open Cert.SoftmaxMath
open Idealize.ShloMosaic Idealize.ShloMosaic.TcCoe Idealize.SL.Sem

/-- The word of infinity. -/
theorem inf_word : Ideal.ofBits .f32 0x7F800000#32 = ⊤ := by
  simp [Ideal.ofBits, Ideal.ieee]

/-- A value whose magnitude is below infinity is a real number. -/
theorem real_of_abs_lt (x : EReal) (h : Ideal.cmp .olt (max x (-x)) (Ideal.ofBits .f32 0x7F800000#32) = 1#1) :
    ∃ r : ℝ, x = r := by
  rw [inf_word] at h
  induction x using EReal.rec with
  | bot => simp [Ideal.cmp] at h
  | coe r => exact ⟨r, rfl⟩
  | top => simp [Ideal.cmp] at h

open Cert.Pre_finite_queries_and_keys in
/-- Where the precondition holds, queries and both parts of the keys are real throughout. -/
theorem real_of_pre [Facts] (q : FVec Ideal S8x8x2048x256 .bf16) (k : FVec Ideal S8x8x2048x128 .bf16)
    (kro : FVec Ideal S8x2048x128 .bf16) (v : FVec Ideal S8x8x2048x128 .bf16) (h : fn (F := Ideal) q k kro v = fun _ => 1#1) :
    (∀ i, ∃ x : ℝ, q i = x) ∧ (∀ i, ∃ x : ℝ, k i = x) ∧ (∀ i, ∃ x : ℝ, kro i = x) := by
  have h0 := congrFun h ix0
  unfold fn at h0
  obtain ⟨h1, hr⟩ := IntOp.andi_eq_one.1 h0
  obtain ⟨hq, hk⟩ := IntOp.andi_eq_one.1 h1
  haveI : Subsingleton S_.Idx := ⟨fun a b => funext fun x => x.elim0⟩
  refine ⟨fun i => real_of_abs_lt _ ?_, fun i => real_of_abs_lt _ ?_, fun i => real_of_abs_lt _ ?_⟩
  · exact Host.reduce_andi_all _ _ _ _ _ hq i
  · exact Host.reduce_andi_all _ _ _ _ _ hk i
  · exact Host.reduce_andi_all _ _ _ _ _ hr i

end Cert.AttnPre

end
-- ==== Proof.AttnPreFacts.lean ====
/- The side conditions of the attention's precondition. -/
module

public import proofs.«01_k».proof.Proof.AttnPre

@[expose] public section

set_option maxRecDepth 16384

noncomputable section

namespace Cert.AttnPreFacts

open Cert.Pre_finite_queries_and_keys
open Idealize.ShloMosaic Idealize.ShloMosaic.TcCoe Idealize.SL.Sem

/-- The precondition's shapes and formats fit together. -/
instance facts : Cert.Pre_finite_queries_and_keys.Facts where
  bitsLt_bf16_f32 := by decide
  bcast_S_S8x8x2048x256 := by decide
  reducesTo_S8x8x2048x256_S_d0_1_2_3 := by decide
  h_S_ := by decide
  bcast_S_S8x8x2048x128 := by decide
  reducesTo_S8x8x2048x128_S_d0_1_2_3 := by decide
  bcast_S_S8x2048x128 := by decide
  reducesTo_S8x2048x128_S_d0_1_2 := by decide

end Cert.AttnPreFacts

end
-- ==== Proof.AttnBlock.lean ====
/- One block of the attention call: what a chunk of 256 query rows computes from the keys and values of one head. -/
module

public import proofs.«01_k».proof.Proof.Gen.KernelIdeal.Frame
public import proofs.«01_k».proof.Proof.SoftmaxMath
public import Idealize.ShloMosaic.Lib.Pipeline.ValueKit

@[expose] public section

set_option maxRecDepth 16384

noncomputable section

namespace Cert.AttnBlock

open Cert.KernelIdeal Cert.KernelIdeal.Gen Cert.SoftmaxMath
open Idealize.ShloMosaic Idealize.ShloMosaic.TcCoe Idealize.SL.Sem

/-- The scores of a chunk of queries against the keys of one head. -/
def scores (q : FVec Ideal S1x1x256x256 .bf16) (keys : FVec Ideal S2048x256 .bf16) : FVec Ideal S256x2048 .f32 :=
  k0_pay10 keys q

/-- A chunk of the result from its scores and the values of the head. -/
def weigh (s : FVec Ideal S256x2048 .f32) (v : FVec Ideal S1x1x2048x128 .bf16) : FVec Ideal S1x256x128 .bf16 :=
  k0_pay9 s v

/-- The scores read at an index: the inner product of a query and a key. -/
theorem scores_at (q : FVec Ideal S1x1x256x256 .bf16) (keys : FVec Ideal S2048x256 .bf16) (r : Fin 256) (k : Fin 2048) :
    scores q keys (ix2 r k) = ∑ d : Fin 256, q (ix4 0 0 r d) * keys (ix2 k d) := by
  pointwise [scores, k0_pay10]

/-- A chunk of the result read at an index: one row of attention in base two. -/
theorem weigh_at (s : FVec Ideal S256x2048 .f32) (v : FVec Ideal S1x1x2048x128 .bf16) (r : Fin 256) (c : Fin 128) :
    weigh s v (ix3 0 r c) = attExp2 (fun k : Fin 2048 => s (ix2 r k)) (fun k => v (ix4 0 0 k c)) := by
  unfold attExp2 rowMax
  pointwise [weigh, k0_pay9]
  rfl

/-- The keys of one head, their positions' part beside: read at an index. -/
theorem keys_at (k : FVec Ideal S1x1x2048x128 .bf16) (kro : FVec Ideal S1x2048x128 .bf16) (j : Fin 2048) (d : Fin 256) :
    k0_pay2 k kro (ix2 j d) = if h : d.val < 128 then k (ix4 0 0 j ⟨d.val, h⟩) else kro (ix3 0 j ⟨d.val - 128, by omega⟩) := by
  pointwise [k0_pay2]

/-- What a grid point leaves at an index of its block: columns are two heads of 128 lanes, rows are the queries. -/
def point (x0 : FVec Ideal S1x2x2048x256 .bf16) (x1 : FVec Ideal S1x2x2048x128 .bf16) (x2 : FVec Ideal S1x2048x128 .bf16)
    (x3 : FVec Ideal S1x2x2048x128 .bf16) (h : Fin 2) (r : Fin 2048) (c : Fin 128) : EReal :=
  attExp2
    (fun k : Fin 2048 => ∑ d : Fin 256, x0 (ix4 0 h r d)
      * (if hd : d.val < 128 then x1 (ix4 0 h k ⟨d.val, hd⟩) else x2 (ix3 0 k ⟨d.val - 128, by omega⟩)))
    (fun k => x3 (ix4 0 h k c))

/-- A chunk of one head, from loads that are the chunk's queries and the head's keys and values, is the point's row. -/
theorem chunk_at (x0 : FVec Ideal S1x2x2048x256 .bf16) (x1 : FVec Ideal S1x2x2048x128 .bf16) (x2 : FVec Ideal S1x2048x128 .bf16)
    (x3 : FVec Ideal S1x2x2048x128 .bf16) (h : Fin 2) (q : FVec Ideal S1x1x256x256 .bf16) (k : FVec Ideal S1x1x2048x128 .bf16)
    (kro : FVec Ideal S1x2048x128 .bf16) (v : FVec Ideal S1x1x2048x128 .bf16) (r : Fin 256) (r' : Fin 2048) (c : Fin 128)
    (hq : ∀ d : Fin 256, q (ix4 0 0 r d) = x0 (ix4 0 h r' d))
    (hk : ∀ (j : Fin 2048) (d : Fin 128), k (ix4 0 0 j d) = x1 (ix4 0 h j d))
    (hr : ∀ (j : Fin 2048) (d : Fin 128), kro (ix3 0 j d) = x2 (ix3 0 j d))
    (hv : ∀ (j : Fin 2048) (d : Fin 128), v (ix4 0 0 j d) = x3 (ix4 0 h j d)) :
    weigh (scores q (k0_pay2 k kro)) v (ix3 0 r c) = point x0 x1 x2 x3 h r' c := by
  rw [weigh_at]
  unfold point
  simp only [scores_at, keys_at, hq, hk, hr, hv]

end Cert.AttnBlock

end
-- ==== Proof.AttnPoint.lean ====
/- What one grid point of the attention call leaves in its block, whole: sixteen chunks, eight of each of two heads. -/
module

public import proofs.«01_k».proof.Proof.AttnBlock

@[expose] public section

set_option maxRecDepth 16384

noncomputable section

namespace Cert.AttnPoint

open Cert.KernelIdeal Cert.KernelIdeal.Gen Cert.SoftmaxMath Cert.AttnBlock
open Idealize.ShloMosaic Idealize.ShloMosaic.TcCoe Idealize.SL.Sem

/-- The block a grid point leaves, at an index: the head is the column over 128, the lane the rest. -/
theorem out_at (x0 : FVec Ideal S1x2x2048x256 .bf16) (x1 : FVec Ideal S1x2x2048x128 .bf16) (x2 : FVec Ideal S1x2048x128 .bf16)
    (x3 : FVec Ideal S1x2x2048x128 .bf16) (y : S1x2048x256.Idx) (h : Fin 2) (r : Fin 2048) (c : Fin 128)
    (hr : (y 1).val = r.val) (hc : (y 2).val = h.val * 128 + c.val) :
    out0_4 (F := Ideal) x0 x1 x2 x3 y = point x0 x1 x2 x3 h r c := by
  unfold out0_4
  canon_tiles x e
  all_goals
    obtain ⟨z, xr, xc, rfl⟩ : ∃ (z : Fin 1) (xr : Fin 256) (xc : Fin 128), x = ix3 z xr xc := ⟨x 0, x 1, x 2, eq_ix3 x⟩
    obtain rfl : z = 0 := Subsingleton.elim _ _
    simp only [ix3_1, ix3_2] at e1 e2
    obtain rfl : c = xc := Fin.ext (by have := xc.isLt; have := c.isLt; omega)
    refine chunk_at x0 x1 x2 x3 h _ _ _ _ xr r c (fun d => ?_) (fun j d => ?_) (fun j d => ?_) (fun j d => ?_)
    all_goals pointwise
    all_goals blk_ext

end Cert.AttnPoint

end
-- ==== Proof.AttnArray.lean ====
/- What the attention call's result array holds after the run. -/
module

public import proofs.«01_k».proof.Proof.AttnPoint

@[expose] public section

set_option maxRecDepth 16384

noncomputable section

namespace Cert.AttnArray

open Cert.KernelIdeal Cert.KernelIdeal.Gen Cert.SoftmaxMath Cert.AttnBlock Cert.AttnPoint
open Idealize.ShloMosaic Idealize.ShloMosaic.TcCoe Idealize.SL.Sem

/-- The score of query `r` against key `j` in head `h` of batch `b`: the key's last 128 lanes are the shared positions' part. -/
def score (q : FVec Ideal S8x8x2048x256 .bf16) (k : FVec Ideal S8x8x2048x128 .bf16) (kro : FVec Ideal S8x2048x128 .bf16)
    (b h : Fin 8) (r j : Fin 2048) : EReal :=
  ∑ d : Fin 256, q (ix4 b h r d)
    * (if hd : d.val < 128 then k (ix4 b h j ⟨d.val, hd⟩) else kro (ix3 b j ⟨d.val - 128, by omega⟩))

/-- The whole result: attention in base two, row by row, the heads side by side along the columns. -/
def attended (q : FVec Ideal S8x8x2048x256 .bf16) (k : FVec Ideal S8x8x2048x128 .bf16) (kro : FVec Ideal S8x2048x128 .bf16)
    (v : FVec Ideal S8x8x2048x128 .bf16) : FVec Ideal S8x2048x1024 .bf16 := fun i =>
  attExp2 (fun j : Fin 2048 => score q k kro (i 0) ⟨(i 2).val / 128, by have : (i 2).val < 1024 := (i 2).isLt; omega⟩ (i 1) j)
    (fun j => v (ix4 (i 0) ⟨(i 2).val / 128, by have : (i 2).val < 1024 := (i 2).isLt; omega⟩ j ⟨(i 2).val % 128, by omega⟩))

/-- The block of each window at a grid point: four head pairs of each batch, one after the other. -/
theorem idx : ∀ t : Fin cfg0.N, win0_0.index t = ![t.val / 4, t.val % 4, 0, 0] ∧ win0_1.index t = ![t.val / 4, t.val % 4, 0, 0]
    ∧ win0_2.index t = ![t.val / 4, 0, 0] ∧ win0_3.index t = ![t.val / 4, t.val % 4, 0, 0]
    ∧ win0_4.index t = ![t.val / 4, 0, t.val % 4] ∧ t.val < 32 :=
  (by decide +kernel : ∀ t : Fin grid0.N, _)

variable (m : (ℓ : Loc nD τ sig) → Buf (Elt Ideal) ℓ)

/-- The block a grid point leaves is the block of the whole result there. -/
theorem point_eq (c : Dev nD) (t : Fin cfg0.N) (y : S1x2048x256.Idx) :
    out0_4 (F := Ideal) (iblk m c 0 t) (iblk m c 1 t) (iblk m c 2 t) (iblk m c 3 t) y
      = attended (m ((c : Thread nD τ).loc main_arg0)) (m ((c : Thread nD τ).loc main_arg1)) (m ((c : Thread nD τ).loc main_arg2))
          (m ((c : Thread nD τ).loc main_arg3)) (((cfg0.win 4).blk t).view.emb y) := by
  have h1 : (y 1).val < 2048 := (y 1).isLt
  have h2 : (y 2).val < 256 := (y 2).isLt
  refine (out_at _ _ _ _ y ⟨(y 2).val / 128, by omega⟩ ⟨(y 1).val, h1⟩ ⟨(y 2).val % 128, by omega⟩ rfl
    (by show (y 2).val = (y 2).val / 128 * 128 + (y 2).val % 128; omega)).trans ?_
  unfold point attended score
  congr 1
  · funext j
    refine Finset.sum_congr rfl fun d _ => ?_
    congr 1
    · blk_ext [iblk, V, idx t]
    · split
      · blk_ext [iblk, V, idx t]
      · blk_ext [iblk, V, idx t]
  · funext j
    blk_ext [iblk, V, idx t]

/-- The result array after the run is the whole result. -/
theorem final (c : Dev nD) : (dats m 0 c).arrAt 4 cfg0.N
    = attended (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t _ y => ?_
  blk_simp
  rw [after0_4]
  exact point_eq m c t y

end Cert.AttnArray

end
-- ==== Proof.AttnScores.lean ====
/- The scores of the attention's reference, and their maximum along a row. -/
module

public import proofs.«01_k».proof.Proof.AttnArray
public import proofs.«01_k».proof.Proof.Gen.ReferenceIdeal.Read

@[expose] public section

set_option maxRecDepth 16384

noncomputable section

namespace Cert.AttnScores

open Cert.ReferenceIdeal Cert.ReferenceIdeal.Gen Cert.ReferenceIdeal.Read Cert.SoftmaxMath Cert.AttnArray
open Idealize.ShloMosaic Idealize.ShloMosaic.TcCoe Idealize.SL.Sem

variable (q : FVec Ideal S8x8x2048x256 .bf16) (k : FVec Ideal S8x8x2048x128 .bf16) (kro : FVec Ideal S8x2048x128 .bf16)
variable (v : FVec Ideal S8x8x2048x128 .bf16)

/-- The reference's scores, before the factor log 2: the same inner products. -/
theorem scores_at (b h : Fin 8) (r j : Fin 2048) :
    val_main_v6 (F := Ideal) q k kro (ix4 b h r j) = score q k kro b h r j := by
  pointwise [val_main_v6, val_main_v5, val_main_v4, val_main_v3, val_main_v2, val_main_v1, val_main_v0, score]

/-- The word of the constant two. -/
theorem two_word : Ideal.ofBits .f32 0x40000000#32 = ((2 : ℝ) : EReal) := by
  simp [Ideal.ofBits, Ideal.ieee, -EReal.coe_mul]; norm_num

/-- The logarithm of two is the real one. -/
theorem log_two : Ideal.log ((2 : ℝ) : EReal) = ((Real.log 2 : ℝ) : EReal) := by
  show (if (2 : ℝ) ≤ 0 then (⊥ : EReal) else ((Real.log 2 : ℝ) : EReal)) = _
  rw [if_neg (by norm_num)]

/-- The scores times log 2. -/
theorem scaled_at (b h : Fin 8) (r j : Fin 2048) :
    val_main_v9 (F := Ideal) q k kro (ix4 b h r j) = score q k kro b h r j * ((Real.log 2 : ℝ) : EReal) := by
  rw [← scores_at]
  pointwise [val_main_v9, val_main_v8, val_main_v7, val_main_cst]
  rw [two_word, log_two]

/-- A maximum along the last of four axes from minus infinity, read at an index of the other three. -/
theorem reduce_max_last {n0 n1 n2 n3 : Nat} {u : Shape} (hh : (⟨4, ![n0, n1, n2, n3]⟩ : Shape).ReducesTo [3] ⟨3, ![n0, n1, n2]⟩)
    (hu : 0 < u.numel) (x : FVec Ideal ⟨4, ![n0, n1, n2, n3]⟩ .f32) (a : Fin n0) (b : Fin n1) (c : Fin n2) :
    Host.reduce (FloatOps.maximumf (F := Ideal) (φ := .f32)) x (constant (F := Ideal) u .f32 0xFF800000#32) hh hu (ix3 a b c)
      = rowMax fun k : Fin n3 => x (ix4 a b c k) := by
  rw [Host.reduce_eq_fold]
  exact Shape.ReducesTo.fold_fiber_r4_a3 hh (ix3 a b c) max _ x

/-- The largest scaled score of a row. -/
theorem fold_at (b h : Fin 8) (r : Fin 2048) :
    val_main_v10 (F := Ideal) q k kro (ix3 b h r)
      = rowMax fun j : Fin 2048 => score q k kro b h r j * ((Real.log 2 : ℝ) : EReal) := by
  have e : (fun j : Fin 2048 => score q k kro b h r j * ((Real.log 2 : ℝ) : EReal))
      = fun j => val_main_v9 (F := Ideal) q k kro (ix4 b h r j) := funext fun j => (scaled_at q k kro b h r j).symm
  rw [e]
  unfold val_main_v10 val_main_cst_0
  generalize val_main_v9 (F := Ideal) q k kro = x
  exact reduce_max_last _ _ x b h r

/-- The row maximum the softmax subtracts. -/
theorem max_at (b h : Fin 8) (r : Fin 2048) :
    val_main_v12 (F := Ideal) q k kro (ix3 b h r) = max (Ideal.ofBits .f32 0xFF800000#32)
      (rowMax fun j : Fin 2048 => score q k kro b h r j * ((Real.log 2 : ℝ) : EReal)) := by
  rw [← fold_at]
  rw [val_main_v12_apply]
  generalize val_main_v10 (F := Ideal) q k kro (ix3 b h r) = x
  rw [val_main_v11_apply, val_main_cst_1_apply]
  rfl

end Cert.AttnScores

end
-- ==== Proof.AttnRef.lean ====
/- What the reference of the attention call computes, and that it is the kernel's result where queries and keys are real. -/
module

public import proofs.«01_k».proof.Proof.AttnScores

@[expose] public section

set_option maxRecDepth 16384

noncomputable section

namespace Cert.AttnRef

open Cert.ReferenceIdeal Cert.ReferenceIdeal.Gen Cert.ReferenceIdeal.Read Cert.SoftmaxMath Cert.AttnArray Cert.AttnScores
open Idealize.ShloMosaic Idealize.ShloMosaic.TcCoe Idealize.SL.Sem

variable (q : FVec Ideal S8x8x2048x256 .bf16) (k : FVec Ideal S8x8x2048x128 .bf16) (kro : FVec Ideal S8x2048x128 .bf16)
variable (v : FVec Ideal S8x8x2048x128 .bf16)

/-- The exponential of a scaled score less its row's maximum. -/
theorem exp_at (b h : Fin 8) (r j : Fin 2048) :
    val_main_v16 (F := Ideal) q k kro (ix4 b h r j)
      = Ideal.exp (score q k kro b h r j * ((Real.log 2 : ℝ) : EReal) - max (Ideal.ofBits .f32 0xFF800000#32)
        (rowMax fun j : Fin 2048 => score q k kro b h r j * ((Real.log 2 : ℝ) : EReal))) := by
  rw [← max_at, ← scaled_at]
  pointwise [val_main_v16, val_main_v15, val_main_v14, val_main_v13]

/-- The row sum of the exponentials. -/
theorem sum_at (b h : Fin 8) (r : Fin 2048) :
    val_main_v17 (F := Ideal) q k kro (ix3 b h r) = ∑ j : Fin 2048, val_main_v16 (F := Ideal) q k kro (ix4 b h r j) := by
  pointwise [val_main_v17, val_main_cst_2]

/-- The softmax's weights. -/
theorem weight_at (b h : Fin 8) (r j : Fin 2048) :
    val_main_v22 (F := Ideal) q k kro (ix4 b h r j)
      = Ideal.div (val_main_v16 (F := Ideal) q k kro (ix4 b h r j)) (val_main_v17 (F := Ideal) q k kro (ix3 b h r)) := by
  pointwise [val_main_v22, val_main_v21, val_main_v20, val_main_v19, val_main_v18]

/-- The weighted sum of the values. -/
theorem sum_values_at (b h : Fin 8) (r : Fin 2048) (c : Fin 128) :
    val_main_v24 (F := Ideal) q k kro v (ix4 b h c r)
      = attExp ((Real.log 2 : ℝ) : EReal) (fun j : Fin 2048 => score q k kro b h r j) (fun j => v (ix4 b h j c)) := by
  unfold attExp
  have e : val_main_v24 (F := Ideal) q k kro v (ix4 b h c r)
      = ∑ j : Fin 2048, v (ix4 b h j c) * val_main_v22 (F := Ideal) q k kro (ix4 b h r j) := by
    pointwise [val_main_v24, val_main_v23]
  rw [e]
  refine Finset.sum_congr rfl fun j _ => ?_
  rw [mul_comm, weight_at, sum_at, zero_add]
  simp only [exp_at]

/-- The reference's result, its heads side by side along the columns. -/
theorem result_at (i : S8x2048x1024.Idx) (b h : Fin 8) (r : Fin 2048) (c : Fin 128)
    (hb : (i 0).val = b.val) (hr : (i 1).val = r.val) (hc : (i 2).val = h.val * 128 + c.val) :
    val_main_v27 (F := Ideal) q k kro v i = val_main_v24 (F := Ideal) q k kro v (ix4 b h c r) := by
  pointwise [val_main_v27, val_main_v26, val_main_v25]
  blk_ext

/-- A score of real queries and keys is real. -/
theorem score_real (hq : ∀ i, ∃ x : ℝ, q i = x) (hk : ∀ i, ∃ x : ℝ, k i = x) (hr : ∀ i, ∃ x : ℝ, kro i = x)
    (b h : Fin 8) (r j : Fin 2048) : ∃ x : ℝ, score q k kro b h r j = x := by
  refine dot_real _ _ (fun d => hq _) fun d => ?_
  by_cases hd : d.val < 128
  · simp only [hd, dif_pos]; exact hk _
  · simp only [hd, dif_neg, not_false_eq_true]; exact hr _

/-- The kernel's result is the reference's, where queries and keys are real. -/
theorem attended_eq (hq : ∀ i, ∃ x : ℝ, q i = x) (hk : ∀ i, ∃ x : ℝ, k i = x) (hr : ∀ i, ∃ x : ℝ, kro i = x) :
    attended q k kro v = val_main_v27 (F := Ideal) q k kro v := by
  funext i
  have h2 : (i 2).val < 1024 := (i 2).isLt
  refine Eq.trans ?_ (result_at q k kro v i (i 0) ⟨(i 2).val / 128, by omega⟩ (i 1) ⟨(i 2).val % 128, by omega⟩ rfl rfl
    (by show (i 2).val = (i 2).val / 128 * 128 + (i 2).val % 128; omega)).symm
  refine Eq.trans ?_ (sum_values_at q k kro v _ _ _ _).symm
  exact attExp2_eq_attExp (by decide) _ _ fun j => score_real q k kro hq hk hr _ _ _ _

end Cert.AttnRef

end
-- ==== Proof.AttnClaim.lean ====
/- The attention's value claim: on finite queries and keys the kernel's array is the reference's. -/
module

public import proofs.«01_k».proof.Defs
public import proofs.«01_k».proof.Proof.AttnArray
public import proofs.«01_k».proof.Proof.AttnRef
public import proofs.«01_k».proof.Proof.AttnPreFacts
public import proofs.«01_k».proof.Proof.Gen.KernelIdeal.Value
public import proofs.«01_k».proof.Proof.Gen.ReferenceIdeal.Run

@[expose] public section

set_option maxRecDepth 16384

noncomputable section

namespace Cert.AttnClaim

open Cert
open Idealize.ShloMosaic Idealize.ShloMosaic.TcCoe Idealize.SL.Sem

/-- From memories agreeing on the arguments the attention and its reference end with one array. -/
theorem equal : algebraic_KernelIdeal_ReferenceIdeal_pre_finite_queries_and_keys := by
  intro m ρ m' ρ' hpre hag
  refine ⟨fun c => AttnArray.attended (m ((c.tc : Thread KernelIdeal.nD KernelIdeal.τ).loc KernelIdeal.main_arg0))
    (m ((c.tc : Thread KernelIdeal.nD KernelIdeal.τ).loc KernelIdeal.main_arg1))
    (m ((c.tc : Thread KernelIdeal.nD KernelIdeal.τ).loc KernelIdeal.main_arg2))
    (m ((c.tc : Thread KernelIdeal.nD KernelIdeal.τ).loc KernelIdeal.main_arg3)), ?_, ?_⟩
  · exact (θ_run _ _ _).mono (fun r h c => ⟨(h c).1.trans (AttnArray.final m c), (h c).2⟩) (KernelIdeal.Value.run_blocks m ρ)
  · refine (θ_run _ _ _).mono (fun r h c => ⟨((h c).1.trans (ReferenceIdeal.Read.val_main_v27_eq m' c)).trans ?_, (h c).2⟩)
      (ReferenceIdeal.Value.run m' ρ')
    obtain ⟨hq, hk, hr⟩ := AttnPre.real_of_pre _ _ _ _ (hpre c)
    rw [(hag c).1, (hag c).2.1, (hag c).2.2.1, (hag c).2.2.2]
    exact (AttnRef.attended_eq _ _ _ _ hq hk hr).symm

end Cert.AttnClaim

end
-- ==== Proof.UpBlock.lean ====
/- What one grid point of the up projection computes from its loads: two chunks of 1024 rows, each the gate with its short convolution over the rows, times the up product. -/
module

public import proofs.«01_k».proof.Proof.Gen.FfnUpIdeal.Frame
public import Idealize.ShloMosaic.Lib.Pipeline.ValueKit
public import Idealize.ShloMosaic.Lib.WordCmp

@[expose] public section

set_option maxRecDepth 16384

noncomputable section

namespace Cert.UpBlock

open Cert.FfnUpIdeal Cert.FfnUpIdeal.Gen
open Idealize.ShloMosaic Idealize.ShloMosaic.TcCoe Idealize.SL.Sem

/-- A column of 2048 entries with a zero before the first and after the last, counted from the leading zero. -/
def padded (g : Fin 2048 → EReal) (n : ℕ) : EReal := if h : 1 ≤ n ∧ n < 2049 then g ⟨n - 1, by omega⟩ else 0

/-- Within the column. -/
theorem padded_in (g : Fin 2048 → EReal) (n : ℕ) (r : Fin 2048) (h : n = r.val + 1) : padded g n = g r := by
  subst h
  unfold padded
  rw [dif_pos ⟨by omega, by omega⟩]
  rfl

/-- Before the column. -/
theorem padded_zero (g : Fin 2048 → EReal) : padded g 0 = 0 := rfl

/-- After the column. -/
theorem padded_last (g : Fin 2048 → EReal) (n : ℕ) (h : n = 2049) : padded g n = 0 := by
  unfold padded
  rw [dif_neg (by omega)]

/-- The gate's convolution at one row: the row before, the row, the row after, their three taps and the bias. -/
def conv (p x n w0 w1 w2 b : EReal) : EReal := p * w0 + x * w1 + n * w2 + b

/-- The gated product: the gelu of `g` times `u`. -/
def act (g u : EReal) : EReal :=
  Ideal.ofBits .f32 0x3F000000#32 * g
    * (Ideal.ofBits .f32 0x3F800000#32
        + Ideal.tanh (Ideal.ofBits .f32 0x3F4C422A#32 * (g + Ideal.ofBits .f32 0x3D372713#32 * (g * g * g))))
    * u

/-- A choice by whether a row number is a given one. -/
theorem choose_row (r n : ℕ) (hr : r < 2 ^ 32) (hn : n < 2 ^ 32) (a b : EReal) :
    Scalar.select (IntOp.cmpi .eq (BitVec.ofNat 32 r) (BitVec.ofNat 32 n)) a b = if r = n then a else b := by
  by_cases h : r = n
  · rw [if_pos h, (WordCmp.cmpi_eq_ofNat_eq_one_iff hr hn).mpr h]
    rfl
  · rw [if_neg h, (WordCmp.cmpi_eq_ofNat_eq_zero_iff hr hn).mpr h]
    rfl

/-- The gate of the first chunk before the gelu: its loaded rows begin with row 0. -/
theorem first_gate (w : FVec Ideal S2048x512 .bf16) (x : FVec Ideal S1040x2048 .bf16) (cw : FVec Ideal S3x512 .f32)
    (cb : FVec Ideal S1x512 .f32) (r : Fin 1024) (j : Fin 512) (g : Fin 2048 → EReal)
    (hg : ∀ l : Fin 1040, ∑ k : Fin 2048, x (ix2 l k) * w (ix2 k j) = g ⟨l.val, by omega⟩) :
    k0_pay4 (F := Ideal) w x cw cb (ix2 r j)
      = conv (padded g r.val) (padded g (r.val + 1)) (padded g (r.val + 2))
          (cw (ix2 0 j)) (cw (ix2 1 j)) (cw (ix2 2 j)) (cb (ix2 0 j)) := by
  unfold conv
  pointwise [k0_pay4]
  rw [choose_row r.val 0 (by omega) (by omega), hg, hg, hg, padded_in g (r.val + 1) ⟨r.val, by omega⟩ rfl,
    padded_in g (r.val + 2) ⟨r.val + 1, by omega⟩ rfl]
  have e2 : (⟨(r.val + 1040 - 1039) % 1040, by omega⟩ : Fin 2048) = ⟨r.val + 1, by omega⟩ :=
    Fin.ext (by show (r.val + 1040 - 1039) % 1040 = r.val + 1; omega)
  rw [e2]
  by_cases h : r.val = 0
  · have hp : padded g r.val = 0 := by rw [h]; rfl
    rw [if_pos h, hp, zero_mul]
  · have e0 : (⟨(r.val + 1040 - 1) % 1040, by omega⟩ : Fin 2048) = ⟨r.val - 1, by omega⟩ :=
      Fin.ext (by show (r.val + 1040 - 1) % 1040 = r.val - 1; omega)
    rw [if_neg h, e0, padded_in g r.val ⟨r.val - 1, by omega⟩ (by show _ = r.val - 1 + 1; omega)]

/-- The gate of the second chunk before the gelu: its loaded rows begin with row 1008 and end with the last. -/
theorem second_gate (w : FVec Ideal S2048x512 .bf16) (x : FVec Ideal S1040x2048 .bf16) (cw : FVec Ideal S3x512 .f32)
    (cb : FVec Ideal S1x512 .f32) (r : Fin 1024) (j : Fin 512) (g : Fin 2048 → EReal)
    (hg : ∀ l : Fin 1040, ∑ k : Fin 2048, x (ix2 l k) * w (ix2 k j) = g ⟨1008 + l.val, by omega⟩) :
    k0_pay8 (F := Ideal) w x cw cb (ix2 r j)
      = conv (padded g (1024 + r.val)) (padded g (1024 + r.val + 1)) (padded g (1024 + r.val + 2))
          (cw (ix2 0 j)) (cw (ix2 1 j)) (cw (ix2 2 j)) (cb (ix2 0 j)) := by
  unfold conv
  pointwise [k0_pay8]
  rw [choose_row (16 + r.val) 1039 (by omega) (by omega), hg, hg, hg,
    padded_in g (1024 + r.val) ⟨1023 + r.val, by omega⟩ (by show 1024 + r.val = 1023 + r.val + 1; omega),
    padded_in g (1024 + r.val + 1) ⟨1024 + r.val, by omega⟩ rfl]
  have e0 : (⟨1008 + (16 + r.val + 1040 - 1) % 1040, by omega⟩ : Fin 2048) = ⟨1023 + r.val, by omega⟩ :=
    Fin.ext (by show 1008 + (16 + r.val + 1040 - 1) % 1040 = 1023 + r.val; omega)
  have e1 : (⟨1008 + (16 + r.val), by omega⟩ : Fin 2048) = ⟨1024 + r.val, by omega⟩ :=
    Fin.ext (by show 1008 + (16 + r.val) = 1024 + r.val; omega)
  rw [e0, e1]
  by_cases h : 16 + r.val = 1039
  · rw [if_pos h, padded_last g (1024 + r.val + 2) (by omega), zero_mul]
  · have e2 : (⟨1008 + (16 + r.val + 1040 - 1039) % 1040, by omega⟩ : Fin 2048) = ⟨1025 + r.val, by omega⟩ :=
      Fin.ext (by show 1008 + (16 + r.val + 1040 - 1039) % 1040 = 1025 + r.val; omega)
    rw [if_neg h, e2, padded_in g (1024 + r.val + 2) ⟨1025 + r.val, by omega⟩ (by show 1024 + r.val + 2 = 1025 + r.val + 1; omega)]

/-- The second chunk. -/
theorem second_at (w : FVec Ideal S2048x512 .bf16) (x : FVec Ideal S1040x2048 .bf16) (cw : FVec Ideal S3x512 .f32)
    (cb : FVec Ideal S1x512 .f32) (u : FVec Ideal S2048x512 .bf16) (y : FVec Ideal S1024x2048 .bf16)
    (r : Fin 1024) (j : Fin 512) (g : Fin 2048 → EReal)
    (hg : ∀ l : Fin 1040, ∑ k : Fin 2048, x (ix2 l k) * w (ix2 k j) = g ⟨1008 + l.val, by omega⟩) :
    k0_pay1 (F := Ideal) u (k0_pay8 w x cw cb) y (ix2 r j)
      = act (conv (padded g (1024 + r.val)) (padded g (1024 + r.val + 1)) (padded g (1024 + r.val + 2))
          (cw (ix2 0 j)) (cw (ix2 1 j)) (cw (ix2 2 j)) (cb (ix2 0 j))) (∑ k : Fin 2048, y (ix2 r k) * u (ix2 k j)) := by
  rw [← second_gate w x cw cb r j g hg]
  generalize k0_pay8 (F := Ideal) w x cw cb = v
  unfold act
  pointwise [k0_pay1]

/-- The first chunk. -/
theorem first_at (w : FVec Ideal S2048x512 .bf16) (x : FVec Ideal S1040x2048 .bf16) (cw : FVec Ideal S3x512 .f32)
    (cb : FVec Ideal S1x512 .f32) (u : FVec Ideal S2048x512 .bf16) (y : FVec Ideal S1024x2048 .bf16)
    (r : Fin 1024) (j : Fin 512) (g : Fin 2048 → EReal)
    (hg : ∀ l : Fin 1040, ∑ k : Fin 2048, x (ix2 l k) * w (ix2 k j) = g ⟨l.val, by omega⟩) :
    k0_pay7 (F := Ideal) (k0_pay4 w x cw cb) (k0_pay5 u y) (k0_pay6 w x cw cb) (ix2 r j)
      = act (conv (padded g r.val) (padded g (r.val + 1)) (padded g (r.val + 2))
          (cw (ix2 0 j)) (cw (ix2 1 j)) (cw (ix2 2 j)) (cb (ix2 0 j))) (∑ k : Fin 2048, y (ix2 r k) * u (ix2 k j)) := by
  rw [← first_gate w x cw cb r j g hg]
  generalize hv : k0_pay4 (F := Ideal) w x cw cb = v
  have h6 : k0_pay6 (F := Ideal) w x cw cb (ix2 r j) = Ideal.ofBits .f32 0x3F000000#32 * v (ix2 r j) := by
    rw [← hv]
    rfl
  have h5 : k0_pay5 (F := Ideal) u y (ix2 r j) = ∑ k : Fin 2048, y (ix2 r k) * u (ix2 k j) := by
    pointwise [k0_pay5]
  unfold act
  rw [← h6, ← h5]
  rfl

end Cert.UpBlock

end
-- ==== Proof.UpArray.lean ====
/- What the result array of the up projection holds after the run. -/
module

public import proofs.«01_k».proof.Proof.UpBlock
public import proofs.«01_k».proof.Proof.Gen.FfnUpIdeal.Frame
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.UpArray

open Cert.FfnUpIdeal Cert.FfnUpIdeal.Gen Cert.UpBlock
open Idealize.ShloMosaic Idealize.ShloMosaic.TcCoe Idealize.SL.Sem

/-- The block of each window at a grid point. -/
theorem idx : ∀ t : Fin cfg0.N, win0_0.index t = ![t.val % 8, 0] ∧ win0_1.index t = ![0, t.val / 8]
    ∧ win0_2.index t = ![0, t.val / 8 + 11] ∧ win0_3.index t = ![0, t.val / 8] ∧ win0_4.index t = ![0, t.val / 8]
    ∧ win0_5.index t = ![t.val % 8, t.val / 8] ∧ t.val < 88 :=
  (by decide +kernel : ∀ t : Fin grid0.N, _)

/-- One column of the gate product within a block of 2048 rows. -/
def column (x : FVec Ideal S2048x2048 .bf16) (w : FVec Ideal S2048x512 .bf16) (j : Fin 512) (r : Fin 2048) : EReal :=
  ∑ k : Fin 2048, x (ix2 r k) * w (ix2 k j)

/-- What a grid point computes, from its rows, its two weight blocks, its taps and its bias. -/
def block (x : FVec Ideal S2048x2048 .bf16) (w u : FVec Ideal S2048x512 .bf16) (cw : FVec Ideal S3x512 .f32)
    (cb : FVec Ideal S1x512 .f32) (r : Fin 2048) (j : Fin 512) : EReal :=
  act (conv (padded (column x w j) r.val) (padded (column x w j) (r.val + 1)) (padded (column x w j) (r.val + 2))
    (cw (ix2 0 j)) (cw (ix2 1 j)) (cw (ix2 2 j)) (cb (ix2 0 j))) (column x u j r)

/-- The first chunk of a block, from the loads of its rows. -/
theorem first_block (x : FVec Ideal S2048x2048 .bf16) (w u : FVec Ideal S2048x512 .bf16) (cw : FVec Ideal S3x512 .f32)
    (cb : FVec Ideal S1x512 .f32) (xg : FVec Ideal S1040x2048 .bf16) (xu : FVec Ideal S1024x2048 .bf16)
    (hg : ∀ (l : Fin 1040) (k : Fin 2048), xg (ix2 l k) = x (ix2 ⟨l.val, by omega⟩ k))
    (hu : ∀ (l : Fin 1024) (k : Fin 2048), xu (ix2 l k) = x (ix2 ⟨l.val, by omega⟩ k))
    (r : Fin 1024) (j : Fin 512) :
    k0_pay7 (F := Ideal) (k0_pay4 w xg cw cb) (k0_pay5 u xu) (k0_pay6 w xg cw cb) (ix2 r j)
      = block x w u cw cb ⟨r.val, by omega⟩ j := by
  refine (first_at w xg cw cb u xu r j (column x w j) fun l => ?_).trans ?_
  · exact Finset.sum_congr rfl fun k _ => congrArg₂ (fun x y : EReal => x * y) (hg l k) rfl
  · exact congrArg₂ act rfl (Finset.sum_congr rfl fun k _ => congrArg₂ (fun x y : EReal => x * y) (hu r k) rfl)

/-- The second chunk of a block. -/
theorem second_block (x : FVec Ideal S2048x2048 .bf16) (w u : FVec Ideal S2048x512 .bf16) (cw : FVec Ideal S3x512 .f32)
    (cb : FVec Ideal S1x512 .f32) (xg : FVec Ideal S1040x2048 .bf16) (xu : FVec Ideal S1024x2048 .bf16)
    (hg : ∀ (l : Fin 1040) (k : Fin 2048), xg (ix2 l k) = x (ix2 ⟨1008 + l.val, by omega⟩ k))
    (hu : ∀ (l : Fin 1024) (k : Fin 2048), xu (ix2 l k) = x (ix2 ⟨1024 + l.val, by omega⟩ k))
    (r : Fin 1024) (j : Fin 512) :
    k0_pay1 (F := Ideal) u (k0_pay8 w xg cw cb) xu (ix2 r j)
      = block x w u cw cb ⟨1024 + r.val, by omega⟩ j := by
  refine (second_at w xg cw cb u xu r j (column x w j) fun l => ?_).trans ?_
  · exact Finset.sum_congr rfl fun k _ => congrArg₂ (fun x y : EReal => x * y) (hg l k) rfl
  · exact congrArg₂ act rfl (Finset.sum_congr rfl fun k _ => congrArg₂ (fun x y : EReal => x * y) (hu r k) rfl)

variable (m : (ℓ : Loc nD τ sig) → Buf (Elt Ideal) ℓ)

/-- The gate weights a point leaves in its scratch: its own weight block, written at the run's first point and held. -/
theorem held_gate (c : Dev nD) (t : Fin cfg0.N) :
    (outsAt0 m c t.val t.isLt).2.1 = k0_pay2 (F := Ideal) (iblk m c 1 t) := by
  funext i
  refine (Pipeline.eq_of_write_hold_apply (fun n h => (outsAt0 m c n h).2.1) 8 (fun t => k0_pay2 (F := Ideal) (iblk m c 1 t))
    (fun t h i => ?_) (fun t h i => ?_) t i).trans ?_
  · rw [outsAt0_A m c t h]
    frame_out
  · rw [outsAt0_B m c t h]
    frame_out
    rfl
  · pointwise [k0_pay2]
    blk_point [iblk, V, idx t, idx ⟨8 * (t.val / 8), Pipeline.run_start_lt t⟩]

/-- The up weights a point leaves in its scratch. -/
theorem held_up (c : Dev nD) (t : Fin cfg0.N) :
    (outsAt0 m c t.val t.isLt).2.2 = k0_pay3 (F := Ideal) (iblk m c 2 t) := by
  funext i
  refine (Pipeline.eq_of_write_hold_apply (fun n h => (outsAt0 m c n h).2.2) 8 (fun t => k0_pay3 (F := Ideal) (iblk m c 2 t))
    (fun t h i => ?_) (fun t h i => ?_) t i).trans ?_
  · rw [outsAt0_A m c t h]
    frame_out
  · rw [outsAt0_B m c t h]
    frame_out
    rfl
  · pointwise [k0_pay3]
    blk_point [iblk, V, idx t, idx ⟨8 * (t.val / 8), Pipeline.run_start_lt t⟩]

/-- At a point that does not begin a run the scratch still holds the gate weights of the point's block. -/
theorem before_gate (c : Dev nD) (t : Fin cfg0.N) (h : ¬t.val % 8 = 0) (hn) :
    (outsAt0 m c (t.val - 1) hn).2.1 = k0_pay2 (F := Ideal) (iblk m c 1 t) := by
  rw [← held_gate m c t]
  funext i
  rw [outsAt0_B m c t h]
  frame_out
  rfl

/-- Likewise the up weights. -/
theorem before_up (c : Dev nD) (t : Fin cfg0.N) (h : ¬t.val % 8 = 0) (hn) :
    (outsAt0 m c (t.val - 1) hn).2.2 = k0_pay3 (F := Ideal) (iblk m c 2 t) := by
  rw [← held_up m c t]
  funext i
  rw [outsAt0_B m c t h]
  frame_out
  rfl

/-- What a point leaves in the result's buffer. -/
theorem point (c : Dev nD) (t : Fin cfg0.N) (y : S2048x512.Idx) :
    (outsAt0 m c t.val t.isLt).1 y
      = block (iblk m c 0 t) (k0_pay2 (F := Ideal) (iblk m c 1 t)) (k0_pay3 (F := Ideal) (iblk m c 2 t)) (iblk m c 3 t)
          (iblk m c 4 t) (y 0) (y 1) := by
  by_cases h : t.val % 8 = 0
  · rw [outsAt0_A m c t h]
    frame_out
    canon_tiles x e
    all_goals
      obtain ⟨xr, xc, rfl⟩ : ∃ (xr : Fin 1024) (xc : Fin 512), x = ix2 xr xc := ⟨x 0, x 1, eq_ix2 x⟩
      simp only [ix2_0, ix2_1] at e0 e1
    · refine (second_block (iblk m c 0 t) _ _ _ _ _ _ (fun l k => ?_) (fun l k => ?_) xr xc).trans
        (congrArg₂ (block _ _ _ _ _) (Fin.ext e0.symm) (Fin.ext e1.symm))
      · pointwise
        blk_ext
      · pointwise
        blk_ext
    · refine (first_block (iblk m c 0 t) _ _ _ _ _ _ (fun l k => ?_) (fun l k => ?_) xr xc).trans
        (congrArg₂ (block _ _ _ _ _) (Fin.ext e0.symm) (Fin.ext e1.symm))
      · pointwise
        blk_ext
      · pointwise
        blk_ext
  · rw [outsAt0_B m c t h]
    frame_out
    canon_tiles x e
    all_goals
      obtain ⟨xr, xc, rfl⟩ : ∃ (xr : Fin 1024) (xc : Fin 512), x = ix2 xr xc := ⟨x 0, x 1, eq_ix2 x⟩
      simp only [ix2_0, ix2_1] at e0 e1
      rw [read_unread_whole, read_unread_whole, before_gate m c t h, before_up m c t h]
    · refine (second_block (iblk m c 0 t) _ _ _ _ _ _ (fun l k => ?_) (fun l k => ?_) xr xc).trans
        (congrArg₂ (block _ _ _ _ _) (Fin.ext e0.symm) (Fin.ext e1.symm))
      · pointwise
        blk_ext
      · pointwise
        blk_ext
    · refine (first_block (iblk m c 0 t) _ _ _ _ _ _ (fun l k => ?_) (fun l k => ?_) xr xc).trans
        (congrArg₂ (block _ _ _ _ _) (Fin.ext e0.symm) (Fin.ext e1.symm))
      · pointwise
        blk_ext
      · pointwise
        blk_ext

/-- One column of the product of the activations of one batch and the weights. -/
def product (a : FVec Ideal S16384x2048 .bf16) (w : FVec Ideal S1x2048x11264 .f32) (b : Fin 8) (j : Fin 11264) (r : Fin 2048) : EReal :=
  ∑ k : Fin 2048, a (ix2 ⟨b.val * 2048 + r.val, by omega⟩ k) * w (ix3 0 k j)

/-- The result at one row of one batch and one column. -/
def entry (a : FVec Ideal S16384x2048 .bf16) (w : FVec Ideal S1x2048x11264 .f32) (cw : FVec Ideal S1x3x5632 .f32)
    (cb : FVec Ideal S1x5632 .f32) (b : Fin 8) (r : Fin 2048) (j : Fin 5632) : EReal :=
  act (conv (padded (product a w b ⟨j.val, by omega⟩) r.val) (padded (product a w b ⟨j.val, by omega⟩) (r.val + 1))
      (padded (product a w b ⟨j.val, by omega⟩) (r.val + 2))
      (cw (ix3 0 0 j)) (cw (ix3 0 1 j)) (cw (ix3 0 2 j)) (cb (ix2 0 j)))
    (product a w b ⟨5632 + j.val, by omega⟩ r)

/-- The whole result. -/
def result (a : FVec Ideal S16384x2048 .bf16) (w : FVec Ideal S1x2048x11264 .f32) (cw : FVec Ideal S1x3x5632 .f32)
    (cb : FVec Ideal S1x5632 .f32) : FVec Ideal S16384x5632 .bf16 := fun i =>
  entry a w cw cb ⟨(i 0).val / 2048, by have := (i 0).isLt; have : (S16384x5632.size 0) = 16384 := rfl; omega⟩
    ⟨(i 0).val % 2048, by omega⟩ (i 1)

/-- Equal parts give equal entries. -/
theorem block_eq_entry {x : FVec Ideal S2048x2048 .bf16} {w u : FVec Ideal S2048x512 .bf16} {cw : FVec Ideal S3x512 .f32}
    {cb : FVec Ideal S1x512 .f32} {r : Fin 2048} {j : Fin 512} {a : FVec Ideal S16384x2048 .bf16} {w' : FVec Ideal S1x2048x11264 .f32}
    {cw' : FVec Ideal S1x3x5632 .f32} {cb' : FVec Ideal S1x5632 .f32} {b : Fin 8} {r' : Fin 2048} {j' : Fin 5632} (hr : r.val = r'.val)
    (hx : ∀ (l k : Fin 2048), x (ix2 l k) = a (ix2 ⟨b.val * 2048 + l.val, by omega⟩ k))
    (hw : ∀ k : Fin 2048, w (ix2 k j) = w' (ix3 0 k ⟨j'.val, by omega⟩))
    (hu : ∀ k : Fin 2048, u (ix2 k j) = w' (ix3 0 k ⟨5632 + j'.val, by omega⟩))
    (h0 : cw (ix2 0 j) = cw' (ix3 0 0 j')) (h1 : cw (ix2 1 j) = cw' (ix3 0 1 j')) (h2 : cw (ix2 2 j) = cw' (ix3 0 2 j'))
    (hb : cb (ix2 0 j) = cb' (ix2 0 j')) :
    block x w u cw cb r j = entry a w' cw' cb' b r' j' := by
  obtain rfl : r = r' := Fin.ext hr
  have hc : column x w j = product a w' b ⟨j'.val, by omega⟩ := funext fun l =>
    Finset.sum_congr rfl fun k _ => congrArg₂ (fun x y : EReal => x * y) (hx l k) (hw k)
  have hd : column x u j r = product a w' b ⟨5632 + j'.val, by omega⟩ r :=
    Finset.sum_congr rfl fun k _ => congrArg₂ (fun x y : EReal => x * y) (hx r k) (hu k)
  unfold block entry
  rw [hc, hd, h0, h1, h2, hb]

/-- The result array after the run is the whole result. -/
theorem final (c : Dev nD) : (dats m 0 c).arrAt 5 cfg0.N
    = result (m ((c : Thread nD τ).loc main_arg0)) (m ((c : Thread nD τ).loc main_arg1)) (m ((c : Thread nD τ).loc main_arg2))
          (m ((c : Thread nD τ).loc main_arg3)) := by
  refine (dats m 0 c).arrAt_eq_of_covers 5 _ (by decide +kernel) fun t _ y => ?_
  blk_simp
  rw [after0_5]
  have hy : (y 0).val < 2048 := (y 0).isLt
  refine (point m c t y).trans (block_eq_entry ?_ (fun l k => ?_) (fun k => ?_) (fun k => ?_) ?_ ?_ ?_ ?_)
  · blk_simp [idx t]
    show (y 0).val = (t.val % 8 * 2048 + (y 0).val) % 2048
    omega
  · blk_point [iblk, V, idx t]
  · pointwise [k0_pay2]
    blk_point [iblk, V, idx t]
  · pointwise [k0_pay3]
    blk_point [iblk, V, idx t]
  · blk_point [iblk, V, idx t]
  · blk_point [iblk, V, idx t]
  · blk_point [iblk, V, idx t]
  · blk_point [iblk, V, idx t]

end Cert.UpArray

end
-- ==== Proof.UpRef.lean ====
/- The up projection's reference computes the same array. -/
module

public import proofs.«01_k».proof.Proof.UpArray
public import proofs.«01_k».proof.Proof.Gen.FfnUpRefIdeal.Run
public import Idealize.ShloMosaic.Lib.Pipeline.ValueKit

@[expose] public section

set_option maxRecDepth 16384

noncomputable section

namespace Cert.UpRef

open Cert.FfnUpRefIdeal Cert.FfnUpRefIdeal.Gen Cert.UpBlock
open Idealize.ShloMosaic Idealize.ShloMosaic.TcCoe Idealize.SL.Sem

/-- The gate and up products, as the reference computes them. -/
def products (a : FVec Ideal S16384x2048 .bf16) (w : FVec Ideal S1x2048x11264 .f32) : FVec Ideal S8x2048x11264 .f32 :=
  Host.dotGeneral dot_S8x2048x2048_S2048x11264_S8x2048x11264_2_0_01_1_n_n none
    (shapeCast S8x2048x2048 (extf .f32 a bitsLt_bf16_f32) shapeCasts_S16384x2048_S8x2048x2048)
    (shapeCast S2048x11264 w shapeCasts_S1x2048x11264_S2048x11264)

/-- An entry of the products. -/
theorem products_at (a : FVec Ideal S16384x2048 .bf16) (w : FVec Ideal S1x2048x11264 .f32) (b : Fin 8) (r : Fin 2048) (j : Fin 11264) :
    products a w (ix3 b r j) = UpArray.product a w b j r := by
  unfold UpArray.product
  pointwise [products]

/-- The gate products with a row of zeros before and after. -/
def rows (q : FVec Ideal S8x2048x11264 .f32) : FVec Ideal S8x2050x5632 .f32 :=
  pad S8x2050x5632 ![0, 1, 0] ![0, 1, 0] ![0, 0, 0] (extractStridedSlice S8x2048x5632 ![0, 0, 0] q
    slices_S8x2048x11264_S8x2048x5632_0_0_0) (sitofp .f32 (constantI S_ 32 0#32)) pads_S8x2048x5632_S8x2050x5632_000_110_000 h_S_

/-- The integer zero converted is zero. -/
theorem zero_converted : (FloatOps.sitofp .f32 (0#32) : Ideal .f32) = (0 : EReal) := by
  show (((0#32 : BitVec 32).toInt : ℝ) : EReal) = 0
  simp

/-- An entry of the padded rows. -/
theorem rows_at (q : FVec Ideal S8x2048x11264 .f32) (b : Fin 8) (r : Fin 2050) (j : Fin 5632) :
    rows q (ix3 b r j) = padded (fun l => q (ix3 b l ⟨j.val, by omega⟩)) r.val := by
  unfold padded
  pointwise [rows]
  by_cases h : 1 ≤ r.val ∧ r.val < 2049
  · rw [dif_pos h, dif_pos ⟨h.1, by omega⟩]
  · rw [dif_neg h, dif_neg (by omega)]
    exact zero_converted

/-- The gate after its convolution. -/
def gate (p : FVec Ideal S8x2050x5632 .f32) (cw : FVec Ideal S1x3x5632 .f32) (cb : FVec Ideal S1x5632 .f32) :
    FVec Ideal S8x2048x5632 .f32 :=
  addf (addf (addf (addf (broadcastInDim S8x2048x5632 ![] bcast_S_S8x2048x5632 (constant S_ .f32 0x00000000#32)) (mulf
    (extractStridedSlice S8x2048x5632 ![0, 0, 0] p slices_S8x2050x5632_S8x2048x5632_0_0_0) (broadcastInDim S8x2048x5632 ![0,
    1, 2] bcast_S1x1x5632_S8x2048x5632_0_1_2 (broadcastInDim S1x1x5632 ![2] bcast_S5632_S1x1x5632_2 (shapeCast S5632
    (extractStridedSlice S1x5632 ![0, 0] (shapeCast S3x5632 cw shapeCasts_S1x3x5632_S3x5632) slices_S3x5632_S1x5632_0_0)
    shapeCasts_S1x5632_S5632))))) (mulf (extractStridedSlice S8x2048x5632 ![0, 1, 0] p slices_S8x2050x5632_S8x2048x5632_0_1_0)
    (broadcastInDim S8x2048x5632 ![0, 1, 2] bcast_S1x1x5632_S8x2048x5632_0_1_2 (broadcastInDim S1x1x5632 ![2]
    bcast_S5632_S1x1x5632_2 (shapeCast S5632 (extractStridedSlice S1x5632 ![1, 0] (shapeCast S3x5632 cw
    shapeCasts_S1x3x5632_S3x5632) slices_S3x5632_S1x5632_1_0) shapeCasts_S1x5632_S5632))))) (mulf (extractStridedSlice
    S8x2048x5632 ![0, 2, 0] p slices_S8x2050x5632_S8x2048x5632_0_2_0) (broadcastInDim S8x2048x5632 ![0, 1, 2]
    bcast_S1x1x5632_S8x2048x5632_0_1_2 (broadcastInDim S1x1x5632 ![2] bcast_S5632_S1x1x5632_2 (shapeCast S5632
    (extractStridedSlice S1x5632 ![2, 0] (shapeCast S3x5632 cw shapeCasts_S1x3x5632_S3x5632) slices_S3x5632_S1x5632_2_0)
    shapeCasts_S1x5632_S5632))))) (broadcastInDim S8x2048x5632 ![0, 1, 2] bcast_S1x1x5632_S8x2048x5632_0_1_2 (broadcastInDim
    S1x1x5632 ![2] bcast_S5632_S1x1x5632_2 (shapeCast S5632 cb shapeCasts_S1x5632_S5632)))

/-- An entry of the gate. -/
theorem gate_at (p : FVec Ideal S8x2050x5632 .f32) (cw : FVec Ideal S1x3x5632 .f32) (cb : FVec Ideal S1x5632 .f32)
    (b : Fin 8) (r : Fin 2048) (j : Fin 5632) :
    gate p cw cb (ix3 b r j) = conv (p (ix3 b ⟨r.val, by omega⟩ j)) (p (ix3 b ⟨r.val + 1, by omega⟩ j))
      (p (ix3 b ⟨r.val + 2, by omega⟩ j)) (cw (ix3 0 0 j)) (cw (ix3 0 1 j)) (cw (ix3 0 2 j)) (cb (ix2 0 j)) := by
  unfold conv
  pointwise [gate]
  have e1 : (⟨1 + r.val, by omega⟩ : Fin 2050) = ⟨r.val + 1, by omega⟩ := Fin.ext (Nat.add_comm _ _)
  have e2 : (⟨2 + r.val, by omega⟩ : Fin 2050) = ⟨r.val + 2, by omega⟩ := Fin.ext (Nat.add_comm _ _)
  rw [e1, e2]

/-- The gelu times the up product. -/
def finish (g : FVec Ideal S8x2048x5632 .f32) (q : FVec Ideal S8x2048x11264 .f32) : FVec Ideal S16384x5632 .bf16 :=
  shapeCast S16384x5632 (truncf .bf16 (mulf (mulf g (mulf (broadcastInDim S8x2048x5632 ![] bcast_S_S8x2048x5632 (constant S_
    .f32 0x3F000000#32)) (addf (broadcastInDim S8x2048x5632 ![] bcast_S_S8x2048x5632 (constant S_ .f32 0x3F800000#32))
    (Host.tanh (mulf (broadcastInDim S8x2048x5632 ![] bcast_S_S8x2048x5632 (constant S_ .f32 0x3F4C422A#32)) (addf g (mulf
    (broadcastInDim S8x2048x5632 ![] bcast_S_S8x2048x5632 (constant S_ .f32 0x3D372713#32)) (mulf (mulf g g) g))))))))
    (extractStridedSlice S8x2048x5632 ![0, 0, 5632] q slices_S8x2048x11264_S8x2048x5632_0_0_5632)) bitsLt_bf16_f32)
    shapeCasts_S8x2048x5632_S16384x5632

/-- The gated product with the factors in the reference's order. -/
theorem act_eq (g u : EReal) : act g u = g * (Ideal.ofBits .f32 0x3F000000#32 * (Ideal.ofBits .f32 0x3F800000#32
    + Ideal.tanh (Ideal.ofBits .f32 0x3F4C422A#32 * (g + Ideal.ofBits .f32 0x3D372713#32 * (g * g * g))))) * u := by
  unfold act
  exact congrArg (fun x : EReal => x * u) ((mul_assoc _ _ _).trans (mul_left_comm _ _ _))

/-- An entry of the result. -/
theorem finish_at (g : FVec Ideal S8x2048x5632 .f32) (q : FVec Ideal S8x2048x11264 .f32) (i : Fin 16384) (j : Fin 5632) :
    finish g q (ix2 i j) = act (g (ix3 ⟨i.val / 2048, by omega⟩ ⟨i.val % 2048, by omega⟩ j))
      (q (ix3 ⟨i.val / 2048, by omega⟩ ⟨i.val % 2048, by omega⟩ ⟨5632 + j.val, by omega⟩)) := by
  rw [act_eq]
  pointwise [finish]

/-- The kernel's array is the reference's. -/
theorem result_eq (a : FVec Ideal S16384x2048 .bf16) (w : FVec Ideal S1x2048x11264 .f32) (cw : FVec Ideal S1x3x5632 .f32)
    (cb : FVec Ideal S1x5632 .f32) :
    UpArray.result a w cw cb = finish (gate (rows (products a w)) cw cb) (products a w) := by
  funext i
  obtain ⟨r, j, rfl⟩ : ∃ (r : Fin 16384) (j : Fin 5632), i = ix2 r j := ⟨i 0, i 1, eq_ix2 i⟩
  rw [finish_at, gate_at, rows_at, rows_at, rows_at, products_at]
  simp only [products_at]
  rfl

/-- What the reference's run leaves in its result. -/
theorem run_eq (m : (ℓ : Loc nD τ sig) → Buf (Elt Ideal) ℓ) (c : Dev nD) :
    Value.res_main_v49 (F := Ideal) m c
      = UpArray.result (m ((c.tc : Thread nD τ).loc main_arg0)) (m ((c.tc : Thread nD τ).loc main_arg1))
          (m ((c.tc : Thread nD τ).loc main_arg2)) (m ((c.tc : Thread nD τ).loc main_arg3)) := by
  rw [result_eq]
  unfold Value.res_main_v49 finish gate rows products
  rfl

end Cert.UpRef

end
-- ==== Proof.UpClaim.lean ====
/- The up projection's value claim: the kernel's array is the reference's. -/
module

public import proofs.«01_k».proof.Defs
public import proofs.«01_k».proof.Proof.UpArray
public import proofs.«01_k».proof.Proof.UpRef
public import proofs.«01_k».proof.Proof.Gen.FfnUpIdeal.Frame
public import proofs.«01_k».proof.Proof.Gen.FfnUpRefIdeal.Run

@[expose] public section

set_option maxRecDepth 16384

noncomputable section

namespace Cert.UpClaim

open Cert
open Idealize.ShloMosaic Idealize.ShloMosaic.TcCoe Idealize.SL.Sem

/-- The kernel's run: its result array named, its arguments as launched. -/
theorem run_result (m : (ℓ : Loc FfnUpIdeal.nD FfnUpIdeal.τ FfnUpIdeal.sig) → Buf (Elt Ideal) ℓ) (ρ : Dev FfnUpIdeal.nD → PrngReg) :
    θ_run FfnUpIdeal.defs (onTc (τ := FfnUpIdeal.τ) (FfnUpIdeal.main (F := Ideal))) ⟨m, fun _ => 0, ρ⟩ fun r =>
      ∀ c : Dev FfnUpIdeal.nD,
      r.2.mem ((c.tc : Thread FfnUpIdeal.nD FfnUpIdeal.τ).loc FfnUpIdeal.main_v4)
          = (FfnUpIdeal.Gen.dats m 0 c).arrAt 5 FfnUpIdeal.cfg0.N
      ∧ r.2.mem ((c.tc : Thread FfnUpIdeal.nD FfnUpIdeal.τ).loc FfnUpIdeal.main_arg0)
          = m ((c.tc : Thread FfnUpIdeal.nD FfnUpIdeal.τ).loc FfnUpIdeal.main_arg0)
      ∧ r.2.mem ((c.tc : Thread FfnUpIdeal.nD FfnUpIdeal.τ).loc FfnUpIdeal.main_arg1)
          = m ((c.tc : Thread FfnUpIdeal.nD FfnUpIdeal.τ).loc FfnUpIdeal.main_arg1)
      ∧ r.2.mem ((c.tc : Thread FfnUpIdeal.nD FfnUpIdeal.τ).loc FfnUpIdeal.main_arg2)
          = m ((c.tc : Thread FfnUpIdeal.nD FfnUpIdeal.τ).loc FfnUpIdeal.main_arg2)
      ∧ r.2.mem ((c.tc : Thread FfnUpIdeal.nD FfnUpIdeal.τ).loc FfnUpIdeal.main_arg3)
          = m ((c.tc : Thread FfnUpIdeal.nD FfnUpIdeal.τ).loc FfnUpIdeal.main_arg3) :=
  (θ_run FfnUpIdeal.defs _ _).mono (fun r h c => ⟨(h c).1 5,
      ((h c).1 0).trans (((FfnUpIdeal.Gen.dats m 0 c).arrAt_in 0 rfl _).trans
        ((FfnUpIdeal.Gen.A_eq m c 0).trans (FfnUpIdeal.Gen.V_main_arg0 m c))),
      ((h c).2 FfnUpIdeal.main_arg1 (Pipeline.mem_restRefs_of FfnUpIdeal.main_arg1 (by decide) (by decide))).trans
        (FfnUpIdeal.Gen.V_main_arg1 m c),
      ((h c).2 FfnUpIdeal.main_arg2 (Pipeline.mem_restRefs_of FfnUpIdeal.main_arg2 (by decide) (by decide))).trans
        (FfnUpIdeal.Gen.V_main_arg2 m c),
      ((h c).2 FfnUpIdeal.main_arg3 (Pipeline.mem_restRefs_of FfnUpIdeal.main_arg3 (by decide) (by decide))).trans
        (FfnUpIdeal.Gen.V_main_arg3 m c)⟩)
    (FfnUpIdeal.Gen.run_main m ρ)

/-- From memories agreeing on the arguments the up projection and its reference end with one array. -/
theorem equal : algebraic_FfnUpIdeal_FfnUpRefIdeal := by
  intro m ρ m' ρ' _ hag
  refine ⟨fun c => UpArray.result (m ((c.tc : Thread FfnUpIdeal.nD FfnUpIdeal.τ).loc FfnUpIdeal.main_arg0))
    (m ((c.tc : Thread FfnUpIdeal.nD FfnUpIdeal.τ).loc FfnUpIdeal.main_arg1))
    (m ((c.tc : Thread FfnUpIdeal.nD FfnUpIdeal.τ).loc FfnUpIdeal.main_arg2))
    (m ((c.tc : Thread FfnUpIdeal.nD FfnUpIdeal.τ).loc FfnUpIdeal.main_arg3)), ?_, ?_⟩
  · exact (θ_run _ _ _).mono (fun r h c => ⟨(h c).1.trans (UpArray.final m c), (h c).2⟩) (run_result m ρ)
  · refine (θ_run _ _ _).mono (fun r h c => ⟨((h c).1.trans (UpRef.run_eq m' c)).trans ?_, (h c).2⟩)
      (FfnUpRefIdeal.Value.run m' ρ')
    rw [(hag c).1, (hag c).2.1, (hag c).2.2.1, (hag c).2.2.2]

end Cert.UpClaim

end
-- ==== Proof.DownArray.lean ====
/- The down projection with the closing norm and residual: what its result array holds, and that the reference computes it. -/
module

public import proofs.«01_k».proof.Proof.Gen.FfnDownIdeal.Frame
public import proofs.«01_k».proof.Proof.Gen.FfnDownRefIdeal.Read
public import Idealize.ShloMosaic.Lib.Pipeline.ValueKit

@[expose] public section

set_option maxRecDepth 16384

noncomputable section

namespace Cert.DownArray

open Cert.FfnDownIdeal Cert.FfnDownIdeal.Gen
open Idealize.ShloMosaic Idealize.ShloMosaic.TcCoe Idealize.SL.Sem

/-- The product of a row of the activations and a column of the weights. -/
def prod (a : FVec Ideal S16384x5632 .bf16) (w : FVec Ideal S5632x2048 .bf16) (r : Fin 16384) (j : Fin 2048) : EReal :=
  ∑ k : Fin 5632, a (ix2 r k) * w (ix2 k j)

/-- A normalized entry plus its residual: `p` the row of products, `g` the gain, `h` the residual. -/
def closed (p : Fin 2048 → EReal) (g h : EReal) (j : Fin 2048) : EReal :=
  h + p j * Ideal.rsqrt (Ideal.div (∑ l, p l * p l) (Ideal.ofBits .f32 0x45000000#32) + Ideal.ofBits .f32 0x358637BD#32) * g

/-- The whole result. -/
def result (a : FVec Ideal S16384x5632 .bf16) (w : FVec Ideal S5632x2048 .bf16) (h : FVec Ideal S16384x2048 .f32)
    (g : FVec Ideal S1x2048 .f32) : FVec Ideal S16384x2048 .f32 := fun i =>
  closed (prod a w (i 0)) (g (ix2 0 (i 1))) (h i) (i 1)

/-- Equal parts give equal entries. -/
theorem closed_congr {p p' : Fin 2048 → EReal} {g g' h h' : EReal} {j j' : Fin 2048} (hp : ∀ l, p l = p' l) (hg : g = g')
    (hh : h = h') (hj : j.val = j'.val) :
    closed p g h j = closed p' g' h' j' := by
  obtain rfl : j = j' := Fin.ext hj
  obtain rfl : p = p' := funext hp
  rw [hg, hh]

/-- The first chunk of rows. -/
theorem first_at (h : FVec Ideal S256x2048 .f32) (a : FVec Ideal S256x5632 .bf16) (w : FVec Ideal S5632x2048 .bf16)
    (g : FVec Ideal S1x2048 .f32) (r : Fin 256) (j : Fin 2048) :
    k0_pay2 (F := Ideal) h a w g (ix2 r j) = closed (fun l => ∑ k : Fin 5632, a (ix2 r k) * w (ix2 k l)) (g (ix2 0 j)) (h (ix2 r j)) j := by
  unfold closed
  pointwise [k0_pay2]

/-- The second chunk of rows: the same. -/
theorem second_at (h : FVec Ideal S256x2048 .f32) (a : FVec Ideal S256x5632 .bf16) (w : FVec Ideal S5632x2048 .bf16)
    (g : FVec Ideal S1x2048 .f32) (r : Fin 256) (j : Fin 2048) :
    k0_pay1 (F := Ideal) h (k0_pay3 a w) (k0_pay4 g) (k0_pay5 a w) (k0_pay6 (F := Ideal)) (ix2 r j)
      = closed (fun l => ∑ k : Fin 5632, a (ix2 r k) * w (ix2 k l)) (g (ix2 0 j)) (h (ix2 r j)) j := by
  unfold closed
  pointwise [k0_pay1, k0_pay3, k0_pay4, k0_pay5, k0_pay6]

/-- The block of each window at a grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ t.val < 32 :=
  (by decide +kernel : ∀ t : Fin grid0.N, _)

/-- What a grid point leaves, at an index of its block. -/
theorem out_at (a : FVec Ideal S512x5632 .bf16) (w : FVec Ideal S5632x2048 .bf16) (h : FVec Ideal S512x2048 .f32)
    (g : FVec Ideal S1x2048 .f32) (y : S512x2048.Idx) :
    out0_4 (F := Ideal) a w h g y
      = closed (fun l => ∑ k : Fin 5632, a (ix2 (y 0) k) * w (ix2 k l)) (g (ix2 0 (y 1))) (h y) (y 1) := by
  unfold out0_4
  canon_tiles x e
  all_goals
    obtain ⟨xr, xc, rfl⟩ : ∃ (xr : Fin 256) (xc : Fin 2048), x = ix2 xr xc := ⟨x 0, x 1, eq_ix2 x⟩
    simp only [ix2_0, ix2_1] at e0 e1
  · refine (second_at _ _ _ _ xr xc).trans (closed_congr
      (fun l => Finset.sum_congr rfl fun k _ => congrArg₂ (fun x y : EReal => x * y) ?_ ?_) ?_ ?_ ?_)
    · pointwise
      blk_ext
    · pointwise
      blk_ext
    · pointwise
      blk_ext
    · pointwise
      blk_ext
    · exact e1.symm
  · refine (first_at _ _ _ _ xr xc).trans (closed_congr
      (fun l => Finset.sum_congr rfl fun k _ => congrArg₂ (fun x y : EReal => x * y) ?_ ?_) ?_ ?_ ?_)
    · pointwise
      blk_ext
    · pointwise
      blk_ext
    · pointwise
      blk_ext
    · pointwise
      blk_ext
    · exact e1.symm

variable (m : (ℓ : Loc nD τ sig) → Buf (Elt Ideal) ℓ)

/-- The result array after the run is the whole result. -/
theorem final (c : Dev nD) : (dats m 0 c).arrAt 4 cfg0.N
    = result (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t _ y => ?_
  blk_simp
  rw [after0_4]
  refine (out_at _ _ _ _ y).trans (closed_congr
    (fun l => Finset.sum_congr rfl fun k _ => congrArg₂ (fun x y : EReal => x * y) ?_ ?_) ?_ ?_ ?_)
  · blk_ext [iblk, V, idx t]
  · blk_ext [iblk, V, idx t]
  · blk_point [iblk, V, idx t]
  · blk_ext [iblk, V, idx t]
  · blk_simp [idx t]

end Cert.DownArray

end
-- ==== Proof.DownRef.lean ====
/- The reference of the down projection computes the kernel's result. -/
module

public import proofs.«01_k».proof.Proof.DownArray
public import proofs.«01_k».proof.Proof.Gen.FfnDownRefIdeal.Read

@[expose] public section

set_option maxRecDepth 16384

noncomputable section

namespace Cert.DownRef

open Cert.FfnDownRefIdeal Cert.FfnDownRefIdeal.Gen Cert.FfnDownRefIdeal.Read Cert.DownArray
open Idealize.ShloMosaic Idealize.ShloMosaic.TcCoe Idealize.SL.Sem

/-- The reference's result is the kernel's. -/
theorem result_eq (a : FVec Ideal S16384x5632 .bf16) (w : FVec Ideal S5632x2048 .bf16) (h : FVec Ideal S16384x2048 .f32)
    (g : FVec Ideal S1x2048 .f32) : result a w h g = val_main_v17 (F := Ideal) a w h g := by
  funext i
  obtain ⟨r, j, rfl⟩ : ∃ (r : Fin 16384) (j : Fin 2048), i = ix2 r j := ⟨i 0, i 1, eq_ix2 i⟩
  have e : ∀ l : Fin 2048, val_main_v2 (F := Ideal) a w (ix2 r l) = prod a w r l := fun l => by
    pointwise [val_main_v2, val_main_v1, val_main_v0, prod]
  unfold result closed
  simp only [ix2_0, ix2_1, ← e]
  pointwise [val_main_v17, val_main_v16, val_main_v15, val_main_v14, val_main_v13, val_main_v12, val_main_v11, val_main_v10,
    val_main_v9, val_main_v8, val_main_v7, val_main_v6, val_main_v5, val_main_v4, val_main_v3, val_main_cst, val_main_cst_0,
    val_main_cst_1]

end Cert.DownRef

end
-- ==== Proof.DownClaim.lean ====
/- The down projection's value claim: the kernel's array is the reference's. -/
module

public import proofs.«01_k».proof.Defs
public import proofs.«01_k».proof.Proof.DownArray
public import proofs.«01_k».proof.Proof.DownRef
public import proofs.«01_k».proof.Proof.Gen.FfnDownIdeal.Value
public import proofs.«01_k».proof.Proof.Gen.FfnDownRefIdeal.Run

@[expose] public section

set_option maxRecDepth 16384

noncomputable section

namespace Cert.DownClaim

open Cert
open Idealize.ShloMosaic Idealize.ShloMosaic.TcCoe Idealize.SL.Sem

/-- From memories agreeing on the arguments the down projection and its reference end with one array. -/
theorem equal : algebraic_FfnDownIdeal_FfnDownRefIdeal := by
  intro m ρ m' ρ' _ hag
  refine ⟨fun c => DownArray.result (m ((c.tc : Thread FfnDownIdeal.nD FfnDownIdeal.τ).loc FfnDownIdeal.main_arg0))
    (m ((c.tc : Thread FfnDownIdeal.nD FfnDownIdeal.τ).loc FfnDownIdeal.main_arg1))
    (m ((c.tc : Thread FfnDownIdeal.nD FfnDownIdeal.τ).loc FfnDownIdeal.main_arg2))
    (m ((c.tc : Thread FfnDownIdeal.nD FfnDownIdeal.τ).loc FfnDownIdeal.main_arg3)), ?_, ?_⟩
  · exact (θ_run _ _ _).mono (fun r h c => ⟨(h c).1.trans (DownArray.final m c), (h c).2⟩) (FfnDownIdeal.Value.run_blocks m ρ)
  · refine (θ_run _ _ _).mono (fun r h c => ⟨((h c).1.trans (FfnDownRefIdeal.Read.val_main_v17_eq _ _ _ _)).trans ?_, (h c).2⟩)
      (FfnDownRefIdeal.Value.run m' ρ')
    rw [(hag c).1, (hag c).2.1, (hag c).2.2.1, (hag c).2.2.2]
    exact (DownRef.result_eq _ _ _ _).symm

end Cert.DownClaim

end
-- ==== Proof.InEntry.lean ====
/- The arrays the input projection's pipeline starts from, in terms of the arguments. -/
module

public import proofs.«01_k».proof.Proof.Gen.InProjIdeal.Frame
public import Idealize.ShloMosaic.Lib.Pipeline.ValueKit

@[expose] public section

set_option maxRecDepth 16384

noncomputable section

namespace Cert.InEntry

open Cert.InProjIdeal Cert.InProjIdeal.Gen
open Idealize.ShloMosaic Idealize.ShloMosaic.TcCoe Idealize.SL.Sem

variable (m : (ℓ : Loc nD τ sig) → Buf (Elt Ideal) ℓ)

/-- The rows, all batches one after another. -/
theorem rows_entry (c : Dev nD) (r : Fin 16384) (k : Fin 2048) :
    (show FVec Ideal S16384x2048 .f32 from V m c main_v0) (ix2 r k) = (show FVec Ideal S8x2048x2048 .f32 from m ((c : Thread nD τ).loc main_arg0))
        (ix3 ⟨r.val / 2048, by omega⟩ ⟨r.val % 2048, by omega⟩ k) := by
  have e : (show FVec Ideal S16384x2048 .f32 from V m c main_v0) = shapeCast S16384x2048 (show FVec Ideal S8x2048x2048 .f32 from m ((c : Thread nD τ).loc main_arg0))
      shapeCasts_S8x2048x2048_S16384x2048 := by
    show V m c main_v0 = _
    unfold V
    simp only [hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
    after_results
    rfl
  rw [e]
  pointwise

/-- The gain as a row. -/
theorem gain_entry (c : Dev nD) (k : Fin 2048) :
    (show FVec Ideal S1x2048 .f32 from V m c main_v7) (ix2 0 k) = (show FVec Ideal S1x2048 .f32 from m ((c : Thread nD τ).loc main_arg1)) (ix2 0 k) := by
  have e : (show FVec Ideal S1x2048 .f32 from V m c main_v7) = broadcastInDim S1x2048 ![1] bcast_S2048_S1x2048_1
      (shapeCast S2048 (show FVec Ideal S1x2048 .f32 from m ((c : Thread nD τ).loc main_arg1)) shapeCasts_S1x2048_S2048) := by
    show V m c main_v7 = _
    unfold V
    simp only [hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
    after_results
    rfl
  rw [e]
  pointwise

/-- The first 3072 columns of the weights, transposed. -/
theorem main_entry (c : Dev nD) (j : Fin 3072) (k : Fin 2048) :
    (show FVec Ideal S3072x2048 .bf16 from V m c main_v9) (ix2 j k) = (show FVec Ideal S1x2048x3904 .f32 from m ((c : Thread nD τ).loc main_arg2)) (ix3 0 k ⟨j.val, by omega⟩) := by
  have e : (show FVec Ideal S3072x2048 .bf16 from V m c main_v9) = truncf .bf16 (extractStridedSlice S3072x2048 ![0, 0]
      (transpose S3904x2048 [1, 0] (shapeCast S2048x3904 (show FVec Ideal S1x2048x3904 .f32 from m ((c : Thread nD τ).loc main_arg2)) shapeCasts_S1x2048x3904_S2048x3904) transposes_S2048x3904_S3904x2048_1_0)
      slices_S3904x2048_S3072x2048_0_0) bitsLt_bf16_f32 := by
    show V m c main_v9 = _
    unfold V
    simp only [hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
    after_results
    rfl
  rw [e]
  pointwise

/-- The integer zero converted is zero. -/
theorem zero_converted : (FloatOps.sitofp .bf16 (0#32) : Ideal .bf16) = (0 : EReal) := by
  show (((0#32 : BitVec 32).toInt : ℝ) : EReal) = 0
  simp

/-- The last 832 columns of the weights, transposed, with rows of zeros after them. -/
theorem tail_entry (c : Dev nD) (j : Fin 1024) (k : Fin 2048) :
    (show FVec Ideal S1024x2048 .bf16 from V m c main_v5) (ix2 j k) = if h : j.val < 832 then
        (show FVec Ideal S1x2048x3904 .f32 from m ((c : Thread nD τ).loc main_arg2)) (ix3 0 k ⟨3072 + j.val, by omega⟩) else (0 : EReal) := by
  have e : (show FVec Ideal S1024x2048 .bf16 from V m c main_v5) = pad S1024x2048 ![0, 0] ![192, 0] ![0, 0] (truncf .bf16 (extractStridedSlice S832x2048 ![3072, 0]
      (transpose S3904x2048 [1, 0] (shapeCast S2048x3904 (show FVec Ideal S1x2048x3904 .f32 from m ((c : Thread nD τ).loc main_arg2)) shapeCasts_S1x2048x3904_S2048x3904) transposes_S2048x3904_S3904x2048_1_0)
      slices_S3904x2048_S832x2048_3072_0) bitsLt_bf16_f32) (sitofp .bf16 (constantI S_ 32 0#32))
      pads_S832x2048_S1024x2048_01920_000 h_S_ := by
    show V m c main_v5 = _
    unfold V
    simp only [hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
    after_results
    rfl
  rw [e]
  pointwise
  rw [zero_converted]

end Cert.InEntry

end
-- ==== Proof.InArray.lean ====
/- What the result array of the input norm and projection holds after the run. -/
module

public import proofs.«01_k».proof.Proof.Gen.InProjIdeal.Frame
public import proofs.«01_k».proof.Proof.InEntry
public import Idealize.ShloMosaic.Lib.Pipeline.ValueKit

@[expose] public section

set_option maxRecDepth 16384

noncomputable section

namespace Cert.InArray

open Cert.InProjIdeal Cert.InProjIdeal.Gen
open Idealize.ShloMosaic Idealize.ShloMosaic.TcCoe Idealize.SL.Sem

/-- A row normalized by its root mean square, with a gain. -/
def normed (x g : Fin 2048 → EReal) (k : Fin 2048) : EReal :=
  x k * Ideal.rsqrt (Ideal.div (∑ l, x l * x l) (Ideal.ofBits .f32 0x45000000#32) + Ideal.ofBits .f32 0x358637BD#32) * g k

/-- The normalized row's product with a column of weights. -/
def projected (x g w : Fin 2048 → EReal) : EReal := ∑ k, normed x g k * w k

/-- Equal rows, gains and columns give equal products. -/
theorem projected_congr {x x' g g' w w' : Fin 2048 → EReal} (hx : ∀ k, x k = x' k) (hg : ∀ k, g k = g' k) (hw : ∀ k, w k = w' k) :
    projected x g w = projected x' g' w' := by
  obtain rfl : x = x' := funext hx
  obtain rfl : g = g' := funext hg
  obtain rfl : w = w' := funext hw
  rfl

/-- The first chunk of rows. -/
theorem first_at (w : FVec Ideal S1024x2048 .bf16) (x : FVec Ideal S256x2048 .f32) (g : FVec Ideal S1x2048 .f32) (r : Fin 256) (j : Fin 1024) :
    k0_pay4 (F := Ideal) w x g (ix2 r j) = projected (fun k => x (ix2 r k)) (fun k => g (ix2 0 k)) (fun k => w (ix2 j k)) := by
  unfold projected normed
  pointwise [k0_pay4, k0_pay3]

/-- The second chunk of rows. -/
theorem second_at (w : FVec Ideal S1024x2048 .bf16) (x : FVec Ideal S256x2048 .f32) (g : FVec Ideal S1x2048 .f32) (r : Fin 256) (j : Fin 1024) :
    k0_pay6 (F := Ideal) (k0_pay3 w) (k0_pay5 x g) (constant S256x1024 .f32 0x00000000#32) (ix2 r j) = projected (fun k => x (ix2 r k)) (fun k => g (ix2 0 k)) (fun k => w (ix2 j k)) := by
  unfold projected normed
  pointwise [k0_pay6, k0_pay5, k0_pay3]

/-- The third chunk of rows. -/
theorem third_at (w : FVec Ideal S1024x2048 .bf16) (x : FVec Ideal S256x2048 .f32) (g : FVec Ideal S1x2048 .f32) (r : Fin 256) (j : Fin 1024) :
    k0_pay7 (F := Ideal) (k0_pay3 w) x g (ix2 r j) = projected (fun k => x (ix2 r k)) (fun k => g (ix2 0 k)) (fun k => w (ix2 j k)) := by
  unfold projected normed
  pointwise [k0_pay7, k0_pay3]

/-- The fourth chunk of rows. -/
theorem fourth_at (w : FVec Ideal S1024x2048 .bf16) (x : FVec Ideal S256x2048 .f32) (g : FVec Ideal S1x2048 .f32) (r : Fin 256) (j : Fin 1024) :
    k0_pay1 (F := Ideal) (k0_pay3 w) (k0_pay8 x g) (ix2 r j) = projected (fun k => x (ix2 r k)) (fun k => g (ix2 0 k)) (fun k => w (ix2 j k)) := by
  unfold projected normed
  pointwise [k0_pay1, k0_pay8, k0_pay3]

variable (m : (ℓ : Loc nD τ sig) → Buf (Elt Ideal) ℓ)

/-- What a point leaves at the last column tile, whose weights are the padded tail. -/
theorem point_tail (c : Dev nD) (t : Fin cfg0.N) (h : t.val % 4 = 3) (y : S1024x1024.Idx) :
    (outsAt0 m c t.val t.isLt) y = projected (fun k => (show FVec Ideal S1024x2048 .f32 from iblk m c 0 t) (ix2 (y 0) k))
      (fun k => (show FVec Ideal S1x2048 .f32 from iblk m c 1 t) (ix2 0 k))
      (fun k => (show FVec Ideal S1024x2048 .bf16 from iblk m c 3 t) (ix2 (y 1) k)) := by
    rw [outsAt0_B m c t (by omega) h]
    frame_out
    canon_tiles x e
    all_goals
      obtain ⟨xr, xc, rfl⟩ : ∃ (xr : Fin 256) (xc : Fin 1024), x = ix2 xr xc := ⟨x 0, x 1, eq_ix2 x⟩
      simp only [ix2_0, ix2_1] at e0 e1
    · exact (fourth_at (iblk m c 3 t) _ (iblk m c 1 t) xr xc).trans (projected_congr (fun k => by pointwise; blk_ext) (fun k => rfl)
        (fun k => congrArg (iblk m c 3 t) (congrArg (fun z => ix2 z k) (Fin.ext e1.symm))))
    · exact (third_at (iblk m c 3 t) _ (iblk m c 1 t) xr xc).trans (projected_congr (fun k => by pointwise; blk_ext) (fun k => rfl)
        (fun k => congrArg (iblk m c 3 t) (congrArg (fun z => ix2 z k) (Fin.ext e1.symm))))
    · exact (second_at (iblk m c 3 t) _ (iblk m c 1 t) xr xc).trans (projected_congr (fun k => by pointwise; blk_ext) (fun k => rfl)
        (fun k => congrArg (iblk m c 3 t) (congrArg (fun z => ix2 z k) (Fin.ext e1.symm))))
    · exact (first_at (iblk m c 3 t) _ (iblk m c 1 t) xr xc).trans (projected_congr (fun k => by pointwise; blk_ext) (fun k => rfl)
        (fun k => congrArg (iblk m c 3 t) (congrArg (fun z => ix2 z k) (Fin.ext e1.symm))))

/-- What a point leaves at the other column tiles. -/
theorem point_main (c : Dev nD) (t : Fin cfg0.N) (h : ¬t.val % 4 = 3) (y : S1024x1024.Idx) :
    (outsAt0 m c t.val t.isLt) y = projected (fun k => (show FVec Ideal S1024x2048 .f32 from iblk m c 0 t) (ix2 (y 0) k))
      (fun k => (show FVec Ideal S1x2048 .f32 from iblk m c 1 t) (ix2 0 k))
      (fun k => (show FVec Ideal S1024x2048 .bf16 from iblk m c 2 t) (ix2 (y 1) k)) := by
    rw [outsAt0_A m c t (by omega) h]
    frame_out
    canon_tiles x e
    all_goals
      obtain ⟨xr, xc, rfl⟩ : ∃ (xr : Fin 256) (xc : Fin 1024), x = ix2 xr xc := ⟨x 0, x 1, eq_ix2 x⟩
      simp only [ix2_0, ix2_1] at e0 e1
    · exact (fourth_at (iblk m c 2 t) _ (iblk m c 1 t) xr xc).trans (projected_congr (fun k => by pointwise; blk_ext) (fun k => rfl)
        (fun k => congrArg (iblk m c 2 t) (congrArg (fun z => ix2 z k) (Fin.ext e1.symm))))
    · exact (third_at (iblk m c 2 t) _ (iblk m c 1 t) xr xc).trans (projected_congr (fun k => by pointwise; blk_ext) (fun k => rfl)
        (fun k => congrArg (iblk m c 2 t) (congrArg (fun z => ix2 z k) (Fin.ext e1.symm))))
    · exact (second_at (iblk m c 2 t) _ (iblk m c 1 t) xr xc).trans (projected_congr (fun k => by pointwise; blk_ext) (fun k => rfl)
        (fun k => congrArg (iblk m c 2 t) (congrArg (fun z => ix2 z k) (Fin.ext e1.symm))))
    · exact (first_at (iblk m c 2 t) _ (iblk m c 1 t) xr xc).trans (projected_congr (fun k => by pointwise; blk_ext) (fun k => rfl)
        (fun k => congrArg (iblk m c 2 t) (congrArg (fun z => ix2 z k) (Fin.ext e1.symm))))

/-- The block of each window at a grid point. -/
theorem idx : ∀ t : Fin cfg0.N, win0_0.index t = ![t.val / 4, 0] ∧ win0_1.index t = ![0, 0]
    ∧ win0_2.index t = ![min (t.val % 4) 2, 0] ∧ win0_3.index t = ![0, 0] ∧ win0_4.index t = ![t.val / 4, t.val % 4] ∧ t.val < 64 :=
  (by decide +kernel : ∀ t : Fin grid0.N, _)

/-- The whole result: the products in the first 3904 columns, zero in the padding. -/
def result (x : FVec Ideal S8x2048x2048 .f32) (g : FVec Ideal S1x2048 .f32) (w : FVec Ideal S1x2048x3904 .f32) :
    FVec Ideal S16384x4096 .bf16 := fun i =>
  if h : (i 1).val < 3904 then
    projected (fun k => x (ix3 ⟨(i 0).val / 2048, by have := (i 0).isLt; have : (S16384x4096.size 0) = 16384 := rfl; omega⟩
      ⟨(i 0).val % 2048, by omega⟩ k)) (fun k => g (ix2 0 k)) (fun k => w (ix3 0 k ⟨(i 1).val, h⟩))
  else 0

/-- A column of zeros gives zero. -/
theorem projected_zero (x g w : Fin 2048 → EReal) (hw : ∀ k, w k = 0) : projected x g w = 0 := by
  unfold projected
  exact Finset.sum_eq_zero fun k _ => by rw [hw k, mul_zero]

/-- A block of rows, from the rows. -/
theorem rows_block (c : Dev nD) (t : Fin cfg0.N) (ht : t.val < 64) (r : Fin 1024) (k : Fin 2048) :
    (show FVec Ideal S1024x2048 .f32 from iblk m c 0 t) (ix2 r k)
      = (show FVec Ideal S8x2048x2048 .f32 from m ((c : Thread nD τ).loc main_arg0))
        (ix3 ⟨(t.val / 4 * 1024 + r.val) / 2048, by omega⟩ ⟨(t.val / 4 * 1024 + r.val) % 2048, by omega⟩ k) := by
  refine Eq.trans ?_ (InEntry.rows_entry m c ⟨t.val / 4 * 1024 + r.val, by omega⟩ k)
  blk_ext [iblk, idx t]

/-- The gain's block is the gain. -/
theorem gain_block (c : Dev nD) (t : Fin cfg0.N) (k : Fin 2048) :
    (show FVec Ideal S1x2048 .f32 from iblk m c 1 t) (ix2 0 k)
      = (show FVec Ideal S1x2048 .f32 from m ((c : Thread nD τ).loc main_arg1)) (ix2 0 k) := by
  refine Eq.trans ?_ (InEntry.gain_entry m c k)
  blk_ext [iblk, idx t]

/-- A tile of columns before the last one. -/
theorem main_block (c : Dev nD) (t : Fin cfg0.N) (h : ¬t.val % 4 = 3) (j : Fin 1024) (k : Fin 2048) :
    (show FVec Ideal S1024x2048 .bf16 from iblk m c 2 t) (ix2 j k)
      = (show FVec Ideal S1x2048x3904 .f32 from m ((c : Thread nD τ).loc main_arg2)) (ix3 0 k ⟨t.val % 4 * 1024 + j.val, by omega⟩) := by
  refine Eq.trans ?_ (InEntry.main_entry m c ⟨t.val % 4 * 1024 + j.val, by omega⟩ k)
  have hm : min (t.val % 4) 2 = t.val % 4 := by omega
  blk_ext [iblk, idx t, hm]

/-- The last tile of columns. -/
theorem tail_block (c : Dev nD) (t : Fin cfg0.N) (j : Fin 1024) (k : Fin 2048) :
    (show FVec Ideal S1024x2048 .bf16 from iblk m c 3 t) (ix2 j k) = if h : j.val < 832 then
        (show FVec Ideal S1x2048x3904 .f32 from m ((c : Thread nD τ).loc main_arg2)) (ix3 0 k ⟨3072 + j.val, by omega⟩) else (0 : EReal) := by
  refine Eq.trans ?_ (InEntry.tail_entry m c j k)
  blk_ext [iblk, idx t]

/-- The place of a block's entry in the result array. -/
theorem place (t : Fin cfg0.N) (ht : t.val < 64) (y : S1024x1024.Idx) :
    ((win0_4.blk t).view.emb y : S16384x4096.Idx) = ix2 ⟨t.val / 4 * 1024 + (y 0).val, by have : (y 0).val < 1024 := (y 0).isLt; omega⟩
      ⟨t.val % 4 * 1024 + (y 1).val, by have : (y 1).val < 1024 := (y 1).isLt; omega⟩ := by
  blk_ext [idx t]

/-- The result array after the run is the whole result. -/
theorem final (c : Dev nD) : (dats m 0 c).arrAt 4 cfg0.N
    = result (m ((c : Thread nD τ).loc main_arg0)) (m ((c : Thread nD τ).loc main_arg1)) (m ((c : Thread nD τ).loc main_arg2)) := by
  refine (dats m 0 c).arrAt_eq_of_covers 4 _ (by decide +kernel) fun t _ y => ?_
  have ht : t.val < 64 := (idx t).2.2.2.2.2
  have hy0 : (y 0).val < 1024 := (y 0).isLt
  have hy1 : (y 1).val < 1024 := (y 1).isLt
  refine Eq.trans ?_ (congrArg (result (m ((c : Thread nD τ).loc main_arg0)) (m ((c : Thread nD τ).loc main_arg1))
    (m ((c : Thread nD τ).loc main_arg2))) (place t ht y)).symm
  blk_simp
  rw [after0_4]
  unfold result
  simp only [ix2_0, ix2_1]
  by_cases h : t.val % 4 = 3
  · refine (point_tail m c t h y).trans ?_
    by_cases hj : t.val % 4 * 1024 + (y 1).val < 3904
    · refine Eq.trans ?_ (dif_pos hj).symm
      refine projected_congr (fun k => rows_block m c t ht (y 0) k) (fun k => gain_block m c t k) (fun k => ?_)
      refine (tail_block m c t (y 1) k).trans ((dif_pos (show (y 1).val < 832 by omega)).trans ?_)
      exact congrArg (fun j => m ((c : Thread nD τ).loc main_arg2) (ix3 0 k j))
        (Fin.ext (by show 3072 + (y 1).val = t.val % 4 * 1024 + (y 1).val; omega))
    · refine Eq.trans ?_ (dif_neg hj).symm
      exact projected_zero _ _ _ fun k => (tail_block m c t (y 1) k).trans (dif_neg (by omega))
  · refine (point_main m c t h y).trans ?_
    refine Eq.trans ?_ (dif_pos (show t.val % 4 * 1024 + (y 1).val < 3904 by omega)).symm
    exact projected_congr (fun k => rows_block m c t ht (y 0) k) (fun k => gain_block m c t k)
      (fun k => main_block m c t h (y 1) k)

end Cert.InArray

end
-- ==== Proof.InRef.lean ====
/- The input projection's reference computes the same array. -/
module

public import proofs.«01_k».proof.Proof.InArray
public import proofs.«01_k».proof.Proof.InEntry
public import proofs.«01_k».proof.Proof.Gen.InProjRefIdeal.Run
public import Idealize.ShloMosaic.Lib.Pipeline.ValueKit

@[expose] public section

set_option maxRecDepth 16384

noncomputable section

namespace Cert.InRef

open Cert.InProjRefIdeal Cert.InProjRefIdeal.Gen Cert.InArray
open Idealize.ShloMosaic Idealize.ShloMosaic.TcCoe Idealize.SL.Sem

/-- The normalized rows, as the reference computes them. -/
def rows (x : FVec Ideal S8x2048x2048 .f32) (g : FVec Ideal S1x2048 .f32) : FVec Ideal S8x2048x2048 .f32 :=
  mulf (mulf x (broadcastInDim S8x2048x2048 ![0, 1, 2] bcast_S8x2048x1_S8x2048x2048_0_1_2 (Host.rsqrt (addf (Host.divf
    (broadcastInDim S8x2048x1 ![0, 1] bcast_S8x2048_S8x2048x1_0_1 (Host.reduceAdd (mulf x x) (constant S_ .f32 0x00000000#32)
    reducesTo_S8x2048x2048_S8x2048_d2 h_S_)) (broadcastInDim S8x2048x1 ![] bcast_S_S8x2048x1 (constant S_ .f32
    0x45000000#32))) (broadcastInDim S8x2048x1 ![] bcast_S_S8x2048x1 (constant S_ .f32 0x358637BD#32)))))) (broadcastInDim
    S8x2048x2048 ![0, 1, 2] bcast_S1x1x2048_S8x2048x2048_0_1_2 (broadcastInDim S1x1x2048 ![2] bcast_S2048_S1x1x2048_2
    (shapeCast S2048 g shapeCasts_S1x2048_S2048)))

/-- An entry of the normalized rows. -/
theorem rows_at (x : FVec Ideal S8x2048x2048 .f32) (g : FVec Ideal S1x2048 .f32) (b : Fin 8) (r k : Fin 2048) :
    rows x g (ix3 b r k) = normed (fun l => x (ix3 b r l)) (fun l => g (ix2 0 l)) k := by
  unfold normed
  pointwise [rows]

/-- The rows times the weights. -/
def products (u : FVec Ideal S8x2048x2048 .f32) (w : FVec Ideal S1x2048x3904 .f32) : FVec Ideal S16384x3904 .bf16 :=
  shapeCast S16384x3904 (truncf .bf16 (Host.dotGeneral dot_S8x2048x2048_S2048x3904_S8x2048x3904_2_0_01_1_n_n none u (shapeCast
    S2048x3904 w shapeCasts_S1x2048x3904_S2048x3904)) bitsLt_bf16_f32) shapeCasts_S8x2048x3904_S16384x3904

/-- An entry of the products. -/
theorem products_at (u : FVec Ideal S8x2048x2048 .f32) (w : FVec Ideal S1x2048x3904 .f32) (i : Fin 16384) (j : Fin 3904) :
    products u w (ix2 i j)
      = (∑ k : Fin 2048, u (ix3 ⟨i.val / 2048, by omega⟩ ⟨i.val % 2048, by omega⟩ k) * w (ix3 0 k j) : EReal) := by
  pointwise [products]

/-- The products with columns of zeros after them. -/
def widened (p : FVec Ideal S16384x3904 .bf16) : FVec Ideal S16384x4096 .bf16 :=
  pad S16384x4096 ![0, 0] ![0, 192] ![0, 0] p (sitofp .bf16 (constantI S_ 32 0#32)) pads_S16384x3904_S16384x4096_000_01920 h_S_

/-- An entry of the widened products. -/
theorem widened_at (p : FVec Ideal S16384x3904 .bf16) (i : Fin 16384) (j : Fin 4096) :
    widened p (ix2 i j) = if h : j.val < 3904 then p (ix2 i ⟨j.val, h⟩) else (0 : EReal) := by
  pointwise [widened]
  rw [InEntry.zero_converted]

/-- The kernel's array is the reference's. -/
theorem result_eq (x : FVec Ideal S8x2048x2048 .f32) (g : FVec Ideal S1x2048 .f32) (w : FVec Ideal S1x2048x3904 .f32) :
    InArray.result x g w = widened (products (rows x g) w) := by
  funext i
  obtain ⟨r, j, rfl⟩ : ∃ (r : Fin 16384) (j : Fin 4096), i = ix2 r j := ⟨i 0, i 1, eq_ix2 i⟩
  rw [widened_at]
  unfold InArray.result projected
  by_cases h : j.val < 3904
  · refine (dif_pos h).trans (Eq.trans ?_ (dif_pos h).symm)
    rw [products_at]
    simp only [rows_at]
    rfl
  · refine (dif_neg h).trans (Eq.trans ?_ (dif_neg h).symm)
    rfl

/-- What the reference's run leaves in its result. -/
theorem run_eq (m : (ℓ : Loc nD τ sig) → Buf (Elt Ideal) ℓ) (c : Dev nD) :
    (pad S16384x4096 ![0, 0] ![0, 192] ![0, 0] (shapeCast S16384x3904 (truncf .bf16 (Host.dotGeneral
    dot_S8x2048x2048_S2048x3904_S8x2048x3904_2_0_01_1_n_n none (mulf (mulf (show FVec Ideal S8x2048x2048 .f32 from m ((c.tc :
    Thread nD τ).loc main_arg0)) (broadcastInDim S8x2048x2048 ![0, 1, 2] bcast_S8x2048x1_S8x2048x2048_0_1_2 (Host.rsqrt (addf
    (Host.divf (broadcastInDim S8x2048x1 ![0, 1] bcast_S8x2048_S8x2048x1_0_1 (Host.reduceAdd (mulf (show FVec Ideal
    S8x2048x2048 .f32 from m ((c.tc : Thread nD τ).loc main_arg0)) (show FVec Ideal S8x2048x2048 .f32 from m ((c.tc : Thread
    nD τ).loc main_arg0))) (constant S_ .f32 0x00000000#32) reducesTo_S8x2048x2048_S8x2048_d2 h_S_)) (broadcastInDim S8x2048x1
    ![] bcast_S_S8x2048x1 (constant S_ .f32 0x45000000#32))) (broadcastInDim S8x2048x1 ![] bcast_S_S8x2048x1 (constant S_ .f32
    0x358637BD#32)))))) (broadcastInDim S8x2048x2048 ![0, 1, 2] bcast_S1x1x2048_S8x2048x2048_0_1_2 (broadcastInDim S1x1x2048
    ![2] bcast_S2048_S1x1x2048_2 (shapeCast S2048 (show FVec Ideal S1x2048 .f32 from m ((c.tc : Thread nD τ).loc main_arg1))
    shapeCasts_S1x2048_S2048)))) (shapeCast S2048x3904 (show FVec Ideal S1x2048x3904 .f32 from m ((c.tc : Thread nD τ).loc
    main_arg2)) shapeCasts_S1x2048x3904_S2048x3904)) bitsLt_bf16_f32) shapeCasts_S8x2048x3904_S16384x3904) (sitofp .bf16
    (constantI S_ 32 0#32)) pads_S16384x3904_S16384x4096_000_01920 h_S_ : FVec Ideal S16384x4096 .bf16)
      = InArray.result (m ((c.tc : Thread nD τ).loc main_arg0)) (m ((c.tc : Thread nD τ).loc main_arg1)) (m ((c.tc : Thread nD τ).loc main_arg2)) := by
  rw [result_eq]
  unfold widened products rows
  rfl

end Cert.InRef

end
-- ==== Proof.InClaim.lean ====
/- The input projection's value claim: the kernel's array is the reference's. -/
module

public import proofs.«01_k».proof.Defs
public import proofs.«01_k».proof.Proof.InArray
public import proofs.«01_k».proof.Proof.InRef
public import proofs.«01_k».proof.Proof.Gen.InProjIdeal.Frame
public import proofs.«01_k».proof.Proof.Gen.InProjRefIdeal.Run

@[expose] public section

set_option maxRecDepth 16384

noncomputable section

namespace Cert.InClaim

open Cert
open Idealize.ShloMosaic Idealize.ShloMosaic.TcCoe Idealize.SL.Sem

/-- The kernel's run: its result array named, its arguments as launched. -/
theorem run_result (m : (ℓ : Loc InProjIdeal.nD InProjIdeal.τ InProjIdeal.sig) → Buf (Elt Ideal) ℓ) (ρ : Dev InProjIdeal.nD → PrngReg) :
    θ_run InProjIdeal.defs (onTc (τ := InProjIdeal.τ) (InProjIdeal.main (F := Ideal))) ⟨m, fun _ => 0, ρ⟩ fun r =>
      ∀ c : Dev InProjIdeal.nD,
      r.2.mem ((c.tc : Thread InProjIdeal.nD InProjIdeal.τ).loc InProjIdeal.main_v10) = (InProjIdeal.Gen.dats m 0 c).arrAt 4 InProjIdeal.cfg0.N
      ∧ r.2.mem ((c.tc : Thread InProjIdeal.nD InProjIdeal.τ).loc InProjIdeal.main_arg0)
          = m ((c.tc : Thread InProjIdeal.nD InProjIdeal.τ).loc InProjIdeal.main_arg0)
      ∧ r.2.mem ((c.tc : Thread InProjIdeal.nD InProjIdeal.τ).loc InProjIdeal.main_arg1)
          = m ((c.tc : Thread InProjIdeal.nD InProjIdeal.τ).loc InProjIdeal.main_arg1)
      ∧ r.2.mem ((c.tc : Thread InProjIdeal.nD InProjIdeal.τ).loc InProjIdeal.main_arg2)
          = m ((c.tc : Thread InProjIdeal.nD InProjIdeal.τ).loc InProjIdeal.main_arg2) :=
  (θ_run InProjIdeal.defs _ _).mono (fun r h c => ⟨(h c).1 4,
      ((h c).2 InProjIdeal.main_arg0 (Pipeline.mem_restRefs_of InProjIdeal.main_arg0 (by decide) (by decide))).trans
        (InProjIdeal.Gen.V_main_arg0 m c),
      ((h c).2 InProjIdeal.main_arg1 (Pipeline.mem_restRefs_of InProjIdeal.main_arg1 (by decide) (by decide))).trans
        (InProjIdeal.Gen.V_main_arg1 m c),
      ((h c).2 InProjIdeal.main_arg2 (Pipeline.mem_restRefs_of InProjIdeal.main_arg2 (by decide) (by decide))).trans
        (InProjIdeal.Gen.V_main_arg2 m c)⟩)
    (InProjIdeal.Gen.run_main m ρ)

/-- From memories agreeing on the arguments the input projection and its reference end with one array. -/
theorem equal : algebraic_InProjIdeal_InProjRefIdeal := by
  intro m ρ m' ρ' _ hag
  refine ⟨fun c => InArray.result (m ((c.tc : Thread InProjIdeal.nD InProjIdeal.τ).loc InProjIdeal.main_arg0))
    (m ((c.tc : Thread InProjIdeal.nD InProjIdeal.τ).loc InProjIdeal.main_arg1))
    (m ((c.tc : Thread InProjIdeal.nD InProjIdeal.τ).loc InProjIdeal.main_arg2)), ?_, ?_⟩
  · exact (θ_run _ _ _).mono (fun r h c => ⟨(h c).1.trans (InArray.final m c), (h c).2⟩) (run_result m ρ)
  · refine (θ_run _ _ _).mono (fun r h c => ⟨((h c).1.trans (InRef.run_eq m' c)).trans ?_, (h c).2⟩)
      (InProjRefIdeal.Value.run m' ρ')
    rw [(hag c).1, (hag c).2.1, (hag c).2.2]

end Cert.InClaim

end
-- ==== Proof.OutBlock.lean ====
/- What one block of the output projection computes: the rows of its results. -/
module

public import proofs.«01_k».proof.Proof.Gen.OutProjIdeal.Frame
public import Idealize.ShloMosaic.Lib.Pipeline.ValueKit

@[expose] public section

set_option maxRecDepth 16384

noncomputable section

namespace Cert.OutBlock

open Cert.OutProjIdeal Cert.OutProjIdeal.Gen
open Idealize.ShloMosaic Idealize.ShloMosaic.TcCoe Idealize.SL.Sem

/-- A row normalized by its root mean square, with a gain; `d` is the row's length as a float. -/
def normed {n : ℕ} (d : BitVec 32) (x g : Fin n → EReal) (k : Fin n) : EReal :=
  x k * Ideal.rsqrt (Ideal.div (∑ l, x l * x l) (Ideal.ofBits .f32 d) + Ideal.ofBits .f32 0x358637BD#32) * g k

/-- The two mixers' normalized rows times the two halves of the weights. -/
def mixed (a b ga gb : Fin 1024 → EReal) (wa wb : Fin 1024 → Fin 2048 → EReal) (j : Fin 2048) : EReal :=
  ∑ k, normed 0x44800000#32 a ga k * wa k j + ∑ k, normed 0x44800000#32 b gb k * wb k j

/-- A row of the hidden state: the residual plus the normalized mixed row. -/
def hidden (a b ga gb : Fin 1024 → EReal) (wa wb : Fin 1024 → Fin 2048 → EReal) (x g : Fin 2048 → EReal) (j : Fin 2048) : EReal :=
  x j + normed 0x45000000#32 (mixed a b ga gb wa wb) g j

/-- The hidden row, normalized for the feed-forward part. -/
def fed (a b ga gb : Fin 1024 → EReal) (wa wb : Fin 1024 → Fin 2048 → EReal) (x g f : Fin 2048 → EReal) (j : Fin 2048) : EReal :=
  normed 0x45000000#32 (hidden a b ga gb wa wb x g) f j

/-- Equal parts give equal hidden entries. -/
theorem hidden_congr {a a' b b' ga ga' gb gb' : Fin 1024 → EReal} {wa wa' wb wb' : Fin 1024 → Fin 2048 → EReal}
    {x x' g g' : Fin 2048 → EReal} {j j' : Fin 2048} (ha : ∀ k, a k = a' k) (hb : ∀ k, b k = b' k) (hga : ∀ k, ga k = ga' k)
    (hgb : ∀ k, gb k = gb' k) (hwa : ∀ k l, wa k l = wa' k l) (hwb : ∀ k l, wb k l = wb' k l) (hx : ∀ k, x k = x' k)
    (hg : ∀ k, g k = g' k) (hj : j.val = j'.val) :
    hidden a b ga gb wa wb x g j = hidden a' b' ga' gb' wa' wb' x' g' j' := by
  obtain rfl : a = a' := funext ha
  obtain rfl : b = b' := funext hb
  obtain rfl : ga = ga' := funext hga
  obtain rfl : gb = gb' := funext hgb
  obtain rfl : wa = wa' := funext fun k => funext (hwa k)
  obtain rfl : wb = wb' := funext fun k => funext (hwb k)
  obtain rfl : x = x' := funext hx
  obtain rfl : g = g' := funext hg
  obtain rfl : j = j' := Fin.ext hj
  rfl

/-- Equal parts give equal entries of the second result. -/
theorem fed_congr {a a' b b' ga ga' gb gb' : Fin 1024 → EReal} {wa wa' wb wb' : Fin 1024 → Fin 2048 → EReal}
    {x x' g g' f f' : Fin 2048 → EReal} {j j' : Fin 2048} (ha : ∀ k, a k = a' k) (hb : ∀ k, b k = b' k) (hga : ∀ k, ga k = ga' k)
    (hgb : ∀ k, gb k = gb' k) (hwa : ∀ k l, wa k l = wa' k l) (hwb : ∀ k l, wb k l = wb' k l) (hx : ∀ k, x k = x' k)
    (hg : ∀ k, g k = g' k) (hf : ∀ k, f k = f' k) (hj : j.val = j'.val) :
    fed a b ga gb wa wb x g f j = fed a' b' ga' gb' wa' wb' x' g' f' j' := by
  obtain rfl : f = f' := funext hf
  obtain rfl : j = j' := Fin.ext hj
  unfold fed
  exact congrArg (fun h => normed 0x45000000#32 h f j) (funext fun l => hidden_congr ha hb hga hgb hwa hwb hx hg rfl)

/-- The first mixer's rows, first chunk. -/
theorem norm_a_first (v : FVec Ideal S256x1024 .bf16) (g : FVec Ideal S1x1024 .f32) (r : Fin 256) (k : Fin 1024) :
    k0_pay4 (F := Ideal) v g (ix2 r k) = normed 0x44800000#32 (fun l => v (ix2 r l)) (fun l => g (ix2 0 l)) k := by
  unfold normed
  pointwise [k0_pay4]

/-- The second mixer's rows, first chunk. -/
theorem norm_b_first (v : FVec Ideal S256x1024 .bf16) (g : FVec Ideal S1x1024 .f32) (r : Fin 256) (k : Fin 1024) :
    k0_pay5 (F := Ideal) v g (ix2 r k) = normed 0x44800000#32 (fun l => v (ix2 r l)) (fun l => g (ix2 0 l)) k := by
  unfold normed
  pointwise [k0_pay5]

/-- The first mixer's rows, second chunk. -/
theorem norm_a_second (v : FVec Ideal S256x1024 .bf16) (g : FVec Ideal S1x1024 .f32) (r : Fin 256) (k : Fin 1024) :
    k0_pay7 (F := Ideal) v g (ix2 r k) = normed 0x44800000#32 (fun l => v (ix2 r l)) (fun l => g (ix2 0 l)) k := by
  unfold normed
  pointwise [k0_pay7]

/-- The second mixer's rows, second chunk. -/
theorem norm_b_second (v : FVec Ideal S256x1024 .bf16) (g : FVec Ideal S1x1024 .f32) (r : Fin 256) (k : Fin 1024) :
    k0_pay8 (F := Ideal) v g (ix2 r k) = normed 0x44800000#32 (fun l => v (ix2 r l)) (fun l => g (ix2 0 l)) k := by
  unfold normed
  pointwise [k0_pay8]

/-- The two products added, first chunk. -/
theorem product_first (a b : FVec Ideal S256x1024 .bf16) (wa wb : FVec Ideal S1024x2048 .bf16) (r : Fin 256) (j : Fin 2048) :
    k0_pay6 (F := Ideal) a b wa wb (ix2 r j)
      = (∑ k : Fin 1024, a (ix2 r k) * wa (ix2 k j) + ∑ k : Fin 1024, b (ix2 r k) * wb (ix2 k j) : EReal) := by
  pointwise [k0_pay6]

/-- The two products added, second chunk. -/
theorem product_second (a b : FVec Ideal S256x1024 .bf16) (wa wb : FVec Ideal S1024x2048 .bf16) (r : Fin 256) (j : Fin 2048) :
    k0_pay9 (F := Ideal) a b wa wb (ix2 r j)
      = (∑ k : Fin 1024, a (ix2 r k) * wa (ix2 k j) + ∑ k : Fin 1024, b (ix2 r k) * wb (ix2 k j) : EReal) := by
  pointwise [k0_pay9]

/-- The residual plus the normalized product, first chunk. -/
theorem residual_first (p x : FVec Ideal S256x2048 .f32) (g : FVec Ideal S1x2048 .f32) (r : Fin 256) (j : Fin 2048) :
    k0_pay10 (F := Ideal) p x g (ix2 r j)
      = x (ix2 r j) + normed 0x45000000#32 (fun l => p (ix2 r l)) (fun l => g (ix2 0 l)) j := by
  unfold normed
  pointwise [k0_pay10]

/-- The residual plus the normalized product, second chunk. -/
theorem residual_second (p x : FVec Ideal S256x2048 .f32) (g : FVec Ideal S1x2048 .f32) (r : Fin 256) (j : Fin 2048) :
    k0_pay1 (F := Ideal) p x g (ix2 r j)
      = x (ix2 r j) + normed 0x45000000#32 (fun l => p (ix2 r l)) (fun l => g (ix2 0 l)) j := by
  unfold normed
  pointwise [k0_pay1]

/-- The second norm, first chunk. -/
theorem second_norm_first (p x : FVec Ideal S256x2048 .f32) (g f : FVec Ideal S1x2048 .f32) (r : Fin 256) (j : Fin 2048) :
    k0_pay11 (F := Ideal) p x g f (ix2 r j)
      = normed 0x45000000#32 (fun l => k0_pay10 (F := Ideal) p x g (ix2 r l)) (fun l => f (ix2 0 l)) j := by
  unfold normed k0_pay11
  generalize k0_pay10 (F := Ideal) p x g = h
  pointwise

/-- The second norm, second chunk. -/
theorem second_norm_second (p x : FVec Ideal S256x2048 .f32) (g f : FVec Ideal S1x2048 .f32) (r : Fin 256) (j : Fin 2048) :
    k0_pay2 (F := Ideal) p x g f (ix2 r j)
      = normed 0x45000000#32 (fun l => k0_pay1 (F := Ideal) p x g (ix2 r l)) (fun l => f (ix2 0 l)) j := by
  unfold normed k0_pay2
  generalize k0_pay1 (F := Ideal) p x g = h
  pointwise

/-- The hidden state's rows, first chunk. -/
theorem hidden_first (a b : FVec Ideal S256x1024 .bf16) (ga gb : FVec Ideal S1x1024 .f32) (wa wb : FVec Ideal S1024x2048 .bf16)
    (x : FVec Ideal S256x2048 .f32) (g : FVec Ideal S1x2048 .f32) (r : Fin 256) (j : Fin 2048) :
    k0_pay10 (F := Ideal) (k0_pay6 (k0_pay4 a ga) (k0_pay5 b gb) wa wb) x g (ix2 r j)
      = hidden (fun k => a (ix2 r k)) (fun k => b (ix2 r k)) (fun k => ga (ix2 0 k)) (fun k => gb (ix2 0 k))
        (fun k l => wa (ix2 k l)) (fun k l => wb (ix2 k l)) (fun k => x (ix2 r k)) (fun k => g (ix2 0 k)) j := by
  rw [residual_first]
  unfold hidden
  refine congrArg (fun p => x (ix2 r j) + normed 0x45000000#32 p (fun l => g (ix2 0 l)) j) (funext fun l => ?_)
  rw [product_first]
  simp only [norm_a_first, norm_b_first]
  rfl

/-- The rows for the feed-forward part, first chunk. -/
theorem fed_first (a b : FVec Ideal S256x1024 .bf16) (ga gb : FVec Ideal S1x1024 .f32) (wa wb : FVec Ideal S1024x2048 .bf16)
    (x : FVec Ideal S256x2048 .f32) (g : FVec Ideal S1x2048 .f32) (f : FVec Ideal S1x2048 .f32) (r : Fin 256) (j : Fin 2048) :
    k0_pay11 (F := Ideal) (k0_pay6 (k0_pay4 a ga) (k0_pay5 b gb) wa wb) x g f (ix2 r j)
      = fed (fun k => a (ix2 r k)) (fun k => b (ix2 r k)) (fun k => ga (ix2 0 k)) (fun k => gb (ix2 0 k))
        (fun k l => wa (ix2 k l)) (fun k l => wb (ix2 k l)) (fun k => x (ix2 r k)) (fun k => g (ix2 0 k)) (fun k => f (ix2 0 k)) j := by
  rw [second_norm_first]
  unfold fed
  exact congrArg (fun h => normed 0x45000000#32 h (fun l => f (ix2 0 l)) j) (funext fun l => hidden_first a b ga gb wa wb x g r l)

/-- The hidden state's rows, second chunk. -/
theorem hidden_second (a b : FVec Ideal S256x1024 .bf16) (ga gb : FVec Ideal S1x1024 .f32) (wa wb : FVec Ideal S1024x2048 .bf16)
    (x : FVec Ideal S256x2048 .f32) (g : FVec Ideal S1x2048 .f32) (r : Fin 256) (j : Fin 2048) :
    k0_pay1 (F := Ideal) (k0_pay9 (k0_pay7 a ga) (k0_pay8 b gb) wa wb) x g (ix2 r j)
      = hidden (fun k => a (ix2 r k)) (fun k => b (ix2 r k)) (fun k => ga (ix2 0 k)) (fun k => gb (ix2 0 k))
        (fun k l => wa (ix2 k l)) (fun k l => wb (ix2 k l)) (fun k => x (ix2 r k)) (fun k => g (ix2 0 k)) j := by
  rw [residual_second]
  unfold hidden
  refine congrArg (fun p => x (ix2 r j) + normed 0x45000000#32 p (fun l => g (ix2 0 l)) j) (funext fun l => ?_)
  rw [product_second]
  simp only [norm_a_second, norm_b_second]
  rfl

/-- The rows for the feed-forward part, second chunk. -/
theorem fed_second (a b : FVec Ideal S256x1024 .bf16) (ga gb : FVec Ideal S1x1024 .f32) (wa wb : FVec Ideal S1024x2048 .bf16)
    (x : FVec Ideal S256x2048 .f32) (g : FVec Ideal S1x2048 .f32) (f : FVec Ideal S1x2048 .f32) (r : Fin 256) (j : Fin 2048) :
    k0_pay2 (F := Ideal) (k0_pay9 (k0_pay7 a ga) (k0_pay8 b gb) wa wb) x g f (ix2 r j)
      = fed (fun k => a (ix2 r k)) (fun k => b (ix2 r k)) (fun k => ga (ix2 0 k)) (fun k => gb (ix2 0 k))
        (fun k l => wa (ix2 k l)) (fun k l => wb (ix2 k l)) (fun k => x (ix2 r k)) (fun k => g (ix2 0 k)) (fun k => f (ix2 0 k)) j := by
  rw [second_norm_second]
  unfold fed
  exact congrArg (fun h => normed 0x45000000#32 h (fun l => f (ix2 0 l)) j) (funext fun l => hidden_second a b ga gb wa wb x g r l)

end Cert.OutBlock

end
-- ==== Proof.OutEntry.lean ====
/- The arrays the output projection's pipeline starts from, in terms of the arguments. -/
module

public import proofs.«01_k».proof.Proof.Gen.OutProjIdeal.Frame
public import Idealize.ShloMosaic.Lib.Pipeline.ValueKit

@[expose] public section

set_option maxRecDepth 16384

noncomputable section

namespace Cert.OutEntry

open Cert.OutProjIdeal Cert.OutProjIdeal.Gen
open Idealize.ShloMosaic Idealize.ShloMosaic.TcCoe Idealize.SL.Sem

variable (m : (ℓ : Loc nD τ sig) → Buf (Elt Ideal) ℓ)

/-- The first mixer's gain as a row. -/
theorem gain_a_entry (c : Dev nD) (k : Fin 1024) :
    (show FVec Ideal S1x1024 .f32 from V m c main_v1) (ix2 0 k) = (show FVec Ideal S1x1024 .f32 from m ((c : Thread nD τ).loc main_arg2)) (ix2 0 k) := by
  have e : (show FVec Ideal S1x1024 .f32 from V m c main_v1) = broadcastInDim S1x1024 ![1] bcast_S1024_S1x1024_1
      (shapeCast S1024 (show FVec Ideal S1x1024 .f32 from m ((c : Thread nD τ).loc main_arg2)) shapeCasts_S1x1024_S1024) := by
    show V m c main_v1 = _
    unfold V
    simp only [hostOps0]
    after_results
    rfl
  rw [e]
  pointwise

/-- The second mixer's gain as a row. -/
theorem gain_b_entry (c : Dev nD) (k : Fin 1024) :
    (show FVec Ideal S1x1024 .f32 from V m c main_v3) (ix2 0 k) = (show FVec Ideal S1x1024 .f32 from m ((c : Thread nD τ).loc main_arg3)) (ix2 0 k) := by
  have e : (show FVec Ideal S1x1024 .f32 from V m c main_v3) = broadcastInDim S1x1024 ![1] bcast_S1024_S1x1024_1
      (shapeCast S1024 (show FVec Ideal S1x1024 .f32 from m ((c : Thread nD τ).loc main_arg3)) shapeCasts_S1x1024_S1024) := by
    show V m c main_v3 = _
    unfold V
    simp only [hostOps0]
    after_results
    rfl
  rw [e]
  pointwise

/-- The gain after mixing as a row. -/
theorem gain_mix_entry (c : Dev nD) (k : Fin 2048) :
    (show FVec Ideal S1x2048 .f32 from V m c main_v8) (ix2 0 k) = (show FVec Ideal S1x2048 .f32 from m ((c : Thread nD τ).loc main_arg6)) (ix2 0 k) := by
  have e : (show FVec Ideal S1x2048 .f32 from V m c main_v8) = broadcastInDim S1x2048 ![1] bcast_S2048_S1x2048_1
      (shapeCast S2048 (show FVec Ideal S1x2048 .f32 from m ((c : Thread nD τ).loc main_arg6)) shapeCasts_S1x2048_S2048) := by
    show V m c main_v8 = _
    unfold V
    simp only [hostOps0]
    after_results
    rfl
  rw [e]
  pointwise

/-- The gain before the feed-forward part as a row. -/
theorem gain_ffn_entry (c : Dev nD) (k : Fin 2048) :
    (show FVec Ideal S1x2048 .f32 from V m c main_v10) (ix2 0 k) = (show FVec Ideal S1x2048 .f32 from m ((c : Thread nD τ).loc main_arg7)) (ix2 0 k) := by
  have e : (show FVec Ideal S1x2048 .f32 from V m c main_v10) = broadcastInDim S1x2048 ![1] bcast_S2048_S1x2048_1
      (shapeCast S2048 (show FVec Ideal S1x2048 .f32 from m ((c : Thread nD τ).loc main_arg7)) shapeCasts_S1x2048_S2048) := by
    show V m c main_v10 = _
    unfold V
    simp only [hostOps0]
    after_results
    rfl
  rw [e]
  pointwise

/-- The weights. -/
theorem weights_entry (c : Dev nD) (k j : Fin 2048) :
    (show FVec Ideal S2048x2048 .bf16 from V m c main_v5) (ix2 k j) = (show FVec Ideal S1x2048x2048 .f32 from m ((c : Thread nD τ).loc main_arg4)) (ix3 0 k j) := by
  have e : (show FVec Ideal S2048x2048 .bf16 from V m c main_v5) = truncf .bf16 (shapeCast S2048x2048
      (show FVec Ideal S1x2048x2048 .f32 from m ((c : Thread nD τ).loc main_arg4)) shapeCasts_S1x2048x2048_S2048x2048) bitsLt_bf16_f32 := by
    show V m c main_v5 = _
    unfold V
    simp only [hostOps0]
    after_results
    rfl
  rw [e]
  pointwise

/-- The residual rows, all batches one after another. -/
theorem residual_entry (c : Dev nD) (r : Fin 16384) (k : Fin 2048) :
    (show FVec Ideal S16384x2048 .f32 from V m c main_v6) (ix2 r k) = (show FVec Ideal S8x2048x2048 .f32 from m ((c : Thread nD τ).loc main_arg5))
        (ix3 ⟨r.val / 2048, by omega⟩ ⟨r.val % 2048, by omega⟩ k) := by
  have e : (show FVec Ideal S16384x2048 .f32 from V m c main_v6) = shapeCast S16384x2048
      (show FVec Ideal S8x2048x2048 .f32 from m ((c : Thread nD τ).loc main_arg5)) shapeCasts_S8x2048x2048_S16384x2048 := by
    show V m c main_v6 = _
    unfold V
    simp only [hostOps0]
    after_results
    rfl
  rw [e]
  pointwise

/-- The down projection's weights. -/
theorem down_entry (c : Dev nD) (k : Fin 5632) (j : Fin 2048) :
    (show FVec Ideal S5632x2048 .f32 from V m c main_v11) (ix2 k j) = (show FVec Ideal S1x5632x2048 .f32 from m ((c : Thread nD τ).loc main_arg8)) (ix3 0 k j) := by
  have e : (show FVec Ideal S5632x2048 .f32 from V m c main_v11) = shapeCast S5632x2048
      (show FVec Ideal S1x5632x2048 .f32 from m ((c : Thread nD τ).loc main_arg8)) shapeCasts_S1x5632x2048_S5632x2048 := by
    show V m c main_v11 = _
    unfold V
    simp only [hostOps0]
    after_results
    rfl
  rw [e]
  pointwise

end Cert.OutEntry

end
-- ==== Proof.OutArray.lean ====
/- What the result arrays of the output projection hold after the run. -/
module

public import proofs.«01_k».proof.Proof.OutBlock
public import proofs.«01_k».proof.Proof.OutEntry
public import Idealize.ShloMosaic.Lib.Pipeline.ValueKit

@[expose] public section

set_option maxRecDepth 16384

noncomputable section

namespace Cert.OutArray

open Cert.OutProjIdeal Cert.OutProjIdeal.Gen Cert.OutBlock
open Idealize.ShloMosaic Idealize.ShloMosaic.TcCoe Idealize.SL.Sem

/-- The first result's block at an index. -/
theorem out_hidden (x0 x1 : FVec Ideal S512x1024 .bf16) (x2 x3 : FVec Ideal S1x1024 .f32) (x4 : FVec Ideal S2048x2048 .bf16)
    (x5 : FVec Ideal S512x2048 .f32) (x6 x7 : FVec Ideal S1x2048 .f32) (x8 : FVec Ideal S176x2048 .f32) (y : S512x2048.Idx) :
    out0_9 (F := Ideal) x0 x1 x2 x3 x4 x5 x6 x7 x8 y
      = hidden (fun k => x0 (ix2 (y 0) k)) (fun k => x1 (ix2 (y 0) k)) (fun k => x2 (ix2 0 k)) (fun k => x3 (ix2 0 k))
        (fun k l => x4 (ix2 ⟨k.val, by omega⟩ l)) (fun k l => x4 (ix2 ⟨1024 + k.val, by omega⟩ l))
        (fun k => x5 (ix2 (y 0) k)) (fun k => x6 (ix2 0 k)) (y 1) := by
  unfold out0_9 k0_pay13 k0_pay12
  canon_tiles x e
  all_goals
    obtain ⟨xr, xc, rfl⟩ : ∃ (xr : Fin 256) (xc : Fin 2048), x = ix2 xr xc := ⟨x 0, x 1, eq_ix2 x⟩
    simp only [ix2_0, ix2_1] at e0 e1
  · exact (hidden_second _ _ _ _ _ _ _ _ xr xc).trans (hidden_congr (fun k => by pointwise; blk_ext) (fun k => by pointwise; blk_ext) (fun k => by pointwise; blk_ext) (fun k => by pointwise; blk_ext)
      (fun k l => by pointwise; blk_ext) (fun k l => by pointwise; blk_ext) (fun k => by pointwise; blk_ext) (fun k => by pointwise; blk_ext) e1.symm)
  · exact (hidden_first _ _ _ _ _ _ _ _ xr xc).trans (hidden_congr (fun k => by pointwise; blk_ext) (fun k => by pointwise; blk_ext) (fun k => by pointwise; blk_ext) (fun k => by pointwise; blk_ext)
      (fun k l => by pointwise; blk_ext) (fun k l => by pointwise; blk_ext) (fun k => by pointwise; blk_ext) (fun k => by pointwise; blk_ext) e1.symm)

/-- The second result's block at an index. -/
theorem out_fed (x0 x1 : FVec Ideal S512x1024 .bf16) (x2 x3 : FVec Ideal S1x1024 .f32) (x4 : FVec Ideal S2048x2048 .bf16)
    (x5 : FVec Ideal S512x2048 .f32) (x6 x7 : FVec Ideal S1x2048 .f32) (x8 : FVec Ideal S176x2048 .f32) (y : S512x2048.Idx) :
    out0_10 (F := Ideal) x0 x1 x2 x3 x4 x5 x6 x7 x8 y
      = fed (fun k => x0 (ix2 (y 0) k)) (fun k => x1 (ix2 (y 0) k)) (fun k => x2 (ix2 0 k)) (fun k => x3 (ix2 0 k))
        (fun k l => x4 (ix2 ⟨k.val, by omega⟩ l)) (fun k l => x4 (ix2 ⟨1024 + k.val, by omega⟩ l))
        (fun k => x5 (ix2 (y 0) k)) (fun k => x6 (ix2 0 k)) (fun k => x7 (ix2 0 k)) (y 1) := by
  unfold out0_10 k0_pay13 k0_pay12
  canon_tiles x e
  all_goals
    obtain ⟨xr, xc, rfl⟩ : ∃ (xr : Fin 256) (xc : Fin 2048), x = ix2 xr xc := ⟨x 0, x 1, eq_ix2 x⟩
    simp only [ix2_0, ix2_1] at e0 e1
  · exact (fed_second _ _ _ _ _ _ _ _ _ xr xc).trans (fed_congr (fun k => by pointwise; blk_ext) (fun k => by pointwise; blk_ext) (fun k => by pointwise; blk_ext) (fun k => by pointwise; blk_ext)
      (fun k l => by pointwise; blk_ext) (fun k l => by pointwise; blk_ext) (fun k => by pointwise; blk_ext) (fun k => by pointwise; blk_ext) (fun k => by pointwise; blk_ext) e1.symm)
  · exact (fed_first _ _ _ _ _ _ _ _ _ xr xc).trans (fed_congr (fun k => by pointwise; blk_ext) (fun k => by pointwise; blk_ext) (fun k => by pointwise; blk_ext) (fun k => by pointwise; blk_ext)
      (fun k l => by pointwise; blk_ext) (fun k l => by pointwise; blk_ext) (fun k => by pointwise; blk_ext) (fun k => by pointwise; blk_ext) (fun k => by pointwise; blk_ext) e1.symm)

/-- The third result's block: the weights' block. -/
theorem out_down (x0 x1 : FVec Ideal S512x1024 .bf16) (x2 x3 : FVec Ideal S1x1024 .f32) (x4 : FVec Ideal S2048x2048 .bf16)
    (x5 : FVec Ideal S512x2048 .f32) (x6 x7 : FVec Ideal S1x2048 .f32) (x8 : FVec Ideal S176x2048 .f32) (y : S176x2048.Idx) :
    out0_11 (F := Ideal) x0 x1 x2 x3 x4 x5 x6 x7 x8 y = x8 y := by
  unfold out0_11
  canon_tiles x e
  pointwise [k0_pay3]
  blk_ext

/-- The block of each window at a grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] ∧ t.val < 32 :=
  (by decide +kernel : ∀ t : Fin grid0.N, _)

/-- A grid point's number is below 32. -/
theorem point_lt (t : Fin cfg0.N) : t.val < 32 := (idx t).2.2.2.2.2.2.2.2.2.2.2.2

/-- The hidden state. -/
def hiddenState (a b : FVec Ideal S16384x1024 .bf16) (ga gb : FVec Ideal S1x1024 .f32) (w : FVec Ideal S1x2048x2048 .f32)
    (x : FVec Ideal S8x2048x2048 .f32) (g : FVec Ideal S1x2048 .f32) :
    FVec Ideal S16384x2048 .f32 := fun i =>
  hidden (fun k => a (ix2 (i 0) k)) (fun k => b (ix2 (i 0) k)) (fun k => ga (ix2 0 k)) (fun k => gb (ix2 0 k))
    (fun k l => w (ix3 0 ⟨k.val, by omega⟩ l)) (fun k l => w (ix3 0 ⟨1024 + k.val, by omega⟩ l))
    (fun k => x (ix3 ⟨(i 0).val / 2048, by have := (i 0).isLt; have : (S16384x2048.size 0) = 16384 := rfl; omega⟩
      ⟨(i 0).val % 2048, by omega⟩ k)) (fun k => g (ix2 0 k)) (i 1)

/-- The hidden state, normalized for the feed-forward part. -/
def feed (a b : FVec Ideal S16384x1024 .bf16) (ga gb : FVec Ideal S1x1024 .f32) (w : FVec Ideal S1x2048x2048 .f32)
    (x : FVec Ideal S8x2048x2048 .f32) (g : FVec Ideal S1x2048 .f32) (f : FVec Ideal S1x2048 .f32) :
    FVec Ideal S16384x2048 .bf16 := fun i =>
  fed (fun k => a (ix2 (i 0) k)) (fun k => b (ix2 (i 0) k)) (fun k => ga (ix2 0 k)) (fun k => gb (ix2 0 k))
    (fun k l => w (ix3 0 ⟨k.val, by omega⟩ l)) (fun k l => w (ix3 0 ⟨1024 + k.val, by omega⟩ l))
    (fun k => x (ix3 ⟨(i 0).val / 2048, by have := (i 0).isLt; have : (S16384x2048.size 0) = 16384 := rfl; omega⟩
      ⟨(i 0).val % 2048, by omega⟩ k)) (fun k => g (ix2 0 k)) (fun k => f (ix2 0 k)) (i 1)

/-- The down projection's weights as a matrix. -/
def downWeights (w : FVec Ideal S1x5632x2048 .f32) : FVec Ideal S5632x2048 .bf16 := fun i => w (ix3 0 (i 0) (i 1))

variable (m : (ℓ : Loc nD τ sig) → Buf (Elt Ideal) ℓ)

/-- The first mixer's block of rows. -/
theorem a_block (c : Dev nD) (t : Fin cfg0.N) (r : Fin 512) (k : Fin 1024) :
    (show FVec Ideal S512x1024 .bf16 from iblk m c 0 t) (ix2 r k)
      = (show FVec Ideal S16384x1024 .bf16 from m ((c : Thread nD τ).loc main_arg0)) (ix2 ⟨t.val * 512 + r.val, by have := point_lt t; omega⟩ k) := by
  refine Eq.trans ?_ (congrFun (V_main_arg0 m c) _)
  blk_ext [iblk, idx t]

/-- The second mixer's block of rows. -/
theorem b_block (c : Dev nD) (t : Fin cfg0.N) (r : Fin 512) (k : Fin 1024) :
    (show FVec Ideal S512x1024 .bf16 from iblk m c 1 t) (ix2 r k)
      = (show FVec Ideal S16384x1024 .bf16 from m ((c : Thread nD τ).loc main_arg1)) (ix2 ⟨t.val * 512 + r.val, by have := point_lt t; omega⟩ k) := by
  refine Eq.trans ?_ (congrFun (V_main_arg1 m c) _)
  blk_ext [iblk, idx t]

/-- The first mixer's gain. -/
theorem ga_block (c : Dev nD) (t : Fin cfg0.N) (k : Fin 1024) :
    (show FVec Ideal S1x1024 .f32 from iblk m c 2 t) (ix2 0 k) = (show FVec Ideal S1x1024 .f32 from m ((c : Thread nD τ).loc main_arg2)) (ix2 0 k) := by
  refine Eq.trans ?_ (OutEntry.gain_a_entry m c k)
  blk_ext [iblk, idx t]

/-- The second mixer's gain. -/
theorem gb_block (c : Dev nD) (t : Fin cfg0.N) (k : Fin 1024) :
    (show FVec Ideal S1x1024 .f32 from iblk m c 3 t) (ix2 0 k) = (show FVec Ideal S1x1024 .f32 from m ((c : Thread nD τ).loc main_arg3)) (ix2 0 k) := by
  refine Eq.trans ?_ (OutEntry.gain_b_entry m c k)
  blk_ext [iblk, idx t]

/-- The weights. -/
theorem w_block (c : Dev nD) (t : Fin cfg0.N) (k j : Fin 2048) :
    (show FVec Ideal S2048x2048 .bf16 from iblk m c 4 t) (ix2 k j) = (show FVec Ideal S1x2048x2048 .f32 from m ((c : Thread nD τ).loc main_arg4)) (ix3 0 k j) := by
  refine Eq.trans ?_ (OutEntry.weights_entry m c k j)
  blk_ext [iblk, idx t]

/-- The residual's block of rows. -/
theorem x_block (c : Dev nD) (t : Fin cfg0.N) (r : Fin 512) (k : Fin 2048) :
    (show FVec Ideal S512x2048 .f32 from iblk m c 5 t) (ix2 r k)
      = (show FVec Ideal S8x2048x2048 .f32 from m ((c : Thread nD τ).loc main_arg5))
        (ix3 ⟨(t.val * 512 + r.val) / 2048, by have := point_lt t; omega⟩ ⟨(t.val * 512 + r.val) % 2048, by omega⟩ k) := by
  refine Eq.trans ?_ (OutEntry.residual_entry m c ⟨t.val * 512 + r.val, by have := point_lt t; omega⟩ k)
  blk_ext [iblk, idx t]

/-- The gain after mixing. -/
theorem g_block (c : Dev nD) (t : Fin cfg0.N) (k : Fin 2048) :
    (show FVec Ideal S1x2048 .f32 from iblk m c 6 t) (ix2 0 k) = (show FVec Ideal S1x2048 .f32 from m ((c : Thread nD τ).loc main_arg6)) (ix2 0 k) := by
  refine Eq.trans ?_ (OutEntry.gain_mix_entry m c k)
  blk_ext [iblk, idx t]

/-- The gain before the feed-forward part. -/
theorem f_block (c : Dev nD) (t : Fin cfg0.N) (k : Fin 2048) :
    (show FVec Ideal S1x2048 .f32 from iblk m c 7 t) (ix2 0 k) = (show FVec Ideal S1x2048 .f32 from m ((c : Thread nD τ).loc main_arg7)) (ix2 0 k) := by
  refine Eq.trans ?_ (OutEntry.gain_ffn_entry m c k)
  blk_ext [iblk, idx t]

/-- The block of the down projection's weights. -/
theorem down_block (c : Dev nD) (t : Fin cfg0.N) (k : Fin 176) (j : Fin 2048) :
    (show FVec Ideal S176x2048 .f32 from iblk m c 8 t) (ix2 k j)
      = (show FVec Ideal S1x5632x2048 .f32 from m ((c : Thread nD τ).loc main_arg8)) (ix3 0 ⟨t.val * 176 + k.val, by have := point_lt t; omega⟩ j) := by
  refine Eq.trans ?_ (OutEntry.down_entry m c ⟨t.val * 176 + k.val, by have := point_lt t; omega⟩ j)
  blk_ext [iblk, idx t]

/-- The place of a block's entry in window 9's array. -/
theorem place9 (t : Fin cfg0.N) (y : S512x2048.Idx) :
    ((win0_9.blk t).view.emb y : S16384x2048.Idx)
      = ix2 ⟨t.val * 512 + (y 0).val, by have := point_lt t; have : (y 0).val < 512 := (y 0).isLt; omega⟩ (y 1) := by
  blk_ext [idx t]

/-- The place of a block's entry in window 10's array. -/
theorem place10 (t : Fin cfg0.N) (y : S512x2048.Idx) :
    ((win0_10.blk t).view.emb y : S16384x2048.Idx)
      = ix2 ⟨t.val * 512 + (y 0).val, by have := point_lt t; have : (y 0).val < 512 := (y 0).isLt; omega⟩ (y 1) := by
  blk_ext [idx t]

/-- The place of a block's entry in window 11's array. -/
theorem place11 (t : Fin cfg0.N) (y : S176x2048.Idx) :
    ((win0_11.blk t).view.emb y : S5632x2048.Idx)
      = ix2 ⟨t.val * 176 + (y 0).val, by have := point_lt t; have : (y 0).val < 176 := (y 0).isLt; omega⟩ (y 1) := by
  blk_ext [idx t]

/-- The first result array is the hidden state. -/
theorem final_hidden (c : Dev nD) : (dats m 0 c).arrAt 9 cfg0.N
    = hiddenState (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c :
    Thread nD τ).loc main_arg6)) := by
  refine (dats m 0 c).arrAt_eq_of_covers 9 _ (by decide +kernel) fun t _ y => ?_
  refine Eq.trans ?_ (congrArg (hiddenState (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c :
    Thread nD τ).loc main_arg6))) (place9 t y)).symm
  blk_simp
  rw [after0_9]
  exact (out_hidden _ _ _ _ _ _ _ _ _ y).trans (hidden_congr (fun k => a_block m c t (y 0) k) (fun k => b_block m c t (y 0) k) (fun k => ga_block m c t k)
    (fun k => gb_block m c t k) (fun k l => w_block m c t _ l) (fun k l => w_block m c t _ l) (fun k => x_block m c t (y 0) k)
    (fun k => g_block m c t k) rfl)

/-- The second result array is the normalized hidden state. -/
theorem final_feed (c : Dev nD) : (dats m 0 c).arrAt 10 cfg0.N
    = feed (m ((c : Thread nD τ).loc main_arg0)) (m ((c : Thread nD τ).loc main_arg1)) (m ((c : Thread nD τ).loc main_arg2)) (m ((c
    : Thread nD τ).loc main_arg3)) (m ((c : Thread nD τ).loc main_arg4)) (m ((c : Thread nD τ).loc main_arg5)) (m ((c : Thread
    nD τ).loc main_arg6)) (m ((c : Thread nD τ).loc main_arg7)) := by
  refine (dats m 0 c).arrAt_eq_of_covers 10 _ (by decide +kernel) fun t _ y => ?_
  refine Eq.trans ?_ (congrArg (feed (m ((c : Thread nD τ).loc main_arg0)) (m ((c : Thread nD τ).loc main_arg1)) (m ((c : Thread nD τ).loc main_arg2)) (m ((c
    : Thread nD τ).loc main_arg3)) (m ((c : Thread nD τ).loc main_arg4)) (m ((c : Thread nD τ).loc main_arg5)) (m ((c : Thread
    nD τ).loc main_arg6)) (m ((c : Thread nD τ).loc main_arg7))) (place10 t y)).symm
  blk_simp
  rw [after0_10]
  exact (out_fed _ _ _ _ _ _ _ _ _ y).trans (fed_congr (fun k => a_block m c t (y 0) k) (fun k => b_block m c t (y 0) k) (fun k => ga_block m c t k)
    (fun k => gb_block m c t k) (fun k l => w_block m c t _ l) (fun k l => w_block m c t _ l) (fun k => x_block m c t (y 0) k)
    (fun k => g_block m c t k) (fun k => f_block m c t k) rfl)

/-- The third result array is the weights. -/
theorem final_down (c : Dev nD) : (dats m 0 c).arrAt 11 cfg0.N
    = downWeights (m ((c : Thread nD τ).loc main_arg8)) := by
  refine (dats m 0 c).arrAt_eq_of_covers 11 _ (by decide +kernel) fun t _ y => ?_
  refine Eq.trans ?_ (congrArg (downWeights (m ((c : Thread nD τ).loc main_arg8))) (place11 t y)).symm
  blk_simp
  rw [after0_11]
  exact (out_down _ _ _ _ _ _ _ _ _ y).trans ((congrArg (iblk m c 8 t) (eq_ix2 y)).trans (down_block m c t (y 0) (y 1)))

end Cert.OutArray

end
-- ==== Proof.OutRef.lean ====
/- The output projection's reference computes the same arrays. -/
module

public import proofs.«01_k».proof.Proof.OutArray
public import proofs.«01_k».proof.Proof.Gen.OutProjRefIdeal.Run
public import Idealize.ShloMosaic.Lib.Pipeline.ValueKit

@[expose] public section

set_option maxRecDepth 16384

noncomputable section

namespace Cert.OutRef

open Cert.OutProjRefIdeal Cert.OutProjRefIdeal.Gen Cert.OutBlock
open Idealize.ShloMosaic Idealize.ShloMosaic.TcCoe Idealize.SL.Sem

/-- A mixer's rows, normalized. -/
def mixer (y : FVec Ideal S16384x1024 .bf16) (g : FVec Ideal S1x1024 .f32) : FVec Ideal S16384x1024 .f32 :=
  mulf (mulf (extf .f32 y bitsLt_bf16_f32) (broadcastInDim S16384x1024 ![0, 1] bcast_S16384x1_S16384x1024_0_1 (Host.rsqrt (addf
    (Host.divf (broadcastInDim S16384x1 ![0] bcast_S16384_S16384x1_0 (Host.reduceAdd (mulf (extf .f32 y bitsLt_bf16_f32) (extf
    .f32 y bitsLt_bf16_f32)) (constant S_ .f32 0x00000000#32) reducesTo_S16384x1024_S16384_d1 h_S_)) (broadcastInDim S16384x1
    ![] bcast_S_S16384x1 (constant S_ .f32 0x44800000#32))) (broadcastInDim S16384x1 ![] bcast_S_S16384x1 (constant S_ .f32
    0x358637BD#32)))))) (broadcastInDim S16384x1024 ![0, 1] bcast_S1x1024_S16384x1024_0_1 (broadcastInDim S1x1024 ![1]
    bcast_S1024_S1x1024_1 (shapeCast S1024 g shapeCasts_S1x1024_S1024)))

/-- An entry of a normalized mixer. -/
theorem mixer_at (y : FVec Ideal S16384x1024 .bf16) (g : FVec Ideal S1x1024 .f32) (r : Fin 16384) (k : Fin 1024) :
    mixer y g (ix2 r k) = normed 0x44800000#32 (fun l => y (ix2 r l)) (fun l => g (ix2 0 l)) k := by
  unfold normed
  pointwise [mixer]

/-- The two mixers' rows side by side. -/
def joined (a b : FVec Ideal S16384x1024 .f32) : FVec Ideal S16384x2048 .f32 :=
  concatenate S16384x2048 1 [⟨S16384x1024, a⟩, ⟨S16384x1024, b⟩] concatenates_S16384x1024_S16384x1024_S16384x2048_d1

/-- The left half of a joined row. -/
theorem joined_left (a b : FVec Ideal S16384x1024 .f32) (r : Fin 16384) (k : Fin 1024) :
    joined a b (ix2 r ⟨k.val, by omega⟩) = a (ix2 r k) := by
  pointwise [joined]

/-- The right half of a joined row. -/
theorem joined_right (a b : FVec Ideal S16384x1024 .f32) (r : Fin 16384) (k : Fin 1024) :
    joined a b (ix2 r ⟨1024 + k.val, by omega⟩) = b (ix2 r k) := by
  pointwise [joined]

/-- The joined rows times the weights. -/
def product (u : FVec Ideal S16384x2048 .f32) (w : FVec Ideal S1x2048x2048 .f32) : FVec Ideal S16384x2048 .f32 :=
  Host.dotGeneral dot_S16384x2048_S2048x2048_S16384x2048_1_0_0_1_n_n none u
    (shapeCast S2048x2048 w shapeCasts_S1x2048x2048_S2048x2048)

/-- A sum over the joined width is the sum over its halves. -/
theorem sum_halves (f : Fin 2048 → EReal) :
    ∑ k, f k = ∑ k : Fin 1024, f ⟨k.val, by omega⟩ + ∑ k : Fin 1024, f ⟨1024 + k.val, by omega⟩ :=
  Fin.sum_univ_add (a := 1024) (b := 1024) f

/-- An entry of the product of joined rows. -/
theorem product_at (a b : FVec Ideal S16384x1024 .f32) (w : FVec Ideal S1x2048x2048 .f32) (r : Fin 16384) (j : Fin 2048) :
    product (joined a b) w (ix2 r j) = (∑ k : Fin 1024, a (ix2 r k) * w (ix3 0 ⟨k.val, by omega⟩ j)
      + ∑ k : Fin 1024, b (ix2 r k) * w (ix3 0 ⟨1024 + k.val, by omega⟩ j) : EReal) := by
  have e : product (joined a b) w (ix2 r j) = (∑ k : Fin 2048, joined a b (ix2 r k) * w (ix3 0 k j) : EReal) := by
    generalize joined a b = u
    pointwise [product]
  rw [e, sum_halves]
  simp only [joined_left, joined_right]

/-- The residual plus the normalized product. -/
def state (p : FVec Ideal S16384x2048 .f32) (x : FVec Ideal S8x2048x2048 .f32) (g : FVec Ideal S1x2048 .f32) :
    FVec Ideal S16384x2048 .f32 :=
  addf (shapeCast S16384x2048 x shapeCasts_S8x2048x2048_S16384x2048) (mulf (mulf p (broadcastInDim S16384x2048 ![0, 1]
    bcast_S16384x1_S16384x2048_0_1 (Host.rsqrt (addf (Host.divf (broadcastInDim S16384x1 ![0] bcast_S16384_S16384x1_0
    (Host.reduceAdd (mulf p p) (constant S_ .f32 0x00000000#32) reducesTo_S16384x2048_S16384_d1 h_S_)) (broadcastInDim
    S16384x1 ![] bcast_S_S16384x1 (constant S_ .f32 0x45000000#32))) (broadcastInDim S16384x1 ![] bcast_S_S16384x1 (constant
    S_ .f32 0x358637BD#32)))))) (broadcastInDim S16384x2048 ![0, 1] bcast_S1x2048_S16384x2048_0_1 (broadcastInDim S1x2048 ![1]
    bcast_S2048_S1x2048_1 (shapeCast S2048 g shapeCasts_S1x2048_S2048))))

/-- An entry of the hidden state. -/
theorem state_at (p : FVec Ideal S16384x2048 .f32) (x : FVec Ideal S8x2048x2048 .f32) (g : FVec Ideal S1x2048 .f32)
    (r : Fin 16384) (j : Fin 2048) :
    state p x g (ix2 r j) = x (ix3 ⟨r.val / 2048, by omega⟩ ⟨r.val % 2048, by omega⟩ j)
      + normed 0x45000000#32 (fun l => p (ix2 r l)) (fun l => g (ix2 0 l)) j := by
  unfold normed
  pointwise [state]

/-- The hidden state, normalized. -/
def fedState (h : FVec Ideal S16384x2048 .f32) (f : FVec Ideal S1x2048 .f32) : FVec Ideal S16384x2048 .bf16 :=
  truncf .bf16 (mulf (mulf h (broadcastInDim S16384x2048 ![0, 1] bcast_S16384x1_S16384x2048_0_1 (Host.rsqrt (addf (Host.divf
    (broadcastInDim S16384x1 ![0] bcast_S16384_S16384x1_0 (Host.reduceAdd (mulf h h) (constant S_ .f32 0x00000000#32)
    reducesTo_S16384x2048_S16384_d1 h_S_)) (broadcastInDim S16384x1 ![] bcast_S_S16384x1 (constant S_ .f32 0x45000000#32)))
    (broadcastInDim S16384x1 ![] bcast_S_S16384x1 (constant S_ .f32 0x358637BD#32)))))) (broadcastInDim S16384x2048 ![0, 1]
    bcast_S1x2048_S16384x2048_0_1 (broadcastInDim S1x2048 ![1] bcast_S2048_S1x2048_1 (shapeCast S2048 f
    shapeCasts_S1x2048_S2048)))) bitsLt_bf16_f32

/-- An entry of the normalized hidden state. -/
theorem fedState_at (h : FVec Ideal S16384x2048 .f32) (f : FVec Ideal S1x2048 .f32) (r : Fin 16384) (j : Fin 2048) :
    fedState h f (ix2 r j) = normed 0x45000000#32 (fun l => h (ix2 r l)) (fun l => f (ix2 0 l)) j := by
  unfold normed
  pointwise [fedState]

/-- The kernel's hidden state is the reference's. -/
theorem hidden_eq (a b : FVec Ideal S16384x1024 .bf16) (ga gb : FVec Ideal S1x1024 .f32) (w : FVec Ideal S1x2048x2048 .f32)
    (x : FVec Ideal S8x2048x2048 .f32) (g : FVec Ideal S1x2048 .f32) :
    OutArray.hiddenState a b ga gb w x g = state (product (joined (mixer a ga) (mixer b gb)) w) x g := by
  funext i
  obtain ⟨r, j, rfl⟩ : ∃ (r : Fin 16384) (j : Fin 2048), i = ix2 r j := ⟨i 0, i 1, eq_ix2 i⟩
  rw [state_at]
  simp only [product_at, mixer_at]
  rfl

/-- The kernel's second result is the reference's. -/
theorem feed_eq (a b : FVec Ideal S16384x1024 .bf16) (ga gb : FVec Ideal S1x1024 .f32) (w : FVec Ideal S1x2048x2048 .f32)
    (x : FVec Ideal S8x2048x2048 .f32) (g : FVec Ideal S1x2048 .f32) (f : FVec Ideal S1x2048 .f32) :
    OutArray.feed a b ga gb w x g f = fedState (state (product (joined (mixer a ga) (mixer b gb)) w) x g) f := by
  rw [← hidden_eq]
  funext i
  obtain ⟨r, j, rfl⟩ : ∃ (r : Fin 16384) (j : Fin 2048), i = ix2 r j := ⟨i 0, i 1, eq_ix2 i⟩
  rw [fedState_at]
  rfl

/-- The kernel's third result is the reference's. -/
theorem down_eq (w : FVec Ideal S1x5632x2048 .f32) : OutArray.downWeights w
    = truncf .bf16 (shapeCast S5632x2048 w shapeCasts_S1x5632x2048_S5632x2048) bitsLt_bf16_f32 := by
  funext i
  obtain ⟨r, j, rfl⟩ : ∃ (r : Fin 5632) (j : Fin 2048), i = ix2 r j := ⟨i 0, i 1, eq_ix2 i⟩
  unfold OutArray.downWeights
  pointwise

/-- What the reference's run leaves in its first result. -/
theorem run_hidden (m : (ℓ : Loc nD τ sig) → Buf (Elt Ideal) ℓ) (c : Dev nD) :
    Value.res_main_v48 (F := Ideal) m c
      = OutArray.hiddenState (m ((c.tc : Thread nD τ).loc main_arg0)) (m ((c.tc : Thread nD τ).loc main_arg1)) (m ((c.tc : Thread nD
    τ).loc main_arg2)) (m ((c.tc : Thread nD τ).loc main_arg3)) (m ((c.tc : Thread nD τ).loc main_arg4)) (m ((c.tc : Thread nD
    τ).loc main_arg5)) (m ((c.tc : Thread nD τ).loc main_arg6)) := by
  rw [hidden_eq]
  unfold Value.res_main_v48 state product joined mixer
  rfl

/-- What the reference's run leaves in its second result. -/
theorem run_feed (m : (ℓ : Loc nD τ sig) → Buf (Elt Ideal) ℓ) (c : Dev nD) :
    Value.res_main_v63 (F := Ideal) m c
      = OutArray.feed (m ((c.tc : Thread nD τ).loc main_arg0)) (m ((c.tc : Thread nD τ).loc main_arg1)) (m ((c.tc : Thread nD τ).loc
    main_arg2)) (m ((c.tc : Thread nD τ).loc main_arg3)) (m ((c.tc : Thread nD τ).loc main_arg4)) (m ((c.tc : Thread nD τ).loc
    main_arg5)) (m ((c.tc : Thread nD τ).loc main_arg6)) (m ((c.tc : Thread nD τ).loc main_arg7)) := by
  rw [feed_eq]
  unfold Value.res_main_v63 fedState state product joined mixer
  rfl

end Cert.OutRef

end
-- ==== Proof.OutClaim.lean ====
/- The output projection's value claim: the kernel's arrays are the reference's. -/
module

public import proofs.«01_k».proof.Defs
public import proofs.«01_k».proof.Proof.OutArray
public import proofs.«01_k».proof.Proof.OutRef
public import proofs.«01_k».proof.Proof.Gen.OutProjIdeal.Frame
public import proofs.«01_k».proof.Proof.Gen.OutProjRefIdeal.Run

@[expose] public section

set_option maxRecDepth 16384

noncomputable section

namespace Cert.OutClaim

open Cert
open Idealize.ShloMosaic Idealize.ShloMosaic.TcCoe Idealize.SL.Sem

/-- The kernel's run: its result arrays named, its arguments as launched. -/
theorem run_result (m : (ℓ : Loc OutProjIdeal.nD OutProjIdeal.τ OutProjIdeal.sig) → Buf (Elt Ideal) ℓ) (ρ : Dev OutProjIdeal.nD → PrngReg) :
    θ_run OutProjIdeal.defs (onTc (τ := OutProjIdeal.τ) (OutProjIdeal.main (F := Ideal))) ⟨m, fun _ => 0, ρ⟩ fun r =>
      ∀ c : Dev OutProjIdeal.nD,
      r.2.mem ((c.tc : Thread OutProjIdeal.nD OutProjIdeal.τ).loc OutProjIdeal.main_v12_0) = (OutProjIdeal.Gen.dats m 0 c).arrAt 9 OutProjIdeal.cfg0.N
      ∧ r.2.mem ((c.tc : Thread OutProjIdeal.nD OutProjIdeal.τ).loc OutProjIdeal.main_v12_1) = (OutProjIdeal.Gen.dats m 0 c).arrAt 10 OutProjIdeal.cfg0.N
      ∧ r.2.mem ((c.tc : Thread OutProjIdeal.nD OutProjIdeal.τ).loc OutProjIdeal.main_v12_2) = (OutProjIdeal.Gen.dats m 0 c).arrAt 11 OutProjIdeal.cfg0.N
      ∧ r.2.mem ((c.tc : Thread OutProjIdeal.nD OutProjIdeal.τ).loc OutProjIdeal.main_arg0)
          = m ((c.tc : Thread OutProjIdeal.nD OutProjIdeal.τ).loc OutProjIdeal.main_arg0)
      ∧ r.2.mem ((c.tc : Thread OutProjIdeal.nD OutProjIdeal.τ).loc OutProjIdeal.main_arg1)
          = m ((c.tc : Thread OutProjIdeal.nD OutProjIdeal.τ).loc OutProjIdeal.main_arg1)
      ∧ r.2.mem ((c.tc : Thread OutProjIdeal.nD OutProjIdeal.τ).loc OutProjIdeal.main_arg2)
          = m ((c.tc : Thread OutProjIdeal.nD OutProjIdeal.τ).loc OutProjIdeal.main_arg2)
      ∧ r.2.mem ((c.tc : Thread OutProjIdeal.nD OutProjIdeal.τ).loc OutProjIdeal.main_arg3)
          = m ((c.tc : Thread OutProjIdeal.nD OutProjIdeal.τ).loc OutProjIdeal.main_arg3)
      ∧ r.2.mem ((c.tc : Thread OutProjIdeal.nD OutProjIdeal.τ).loc OutProjIdeal.main_arg4)
          = m ((c.tc : Thread OutProjIdeal.nD OutProjIdeal.τ).loc OutProjIdeal.main_arg4)
      ∧ r.2.mem ((c.tc : Thread OutProjIdeal.nD OutProjIdeal.τ).loc OutProjIdeal.main_arg5)
          = m ((c.tc : Thread OutProjIdeal.nD OutProjIdeal.τ).loc OutProjIdeal.main_arg5)
      ∧ r.2.mem ((c.tc : Thread OutProjIdeal.nD OutProjIdeal.τ).loc OutProjIdeal.main_arg6)
          = m ((c.tc : Thread OutProjIdeal.nD OutProjIdeal.τ).loc OutProjIdeal.main_arg6)
      ∧ r.2.mem ((c.tc : Thread OutProjIdeal.nD OutProjIdeal.τ).loc OutProjIdeal.main_arg7)
          = m ((c.tc : Thread OutProjIdeal.nD OutProjIdeal.τ).loc OutProjIdeal.main_arg7)
      ∧ r.2.mem ((c.tc : Thread OutProjIdeal.nD OutProjIdeal.τ).loc OutProjIdeal.main_arg8)
          = m ((c.tc : Thread OutProjIdeal.nD OutProjIdeal.τ).loc OutProjIdeal.main_arg8) :=
  (θ_run OutProjIdeal.defs _ _).mono (fun r h c => ⟨(h c).1 9, (h c).1 10, (h c).1 11,
      ((h c).1 0).trans (((OutProjIdeal.Gen.dats m 0 c).arrAt_in 0 rfl _).trans
        ((OutProjIdeal.Gen.A_eq m c 0).trans (OutProjIdeal.Gen.V_main_arg0 m c))),
      ((h c).1 1).trans (((OutProjIdeal.Gen.dats m 0 c).arrAt_in 1 rfl _).trans
        ((OutProjIdeal.Gen.A_eq m c 1).trans (OutProjIdeal.Gen.V_main_arg1 m c))),
      ((h c).2 OutProjIdeal.main_arg2 (Pipeline.mem_restRefs_of OutProjIdeal.main_arg2 (by decide) (by decide))).trans
        (OutProjIdeal.Gen.V_main_arg2 m c),
      ((h c).2 OutProjIdeal.main_arg3 (Pipeline.mem_restRefs_of OutProjIdeal.main_arg3 (by decide) (by decide))).trans
        (OutProjIdeal.Gen.V_main_arg3 m c),
      ((h c).2 OutProjIdeal.main_arg4 (Pipeline.mem_restRefs_of OutProjIdeal.main_arg4 (by decide) (by decide))).trans
        (OutProjIdeal.Gen.V_main_arg4 m c),
      ((h c).2 OutProjIdeal.main_arg5 (Pipeline.mem_restRefs_of OutProjIdeal.main_arg5 (by decide) (by decide))).trans
        (OutProjIdeal.Gen.V_main_arg5 m c),
      ((h c).2 OutProjIdeal.main_arg6 (Pipeline.mem_restRefs_of OutProjIdeal.main_arg6 (by decide) (by decide))).trans
        (OutProjIdeal.Gen.V_main_arg6 m c),
      ((h c).2 OutProjIdeal.main_arg7 (Pipeline.mem_restRefs_of OutProjIdeal.main_arg7 (by decide) (by decide))).trans
        (OutProjIdeal.Gen.V_main_arg7 m c),
      ((h c).2 OutProjIdeal.main_arg8 (Pipeline.mem_restRefs_of OutProjIdeal.main_arg8 (by decide) (by decide))).trans
        (OutProjIdeal.Gen.V_main_arg8 m c)⟩)
    (OutProjIdeal.Gen.run_main m ρ)

/-- From memories agreeing on the arguments the output projection and its reference end with the same arrays. -/
theorem equal : algebraic_OutProjIdeal_OutProjRefIdeal := by
  intro m ρ m' ρ' _ hag
  refine ⟨fun c => OutArray.hiddenState (m ((c.tc : Thread OutProjIdeal.nD OutProjIdeal.τ).loc OutProjIdeal.main_arg0))
    (m ((c.tc : Thread OutProjIdeal.nD OutProjIdeal.τ).loc OutProjIdeal.main_arg1))
    (m ((c.tc : Thread OutProjIdeal.nD OutProjIdeal.τ).loc OutProjIdeal.main_arg2))
    (m ((c.tc : Thread OutProjIdeal.nD OutProjIdeal.τ).loc OutProjIdeal.main_arg3))
    (m ((c.tc : Thread OutProjIdeal.nD OutProjIdeal.τ).loc OutProjIdeal.main_arg4))
    (m ((c.tc : Thread OutProjIdeal.nD OutProjIdeal.τ).loc OutProjIdeal.main_arg5))
    (m ((c.tc : Thread OutProjIdeal.nD OutProjIdeal.τ).loc OutProjIdeal.main_arg6)),
    fun c => OutArray.feed (m ((c.tc : Thread OutProjIdeal.nD OutProjIdeal.τ).loc OutProjIdeal.main_arg0))
    (m ((c.tc : Thread OutProjIdeal.nD OutProjIdeal.τ).loc OutProjIdeal.main_arg1))
    (m ((c.tc : Thread OutProjIdeal.nD OutProjIdeal.τ).loc OutProjIdeal.main_arg2))
    (m ((c.tc : Thread OutProjIdeal.nD OutProjIdeal.τ).loc OutProjIdeal.main_arg3))
    (m ((c.tc : Thread OutProjIdeal.nD OutProjIdeal.τ).loc OutProjIdeal.main_arg4))
    (m ((c.tc : Thread OutProjIdeal.nD OutProjIdeal.τ).loc OutProjIdeal.main_arg5))
    (m ((c.tc : Thread OutProjIdeal.nD OutProjIdeal.τ).loc OutProjIdeal.main_arg6))
    (m ((c.tc : Thread OutProjIdeal.nD OutProjIdeal.τ).loc OutProjIdeal.main_arg7)),
    fun c => OutArray.downWeights (m ((c.tc : Thread OutProjIdeal.nD OutProjIdeal.τ).loc OutProjIdeal.main_arg8)), ?_, ?_⟩
  · exact (θ_run _ _ _).mono (fun r h c => ⟨(h c).1.trans (OutArray.final_hidden m c),
      (h c).2.1.trans (OutArray.final_feed m c), (h c).2.2.1.trans (OutArray.final_down m c), (h c).2.2.2⟩) (run_result m ρ)
  · refine (θ_run _ _ _).mono (fun r h c => ⟨((h c).1.trans (OutRef.run_hidden m' c)).trans ?_,
      ((h c).2.1.trans (OutRef.run_feed m' c)).trans ?_, ((h c).2.2.1.trans (OutRef.down_eq _).symm).trans ?_, (h c).2.2.2⟩)
      (OutProjRefIdeal.Value.run m' ρ')
    · obtain ⟨h0, h1, h2, h3, h4, h5, h6, -⟩ := hag c
      rw [h0, h1, h2, h3, h4, h5, h6]
    · obtain ⟨h0, h1, h2, h3, h4, h5, h6, h7, -⟩ := hag c
      rw [h0, h1, h2, h3, h4, h5, h6, h7]
    · obtain ⟨-, -, -, -, -, -, -, -, h8⟩ := hag c
      rw [h8]

end Cert.OutClaim

end
-- ==== Proof.QkvTile.lean ====
/- The tiles the queries', keys' and values' kernel stores: their entries. -/
module

public import proofs.«01_k».proof.Proof.Gen.QkvIdeal.Skeleton
public import Idealize.ShloMosaic.Lib.Pipeline.ValueKit

@[expose] public section

set_option maxRecDepth 16384

noncomputable section

namespace Cert.QkvTile

open Cert.QkvIdeal Cert.QkvIdeal.Gen
open Idealize.ShloMosaic Idealize.ShloMosaic.TcCoe Idealize.SL.Sem

/-- A row turned by its angles: with the cosines `c` and the sines `s`, the lanes below 32 paired with the lanes 32 above. -/
def turned (x c s : Fin 128 → EReal) (j : Fin 128) : EReal :=
  x j * c j + (if h : j.val < 32 then -x ⟨j.val + 32, by omega⟩ else x ⟨j.val - 32, by omega⟩) * s j

/-- The rotary embedding of 256 rows. -/
def turn (x c s : FVec Ideal S256x128 .f32) : FVec Ideal S256x128 .f32 :=
  addf (mulf x c) (mulf (select (cmpi .slt (iota .tc S256x128 32 [1] iota_S256x128_d1_w32) (broadcast S256x128 32#32))
    (subf (broadcast S256x128 (Scalar.ofBits (F := Ideal) .f32 0x00000000#32)) (dynamicRotate 1 96#32 none x rotates_S256x128_d1))
    (dynamicRotate 1 32#32 none x rotates_S256x128_d1)) s)

/-- The comparison of a lane's number with 32. -/
theorem lane : ∀ j : Fin 128, (j.val < 32 → IntOp.cmpi .slt (BitVec.ofNat 32 j.val) 32#32 = 1#1)
    ∧ (¬ j.val < 32 → IntOp.cmpi .slt (BitVec.ofNat 32 j.val) 32#32 = 0#1) := by decide +kernel

/-- An entry of the rotary embedding. -/
theorem turn_at (x c s : FVec Ideal S256x128 .f32) (r : Fin 256) (j : Fin 128) :
    turn x c s (ix2 r j) = turned (fun l => x (ix2 r l)) (fun l => c (ix2 r l)) (fun l => s (ix2 r l)) j := by
  unfold turned
  pointwise [turn]
  refine congrArg (fun u => (x (ix2 r j) * c (ix2 r j) + u * s (ix2 r j) : EReal)) ?_
  by_cases h : j.val < 32
  · refine (Scalar.select_of_eq_one ((lane j).1 h) _ _).trans (Eq.trans ?_ (dif_pos h).symm)
    refine (zero_sub _).trans (congrArg (fun l : Fin 128 => -x (ix2 r l)) (Fin.ext ?_))
    show (j.val + 128 - 96) % 128 = j.val + 32
    omega
  · refine (Scalar.select_of_eq_zero ((lane j).2 h) _ _).trans (Eq.trans ?_ (dif_neg h).symm)
    refine congrArg (fun l : Fin 128 => x (ix2 r l)) (Fin.ext ?_)
    show (j.val + 128 - 32) % 128 = j.val - 32
    omega

/-- A head's 128 lanes of a product, as a block. -/
def plainTile (o : ℕ) (h : S256x2048.Slices ![0, o] S256x128) (p : FVec Ideal S256x2048 .f32) : FVec Ideal S1x1x256x128 .bf16 :=
  shapeCast S1x1x256x128 (truncf .bf16 (extractStridedSlice S256x128 ![0, o] p h) bitsLt_bf16_f32) shapeCasts_S256x128_S1x1x256x128

/-- A head's 128 lanes of a product, scaled. -/
def scaledTile (o : ℕ) (h : S256x2048.Slices ![0, o] S256x128) (p : FVec Ideal S256x2048 .f32) : FVec Ideal S1x1x256x128 .bf16 :=
  shapeCast S1x1x256x128 (truncf .bf16 (mulf (extractStridedSlice S256x128 ![0, o] p h)
    (broadcast S256x128 (Scalar.ofBits (F := Ideal) .f32 0x3DD53B95#32))) bitsLt_bf16_f32) shapeCasts_S256x128_S1x1x256x128

/-- A head's 128 lanes of a product, turned and scaled. -/
def turnedTile (o : ℕ) (h : S256x2048.Slices ![0, o] S256x128) (p : FVec Ideal S256x2048 .f32) (c s : FVec Ideal S256x128 .f32) :
    FVec Ideal S1x1x256x128 .bf16 :=
  shapeCast S1x1x256x128 (truncf .bf16 (mulf (turn (extractStridedSlice S256x128 ![0, o] p h) c s)
    (broadcast S256x128 (Scalar.ofBits (F := Ideal) .f32 0x3DD53B95#32))) bitsLt_bf16_f32) shapeCasts_S256x128_S1x1x256x128

/-- The shared key's lanes, turned. -/
def keyTile (x : FVec Ideal S256x128 .bf16) (c s : FVec Ideal S256x128 .f32) : FVec Ideal S1x256x128 .bf16 :=
  shapeCast S1x256x128 (truncf .bf16 (turn (extf .f32 x bitsLt_bf16_f32) c s) bitsLt_bf16_f32) shapeCasts_S256x128_S1x256x128

/-- An entry of a plain tile. -/
theorem plainTile_at (o : ℕ) (h : S256x2048.Slices ![0, o] S256x128) (ho : o ≤ 1920) (p : FVec Ideal S256x2048 .f32) (r : Fin 256) (j : Fin 128) :
    plainTile o h p (ix4 0 0 r j) = p (ix2 r ⟨o + j.val, by omega⟩) := by
  pointwise [plainTile]

/-- An entry of a scaled tile. -/
theorem scaledTile_at (o : ℕ) (h : S256x2048.Slices ![0, o] S256x128) (ho : o ≤ 1920) (p : FVec Ideal S256x2048 .f32) (r : Fin 256) (j : Fin 128) :
    scaledTile o h p (ix4 0 0 r j) = (p (ix2 r ⟨o + j.val, by omega⟩) * Ideal.ofBits .f32 0x3DD53B95#32 : EReal) := by
  pointwise [scaledTile]

/-- An entry of a turned tile. -/
theorem turnedTile_at (o : ℕ) (h : S256x2048.Slices ![0, o] S256x128) (ho : o ≤ 1920) (p : FVec Ideal S256x2048 .f32)
    (c s : FVec Ideal S256x128 .f32) (r : Fin 256) (j : Fin 128) :
    turnedTile o h p c s (ix4 0 0 r j) = (turned (fun l => p (ix2 r ⟨o + l.val, by omega⟩)) (fun l => c (ix2 r l))
      (fun l => s (ix2 r l)) j * Ideal.ofBits .f32 0x3DD53B95#32 : EReal) := by
  have e : turnedTile o h p c s (ix4 0 0 r j) = (turn (extractStridedSlice S256x128 ![0, o] p h) c s (ix2 r j)
      * Ideal.ofBits .f32 0x3DD53B95#32 : EReal) := by
    unfold turnedTile
    generalize turn (extractStridedSlice S256x128 ![0, o] p h) c s = u
    pointwise
  rw [e, turn_at]
  refine congrArg (fun f => (turned f (fun l => c (ix2 r l)) (fun l => s (ix2 r l)) j * Ideal.ofBits .f32 0x3DD53B95#32 : EReal)) (funext fun l => ?_)
  pointwise

/-- An entry of the shared key's tile. -/
theorem keyTile_at (x : FVec Ideal S256x128 .bf16) (c s : FVec Ideal S256x128 .f32) (r : Fin 256) (j : Fin 128) :
    keyTile x c s (ix3 0 r j) = turned (fun l => x (ix2 r l)) (fun l => c (ix2 r l)) (fun l => s (ix2 r l)) j := by
  have e : keyTile x c s (ix3 0 r j) = turn (extf .f32 x bitsLt_bf16_f32) c s (ix2 r j) := by
    unfold keyTile
    generalize turn (extf .f32 x bitsLt_bf16_f32) c s = u
    pointwise
  rw [e, turn_at]
  rfl

end Cert.QkvTile

end
-- ==== Proof.QkvChunk.lean ====
/- The products the queries', keys' and values' kernel forms, chunk of rows by chunk of rows. -/
module

public import proofs.«01_k».proof.Proof.OutBlock
public import proofs.«01_k».proof.Proof.Gen.QkvIdeal.Frame
public import Idealize.ShloMosaic.Lib.Pipeline.ValueKit

@[expose] public section

set_option maxRecDepth 16384

noncomputable section

namespace Cert.QkvChunk

open Cert.QkvIdeal Cert.QkvIdeal.Gen Cert.OutBlock
open Idealize.ShloMosaic Idealize.ShloMosaic.TcCoe Idealize.SL.Sem

/-- A normalized row times a matrix; `d` is the row's length as a float. -/
def product {n : ℕ} (d : BitVec 32) (a g : Fin n → EReal) (w : Fin n → Fin 2048 → EReal) (l : Fin 2048) : EReal :=
  ∑ k, normed d a g k * w k l

/-- Equal parts give equal products. -/
theorem product_congr {n : ℕ} {d : BitVec 32} {a a' g g' : Fin n → EReal} {w w' : Fin n → Fin 2048 → EReal} {l l' : Fin 2048}
    (ha : ∀ k, a k = a' k) (hg : ∀ k, g k = g' k) (hw : ∀ k l, w k l = w' k l) (hl : l.val = l'.val) :
    product d a g w l = product d a' g' w' l' := by
  obtain rfl : a = a' := funext ha
  obtain rfl : g = g' := funext hg
  obtain rfl : w = w' := funext fun k => funext (hw k)
  obtain rfl : l = l' := Fin.ext hl
  rfl

/-- The queries' product, first chunk. -/
theorem query_first (v : FVec Ideal S256x512 .bf16) (g : FVec Ideal S1x512 .f32) (w : FVec Ideal S512x2048 .bf16) (r : Fin 256) (l : Fin 2048) :
    k0_pay5 (F := Ideal) v g w (ix2 r l) = product 0x44000000#32 (fun k => v (ix2 r k)) (fun k => g (ix2 0 k)) (fun k l => w (ix2 k l)) l := by
  unfold product normed
  pointwise [k0_pay5]

/-- The queries' product, second chunk. -/
theorem query_second (v : FVec Ideal S256x512 .bf16) (g : FVec Ideal S1x512 .f32) (w : FVec Ideal S512x2048 .bf16) (r : Fin 256) (l : Fin 2048) :
    k0_pay9 (F := Ideal) v g w (ix2 r l) = product 0x44000000#32 (fun k => v (ix2 r k)) (fun k => g (ix2 0 k)) (fun k l => w (ix2 k l)) l := by
  unfold product normed
  pointwise [k0_pay9]

/-- The queries' product, third chunk. -/
theorem query_third (v : FVec Ideal S256x512 .bf16) (g : FVec Ideal S1x512 .f32) (w : FVec Ideal S512x2048 .bf16) (r : Fin 256) (l : Fin 2048) :
    k0_pay76 (F := Ideal) (k0_pay73 v) (k0_pay74 g) (k0_pay75 v) w (ix2 r l) = product 0x44000000#32 (fun k => v (ix2 r k)) (fun k => g (ix2 0 k)) (fun k l => w (ix2 k l)) l := by
  unfold product normed
  pointwise [k0_pay76, k0_pay73, k0_pay74, k0_pay75]

/-- The queries' product, fourth chunk. -/
theorem query_fourth (v : FVec Ideal S256x512 .bf16) (g : FVec Ideal S1x512 .f32) (w : FVec Ideal S512x2048 .bf16) (r : Fin 256) (l : Fin 2048) :
    k0_pay125 (F := Ideal) (k0_pay122 v g) w (ix2 r l) = product 0x44000000#32 (fun k => v (ix2 r k)) (fun k => g (ix2 0 k)) (fun k l => w (ix2 k l)) l := by
  unfold product normed
  pointwise [k0_pay125, k0_pay122]

/-- The keys' and values' product, first chunk. -/
theorem key_first (v : FVec Ideal S256x256 .bf16) (g : FVec Ideal S1x256 .f32) (w : FVec Ideal S256x2048 .bf16) (r : Fin 256) (l : Fin 2048) :
    k0_pay7 (F := Ideal) (k0_pay4 v g) (k0_pay6 w) (ix2 r l) = product 0x43800000#32 (fun k => v (ix2 r k)) (fun k => g (ix2 0 k)) (fun k l => w (ix2 k l)) l := by
  unfold product normed
  pointwise [k0_pay7, k0_pay4, k0_pay6]

/-- The keys' and values' product, second chunk. -/
theorem key_second (v : FVec Ideal S256x256 .bf16) (g : FVec Ideal S1x256 .f32) (w : FVec Ideal S256x2048 .bf16) (r : Fin 256) (l : Fin 2048) :
    k0_pay11 (F := Ideal) (k0_pay8 v g) (k0_pay10 w) (ix2 r l) = product 0x43800000#32 (fun k => v (ix2 r k)) (fun k => g (ix2 0 k)) (fun k l => w (ix2 k l)) l := by
  unfold product normed
  pointwise [k0_pay11, k0_pay8, k0_pay10]

/-- The keys' and values' product, third chunk. -/
theorem key_third (v : FVec Ideal S256x256 .bf16) (g : FVec Ideal S1x256 .f32) (w : FVec Ideal S256x2048 .bf16) (r : Fin 256) (l : Fin 2048) :
    k0_pay77 (F := Ideal) v g w (ix2 r l) = product 0x43800000#32 (fun k => v (ix2 r k)) (fun k => g (ix2 0 k)) (fun k l => w (ix2 k l)) l := by
  unfold product normed
  pointwise [k0_pay77]

/-- The keys' and values' product, fourth chunk. -/
theorem key_fourth (v : FVec Ideal S256x256 .bf16) (g : FVec Ideal S1x256 .f32) (w : FVec Ideal S256x2048 .bf16) (r : Fin 256) (l : Fin 2048) :
    k0_pay126 (F := Ideal) (k0_pay123 v) (k0_pay124 g) w (ix2 r l) = product 0x43800000#32 (fun k => v (ix2 r k)) (fun k => g (ix2 0 k)) (fun k l => w (ix2 k l)) l := by
  unfold product normed
  pointwise [k0_pay126, k0_pay123, k0_pay124]

/-- A row of the queries' product in the first chunk. -/
theorem query_row_first (x0 : FVec Ideal S1024x512 .bf16) (x1 : FVec Ideal S1024x256 .bf16) (x2 : FVec Ideal S1024x128 .bf16)
    (x3 x4 : FVec Ideal S1024x128 .f32) (x5 : FVec Ideal S1x512 .f32) (x6 : FVec Ideal S1x256 .f32) (x7 : FVec Ideal S512x2048 .bf16)
    (x8 : FVec Ideal S256x2048 .bf16)
    (r : Fin 256) (y : Fin 1024) (hy : y.val = 0 + r.val) (l : Fin 2048) : k0_pay216 (F := Ideal) x0 x1 x2 x3 x4 x5 x6 x7 x8 (ix2 r l)
      = product 0x44000000#32 (fun k => x0 (ix2 y k)) (fun k => x5 (ix2 0 k)) (fun k l => x7 (ix2 k l)) l :=
  (query_first _ _ _ r l).trans (product_congr (fun k => by pointwise; blk_ext) (fun k => by pointwise; blk_ext)
    (fun k l => by pointwise; blk_ext) rfl)

/-- A row of the keys' and values' product in the first chunk. -/
theorem key_row_first (x0 : FVec Ideal S1024x512 .bf16) (x1 : FVec Ideal S1024x256 .bf16) (x2 : FVec Ideal S1024x128 .bf16)
    (x3 x4 : FVec Ideal S1024x128 .f32) (x5 : FVec Ideal S1x512 .f32) (x6 : FVec Ideal S1x256 .f32) (x7 : FVec Ideal S512x2048 .bf16)
    (x8 : FVec Ideal S256x2048 .bf16)
    (r : Fin 256) (y : Fin 1024) (hy : y.val = 0 + r.val) (l : Fin 2048) : k0_pay217 (F := Ideal) x0 x1 x2 x3 x4 x5 x6 x7 x8 (ix2 r l)
      = product 0x43800000#32 (fun k => x1 (ix2 y k)) (fun k => x6 (ix2 0 k)) (fun k l => x8 (ix2 k l)) l :=
  (key_first _ _ _ r l).trans (product_congr (fun k => by pointwise; blk_ext) (fun k => by pointwise; blk_ext)
    (fun k l => by pointwise; blk_ext) rfl)

/-- A row of the cosines in the first chunk. -/
theorem cos_row_first (x0 : FVec Ideal S1024x512 .bf16) (x1 : FVec Ideal S1024x256 .bf16) (x2 : FVec Ideal S1024x128 .bf16)
    (x3 x4 : FVec Ideal S1024x128 .f32) (x5 : FVec Ideal S1x512 .f32) (x6 : FVec Ideal S1x256 .f32) (x7 : FVec Ideal S512x2048 .bf16)
    (x8 : FVec Ideal S256x2048 .bf16)
    (r : Fin 256) (y : Fin 1024) (hy : y.val = 0 + r.val) (l : Fin 128) : k0_pay220 (F := Ideal) x0 x1 x2 x3 x4 x5 x6 x7 x8 (ix2 r l) = x3 (ix2 y l) := by
  pointwise [k0_pay220, k0_pay12]
  blk_ext

/-- A row of the sines in the first chunk. -/
theorem sin_row_first (x0 : FVec Ideal S1024x512 .bf16) (x1 : FVec Ideal S1024x256 .bf16) (x2 : FVec Ideal S1024x128 .bf16)
    (x3 x4 : FVec Ideal S1024x128 .f32) (x5 : FVec Ideal S1x512 .f32) (x6 : FVec Ideal S1x256 .f32) (x7 : FVec Ideal S512x2048 .bf16)
    (x8 : FVec Ideal S256x2048 .bf16)
    (r : Fin 256) (y : Fin 1024) (hy : y.val = 0 + r.val) (l : Fin 128) : k0_pay221 (F := Ideal) x0 x1 x2 x3 x4 x5 x6 x7 x8 (ix2 r l) = x4 (ix2 y l) := by
  pointwise [k0_pay221, k0_pay13]
  blk_ext

/-- A row of the queries' product in the second chunk. -/
theorem query_row_second (x0 : FVec Ideal S1024x512 .bf16) (x1 : FVec Ideal S1024x256 .bf16) (x2 : FVec Ideal S1024x128 .bf16)
    (x3 x4 : FVec Ideal S1024x128 .f32) (x5 : FVec Ideal S1x512 .f32) (x6 : FVec Ideal S1x256 .f32) (x7 : FVec Ideal S512x2048 .bf16)
    (x8 : FVec Ideal S256x2048 .bf16)
    (r : Fin 256) (y : Fin 1024) (hy : y.val = 256 + r.val) (l : Fin 2048) : k0_pay218 (F := Ideal) x0 x1 x2 x3 x4 x5 x6 x7 x8 (ix2 r l)
      = product 0x44000000#32 (fun k => x0 (ix2 y k)) (fun k => x5 (ix2 0 k)) (fun k l => x7 (ix2 k l)) l :=
  (query_second _ _ _ r l).trans (product_congr (fun k => by pointwise; blk_ext) (fun k => by pointwise; blk_ext)
    (fun k l => by pointwise; blk_ext) rfl)

/-- A row of the keys' and values' product in the second chunk. -/
theorem key_row_second (x0 : FVec Ideal S1024x512 .bf16) (x1 : FVec Ideal S1024x256 .bf16) (x2 : FVec Ideal S1024x128 .bf16)
    (x3 x4 : FVec Ideal S1024x128 .f32) (x5 : FVec Ideal S1x512 .f32) (x6 : FVec Ideal S1x256 .f32) (x7 : FVec Ideal S512x2048 .bf16)
    (x8 : FVec Ideal S256x2048 .bf16)
    (r : Fin 256) (y : Fin 1024) (hy : y.val = 256 + r.val) (l : Fin 2048) : k0_pay219 (F := Ideal) x0 x1 x2 x3 x4 x5 x6 x7 x8 (ix2 r l)
      = product 0x43800000#32 (fun k => x1 (ix2 y k)) (fun k => x6 (ix2 0 k)) (fun k l => x8 (ix2 k l)) l :=
  (key_second _ _ _ r l).trans (product_congr (fun k => by pointwise; blk_ext) (fun k => by pointwise; blk_ext)
    (fun k l => by pointwise; blk_ext) rfl)

/-- A row of the cosines in the second chunk. -/
theorem cos_row_second (x0 : FVec Ideal S1024x512 .bf16) (x1 : FVec Ideal S1024x256 .bf16) (x2 : FVec Ideal S1024x128 .bf16)
    (x3 x4 : FVec Ideal S1024x128 .f32) (x5 : FVec Ideal S1x512 .f32) (x6 : FVec Ideal S1x256 .f32) (x7 : FVec Ideal S512x2048 .bf16)
    (x8 : FVec Ideal S256x2048 .bf16)
    (r : Fin 256) (y : Fin 1024) (hy : y.val = 256 + r.val) (l : Fin 128) : k0_pay224 (F := Ideal) x0 x1 x2 x3 x4 x5 x6 x7 x8 (ix2 r l) = x3 (ix2 y l) := by
  pointwise [k0_pay224, k0_pay78]
  blk_ext

/-- A row of the sines in the second chunk. -/
theorem sin_row_second (x0 : FVec Ideal S1024x512 .bf16) (x1 : FVec Ideal S1024x256 .bf16) (x2 : FVec Ideal S1024x128 .bf16)
    (x3 x4 : FVec Ideal S1024x128 .f32) (x5 : FVec Ideal S1x512 .f32) (x6 : FVec Ideal S1x256 .f32) (x7 : FVec Ideal S512x2048 .bf16)
    (x8 : FVec Ideal S256x2048 .bf16)
    (r : Fin 256) (y : Fin 1024) (hy : y.val = 256 + r.val) (l : Fin 128) : k0_pay225 (F := Ideal) x0 x1 x2 x3 x4 x5 x6 x7 x8 (ix2 r l) = x4 (ix2 y l) := by
  pointwise [k0_pay225, k0_pay79]
  blk_ext

/-- A row of the queries' product in the third chunk. -/
theorem query_row_third (x0 : FVec Ideal S1024x512 .bf16) (x1 : FVec Ideal S1024x256 .bf16) (x2 : FVec Ideal S1024x128 .bf16)
    (x3 x4 : FVec Ideal S1024x128 .f32) (x5 : FVec Ideal S1x512 .f32) (x6 : FVec Ideal S1x256 .f32) (x7 : FVec Ideal S512x2048 .bf16)
    (x8 : FVec Ideal S256x2048 .bf16)
    (r : Fin 256) (y : Fin 1024) (hy : y.val = 512 + r.val) (l : Fin 2048) : k0_pay222 (F := Ideal) x0 x1 x2 x3 x4 x5 x6 x7 x8 (ix2 r l)
      = product 0x44000000#32 (fun k => x0 (ix2 y k)) (fun k => x5 (ix2 0 k)) (fun k l => x7 (ix2 k l)) l :=
  (query_third _ _ _ r l).trans (product_congr (fun k => by pointwise; blk_ext) (fun k => by pointwise; blk_ext)
    (fun k l => by pointwise; blk_ext) rfl)

/-- A row of the keys' and values' product in the third chunk. -/
theorem key_row_third (x0 : FVec Ideal S1024x512 .bf16) (x1 : FVec Ideal S1024x256 .bf16) (x2 : FVec Ideal S1024x128 .bf16)
    (x3 x4 : FVec Ideal S1024x128 .f32) (x5 : FVec Ideal S1x512 .f32) (x6 : FVec Ideal S1x256 .f32) (x7 : FVec Ideal S512x2048 .bf16)
    (x8 : FVec Ideal S256x2048 .bf16)
    (r : Fin 256) (y : Fin 1024) (hy : y.val = 512 + r.val) (l : Fin 2048) : k0_pay223 (F := Ideal) x0 x1 x2 x3 x4 x5 x6 x7 x8 (ix2 r l)
      = product 0x43800000#32 (fun k => x1 (ix2 y k)) (fun k => x6 (ix2 0 k)) (fun k l => x8 (ix2 k l)) l :=
  (key_third _ _ _ r l).trans (product_congr (fun k => by pointwise; blk_ext) (fun k => by pointwise; blk_ext)
    (fun k l => by pointwise; blk_ext) rfl)

/-- A row of the cosines in the third chunk. -/
theorem cos_row_third (x0 : FVec Ideal S1024x512 .bf16) (x1 : FVec Ideal S1024x256 .bf16) (x2 : FVec Ideal S1024x128 .bf16)
    (x3 x4 : FVec Ideal S1024x128 .f32) (x5 : FVec Ideal S1x512 .f32) (x6 : FVec Ideal S1x256 .f32) (x7 : FVec Ideal S512x2048 .bf16)
    (x8 : FVec Ideal S256x2048 .bf16)
    (r : Fin 256) (y : Fin 1024) (hy : y.val = 512 + r.val) (l : Fin 128) : k0_pay228 (F := Ideal) x0 x1 x2 x3 x4 x5 x6 x7 x8 (ix2 r l) = x3 (ix2 y l) := by
  pointwise [k0_pay228, k0_pay127]
  blk_ext

/-- A row of the sines in the third chunk. -/
theorem sin_row_third (x0 : FVec Ideal S1024x512 .bf16) (x1 : FVec Ideal S1024x256 .bf16) (x2 : FVec Ideal S1024x128 .bf16)
    (x3 x4 : FVec Ideal S1024x128 .f32) (x5 : FVec Ideal S1x512 .f32) (x6 : FVec Ideal S1x256 .f32) (x7 : FVec Ideal S512x2048 .bf16)
    (x8 : FVec Ideal S256x2048 .bf16)
    (r : Fin 256) (y : Fin 1024) (hy : y.val = 512 + r.val) (l : Fin 128) : k0_pay229 (F := Ideal) x0 x1 x2 x3 x4 x5 x6 x7 x8 (ix2 r l) = x4 (ix2 y l) := by
  pointwise [k0_pay229, k0_pay128]
  blk_ext

/-- A row of the queries' product in the fourth chunk. -/
theorem query_row_fourth (x0 : FVec Ideal S1024x512 .bf16) (x1 : FVec Ideal S1024x256 .bf16) (x2 : FVec Ideal S1024x128 .bf16)
    (x3 x4 : FVec Ideal S1024x128 .f32) (x5 : FVec Ideal S1x512 .f32) (x6 : FVec Ideal S1x256 .f32) (x7 : FVec Ideal S512x2048 .bf16)
    (x8 : FVec Ideal S256x2048 .bf16)
    (r : Fin 256) (y : Fin 1024) (hy : y.val = 768 + r.val) (l : Fin 2048) : k0_pay226 (F := Ideal) x0 x1 x2 x3 x4 x5 x6 x7 x8 (ix2 r l)
      = product 0x44000000#32 (fun k => x0 (ix2 y k)) (fun k => x5 (ix2 0 k)) (fun k l => x7 (ix2 k l)) l :=
  (query_fourth _ _ _ r l).trans (product_congr (fun k => by pointwise; blk_ext) (fun k => by pointwise; blk_ext)
    (fun k l => by pointwise; blk_ext) rfl)

/-- A row of the keys' and values' product in the fourth chunk. -/
theorem key_row_fourth (x0 : FVec Ideal S1024x512 .bf16) (x1 : FVec Ideal S1024x256 .bf16) (x2 : FVec Ideal S1024x128 .bf16)
    (x3 x4 : FVec Ideal S1024x128 .f32) (x5 : FVec Ideal S1x512 .f32) (x6 : FVec Ideal S1x256 .f32) (x7 : FVec Ideal S512x2048 .bf16)
    (x8 : FVec Ideal S256x2048 .bf16)
    (r : Fin 256) (y : Fin 1024) (hy : y.val = 768 + r.val) (l : Fin 2048) : k0_pay227 (F := Ideal) x0 x1 x2 x3 x4 x5 x6 x7 x8 (ix2 r l)
      = product 0x43800000#32 (fun k => x1 (ix2 y k)) (fun k => x6 (ix2 0 k)) (fun k l => x8 (ix2 k l)) l :=
  (key_fourth _ _ _ r l).trans (product_congr (fun k => by pointwise; blk_ext) (fun k => by pointwise; blk_ext)
    (fun k l => by pointwise; blk_ext) rfl)

/-- A row of the cosines in the fourth chunk. -/
theorem cos_row_fourth (x0 : FVec Ideal S1024x512 .bf16) (x1 : FVec Ideal S1024x256 .bf16) (x2 : FVec Ideal S1024x128 .bf16)
    (x3 x4 : FVec Ideal S1024x128 .f32) (x5 : FVec Ideal S1x512 .f32) (x6 : FVec Ideal S1x256 .f32) (x7 : FVec Ideal S512x2048 .bf16)
    (x8 : FVec Ideal S256x2048 .bf16)
    (r : Fin 256) (y : Fin 1024) (hy : y.val = 768 + r.val) (l : Fin 128) : k0_pay230 (F := Ideal) x0 x1 x2 x3 x4 x5 x6 x7 x8 (ix2 r l) = x3 (ix2 y l) := by
  pointwise [k0_pay230, k0_pay169]
  blk_ext

/-- A row of the sines in the fourth chunk. -/
theorem sin_row_fourth (x0 : FVec Ideal S1024x512 .bf16) (x1 : FVec Ideal S1024x256 .bf16) (x2 : FVec Ideal S1024x128 .bf16)
    (x3 x4 : FVec Ideal S1024x128 .f32) (x5 : FVec Ideal S1x512 .f32) (x6 : FVec Ideal S1x256 .f32) (x7 : FVec Ideal S512x2048 .bf16)
    (x8 : FVec Ideal S256x2048 .bf16)
    (r : Fin 256) (y : Fin 1024) (hy : y.val = 768 + r.val) (l : Fin 128) : k0_pay231 (F := Ideal) x0 x1 x2 x3 x4 x5 x6 x7 x8 (ix2 r l) = x4 (ix2 y l) := by
  pointwise [k0_pay231, k0_pay170]
  blk_ext

end Cert.QkvChunk

end
-- ==== Proof.QkvCases.lean ====
/- An entry of a stored tile as an entry of the result's block. -/
module

public import proofs.«01_k».proof.Proof.QkvTile
public import proofs.«01_k».proof.Proof.QkvChunk

@[expose] public section

set_option maxRecDepth 16384

noncomputable section

namespace Cert.QkvCases

open Cert.QkvIdeal Cert.QkvIdeal.Gen Cert.QkvTile Cert.QkvChunk
open Idealize.ShloMosaic Idealize.ShloMosaic.TcCoe Idealize.SL.Sem

/-- A query's lane: the first 128 scaled, the others turned and scaled. -/
def queryLane (a g : Fin 512 → EReal) (w : Fin 512 → Fin 2048 → EReal) (c s : Fin 128 → EReal) (h : Fin 8) (j : Fin 256) : EReal :=
  if hj : j.val < 128 then product 0x44000000#32 a g w ⟨256 * h.val + j.val, by omega⟩ * Ideal.ofBits .f32 0x3DD53B95#32
  else turned (fun l => product 0x44000000#32 a g w ⟨256 * h.val + 128 + l.val, by omega⟩) c s ⟨j.val - 128, by omega⟩
    * Ideal.ofBits .f32 0x3DD53B95#32

/-- A scaled tile's entry is a query's lane. -/
theorem scaled_case (o : ℕ) (ho : o ≤ 1920) (hs : S256x2048.Slices ![0, o] S256x128) {p : FVec Ideal S256x2048 .f32}
    {a g : Fin 512 → EReal} {w : Fin 512 → Fin 2048 → EReal} {c s : Fin 128 → EReal} {h : Fin 8} {j : Fin 256} {r : Fin 256} {l : Fin 128}
    (hp : ∀ k, p (ix2 r k) = product 0x44000000#32 a g w k) (hh : o = 256 * h.val) (hj : j.val = l.val) :
    scaledTile o hs p (ix4 0 0 r l) = queryLane a g w c s h j := by
  rw [scaledTile_at o hs ho, hp]
  refine Eq.trans ?_ (dif_pos (show j.val < 128 by omega)).symm
  refine congrArg (fun k => (product 0x44000000#32 a g w k * Ideal.ofBits .f32 0x3DD53B95#32 : EReal)) (Fin.ext ?_)
  show o + l.val = 256 * h.val + j.val
  omega

/-- A turned tile's entry is a query's lane. -/
theorem turned_case (o : ℕ) (ho : o ≤ 1920) (hs : S256x2048.Slices ![0, o] S256x128) {p : FVec Ideal S256x2048 .f32}
    {c' s' : FVec Ideal S256x128 .f32} {a g : Fin 512 → EReal} {w : Fin 512 → Fin 2048 → EReal} {c s : Fin 128 → EReal} {h : Fin 8}
    {j : Fin 256} {r : Fin 256} {l : Fin 128} (hp : ∀ k, p (ix2 r k) = product 0x44000000#32 a g w k) (hc : ∀ k, c' (ix2 r k) = c k)
    (hs' : ∀ k, s' (ix2 r k) = s k) (hh : o = 256 * h.val + 128) (hj : j.val = 128 + l.val) :
    turnedTile o hs p c' s' (ix4 0 0 r l) = queryLane a g w c s h j := by
  rw [turnedTile_at o hs ho, show (fun k => c' (ix2 r k)) = c from funext hc, show (fun k => s' (ix2 r k)) = s from funext hs']
  refine Eq.trans ?_ (dif_neg (show ¬ j.val < 128 by omega)).symm
  refine congrArg₂ (fun f i => (turned f c s i * Ideal.ofBits .f32 0x3DD53B95#32 : EReal)) (funext fun k => ?_)
    (Fin.ext (show l.val = j.val - 128 by omega))
  exact (hp _).trans (product_congr (fun _ => rfl) (fun _ => rfl) (fun _ _ => rfl) (by simp only []; omega))

/-- A plain tile's entry is a lane of a key or a value, whose columns begin at `o`. -/
theorem plain_case (o : ℕ) (ho : o ≤ 1920) (hs : S256x2048.Slices ![0, o] S256x128) {p : FVec Ideal S256x2048 .f32}
    {a g : Fin 256 → EReal} {w : Fin 256 → Fin 2048 → EReal} {r : Fin 256} {l : Fin 128} {k : Fin 2048}
    (hp : ∀ k, p (ix2 r k) = product 0x43800000#32 a g w k) (hk : k.val = o + l.val) :
    plainTile o hs p (ix4 0 0 r l) = product 0x43800000#32 a g w k := by
  rw [plainTile_at o hs ho, hp]
  exact product_congr (fun _ => rfl) (fun _ => rfl) (fun _ _ => rfl) hk.symm

/-- The shared key's tile's entry. -/
theorem shared_case {x' : FVec Ideal S256x128 .bf16} {c' s' : FVec Ideal S256x128 .f32} {x c s : Fin 128 → EReal} {r : Fin 256}
    {l j : Fin 128} (hx : ∀ k, x' (ix2 r k) = x k) (hc : ∀ k, c' (ix2 r k) = c k) (hs : ∀ k, s' (ix2 r k) = s k) (hj : j.val = l.val) :
    keyTile x' c' s' (ix3 0 r l) = turned x c s j := by
  obtain rfl : j = l := Fin.ext hj
  rw [keyTile_at, show (fun k => c' (ix2 r k)) = c from funext hc, show (fun k => s' (ix2 r k)) = s from funext hs,
    show (fun k => x' (ix2 r k)) = x from funext hx]

end Cert.QkvCases

end
-- ==== Proof.QkvQueryTiles.lean ====
/- The queries' stored blocks as tiles. -/
module

public import proofs.«01_k».proof.Proof.QkvTile
public import proofs.«01_k».proof.Proof.Gen.QkvIdeal.Frame

@[expose] public section

set_option maxRecDepth 16384

noncomputable section

namespace Cert.QkvQueryTiles

open Cert.QkvIdeal Cert.QkvIdeal.Gen Cert.QkvTile
open Idealize.ShloMosaic Idealize.ShloMosaic.TcCoe Idealize.SL.Sem
/-- The turned lanes of head 7, fourth chunk. -/
theorem turned_fourth_7 (p : FVec Ideal S256x2048 .f32) (c s : FVec Ideal S256x128 .f32) :
    k0_pay1 (F := Ideal) (k0_pay215 c s (k0_pay212 p))
      = turnedTile 1920 slices_S256x2048_o0_1920_S256x128 p c s := rfl

/-- The plain lanes of head 7, fourth chunk. -/
theorem scaled_fourth_7 (p : FVec Ideal S256x2048 .f32) :
    k0_pay214 (F := Ideal) (k0_pay213 p) = scaledTile 1792 slices_S256x2048_o0_1792_S256x128 p := rfl

/-- The turned lanes of head 6, fourth chunk. -/
theorem turned_fourth_6 (p : FVec Ideal S256x2048 .f32) (c s : FVec Ideal S256x128 .f32) :
    k0_pay209 (F := Ideal) c s (k0_pay206 p)
      = turnedTile 1664 slices_S256x2048_o0_1664_S256x128 p c s := rfl

/-- The plain lanes of head 6, fourth chunk. -/
theorem scaled_fourth_6 (p : FVec Ideal S256x2048 .f32) :
    k0_pay208 (F := Ideal) (k0_pay207 p) = scaledTile 1536 slices_S256x2048_o0_1536_S256x128 p := rfl

/-- The turned lanes of head 5, fourth chunk. -/
theorem turned_fourth_5 (p : FVec Ideal S256x2048 .f32) (c s : FVec Ideal S256x128 .f32) :
    k0_pay203 (F := Ideal) c s (k0_pay200 p)
      = turnedTile 1408 slices_S256x2048_o0_1408_S256x128 p c s := rfl

/-- The plain lanes of head 5, fourth chunk. -/
theorem scaled_fourth_5 (p : FVec Ideal S256x2048 .f32) :
    k0_pay202 (F := Ideal) (k0_pay201 p) = scaledTile 1280 slices_S256x2048_o0_1280_S256x128 p := rfl

/-- The turned lanes of head 4, fourth chunk. -/
theorem turned_fourth_4 (p : FVec Ideal S256x2048 .f32) (c s : FVec Ideal S256x128 .f32) :
    k0_pay197 (F := Ideal) c s (k0_pay194 p)
      = turnedTile 1152 slices_S256x2048_o0_1152_S256x128 p c s := rfl

/-- The plain lanes of head 4, fourth chunk. -/
theorem scaled_fourth_4 (p : FVec Ideal S256x2048 .f32) :
    k0_pay196 (F := Ideal) (k0_pay195 p) = scaledTile 1024 slices_S256x2048_o0_1024_S256x128 p := rfl

/-- The turned lanes of head 3, fourth chunk. -/
theorem turned_fourth_3 (p : FVec Ideal S256x2048 .f32) (c s : FVec Ideal S256x128 .f32) :
    k0_pay191 (F := Ideal) c s (k0_pay188 p)
      = turnedTile 896 slices_S256x2048_o0_896_S256x128 p c s := rfl

/-- The plain lanes of head 3, fourth chunk. -/
theorem scaled_fourth_3 (p : FVec Ideal S256x2048 .f32) :
    k0_pay190 (F := Ideal) (k0_pay189 p) = scaledTile 768 slices_S256x2048_o0_768_S256x128 p := rfl

/-- The turned lanes of head 2, fourth chunk. -/
theorem turned_fourth_2 (p : FVec Ideal S256x2048 .f32) (c s : FVec Ideal S256x128 .f32) :
    k0_pay185 (F := Ideal) c s (k0_pay182 p)
      = turnedTile 640 slices_S256x2048_o0_640_S256x128 p c s := rfl

/-- The plain lanes of head 2, fourth chunk. -/
theorem scaled_fourth_2 (p : FVec Ideal S256x2048 .f32) :
    k0_pay184 (F := Ideal) (k0_pay183 p) = scaledTile 512 slices_S256x2048_o0_512_S256x128 p := rfl

/-- The turned lanes of head 1, fourth chunk. -/
theorem turned_fourth_1 (p : FVec Ideal S256x2048 .f32) (c s : FVec Ideal S256x128 .f32) :
    k0_pay179 (F := Ideal) c s (k0_pay177 p)
      = turnedTile 384 slices_S256x2048_o0_384_S256x128 p c s := rfl

/-- The plain lanes of head 1, fourth chunk. -/
theorem scaled_fourth_1 (p : FVec Ideal S256x2048 .f32) :
    k0_pay178 (F := Ideal) p = scaledTile 256 slices_S256x2048_o0_256_S256x128 p := rfl

/-- The turned lanes of head 0, fourth chunk. -/
theorem turned_fourth_0 (p : FVec Ideal S256x2048 .f32) (c s : FVec Ideal S256x128 .f32) :
    k0_pay174 (F := Ideal) c s (k0_pay172 p)
      = turnedTile 128 slices_S256x2048_o0_128_S256x128 p c s := rfl

/-- The plain lanes of head 0, fourth chunk. -/
theorem scaled_fourth_0 (p : FVec Ideal S256x2048 .f32) :
    k0_pay173 (F := Ideal) p = scaledTile 0 slices_S256x2048_o0_0_S256x128 p := rfl

/-- The turned lanes of head 7, third chunk. -/
theorem turned_third_7 (p : FVec Ideal S256x2048 .f32) (c s : FVec Ideal S256x128 .f32) :
    k0_pay166 (F := Ideal) p c s
      = turnedTile 1920 slices_S256x2048_o0_1920_S256x128 p c s := rfl

/-- The plain lanes of head 7, third chunk. -/
theorem scaled_third_7 (p : FVec Ideal S256x2048 .f32) :
    k0_pay165 (F := Ideal) p = scaledTile 1792 slices_S256x2048_o0_1792_S256x128 p := rfl

/-- The turned lanes of head 6, third chunk. -/
theorem turned_third_6 (p : FVec Ideal S256x2048 .f32) (c s : FVec Ideal S256x128 .f32) :
    k0_pay162 (F := Ideal) p c s
      = turnedTile 1664 slices_S256x2048_o0_1664_S256x128 p c s := rfl

/-- The plain lanes of head 6, third chunk. -/
theorem scaled_third_6 (p : FVec Ideal S256x2048 .f32) :
    k0_pay161 (F := Ideal) p = scaledTile 1536 slices_S256x2048_o0_1536_S256x128 p := rfl

/-- The turned lanes of head 5, third chunk. -/
theorem turned_third_5 (p : FVec Ideal S256x2048 .f32) (c s : FVec Ideal S256x128 .f32) :
    k0_pay157 (F := Ideal) p c s
      = turnedTile 1408 slices_S256x2048_o0_1408_S256x128 p c s := rfl

/-- The plain lanes of head 5, third chunk. -/
theorem scaled_third_5 (p : FVec Ideal S256x2048 .f32) :
    k0_pay156 (F := Ideal) p = scaledTile 1280 slices_S256x2048_o0_1280_S256x128 p := rfl

/-- The turned lanes of head 4, third chunk. -/
theorem turned_third_4 (p : FVec Ideal S256x2048 .f32) (c s : FVec Ideal S256x128 .f32) :
    k0_pay152 (F := Ideal) p c s
      = turnedTile 1152 slices_S256x2048_o0_1152_S256x128 p c s := rfl

/-- The plain lanes of head 4, third chunk. -/
theorem scaled_third_4 (p : FVec Ideal S256x2048 .f32) :
    k0_pay151 (F := Ideal) p = scaledTile 1024 slices_S256x2048_o0_1024_S256x128 p := rfl

/-- The turned lanes of head 3, third chunk. -/
theorem turned_third_3 (p : FVec Ideal S256x2048 .f32) (c s : FVec Ideal S256x128 .f32) :
    k0_pay147 (F := Ideal) p c s
      = turnedTile 896 slices_S256x2048_o0_896_S256x128 p c s := rfl

/-- The plain lanes of head 3, third chunk. -/
theorem scaled_third_3 (p : FVec Ideal S256x2048 .f32) :
    k0_pay146 (F := Ideal) p = scaledTile 768 slices_S256x2048_o0_768_S256x128 p := rfl

/-- The turned lanes of head 2, third chunk. -/
theorem turned_third_2 (p : FVec Ideal S256x2048 .f32) (c s : FVec Ideal S256x128 .f32) :
    k0_pay142 (F := Ideal) p c s
      = turnedTile 640 slices_S256x2048_o0_640_S256x128 p c s := rfl

/-- The plain lanes of head 2, third chunk. -/
theorem scaled_third_2 (p : FVec Ideal S256x2048 .f32) :
    k0_pay141 (F := Ideal) p = scaledTile 512 slices_S256x2048_o0_512_S256x128 p := rfl

/-- The turned lanes of head 1, third chunk. -/
theorem turned_third_1 (p : FVec Ideal S256x2048 .f32) (c s : FVec Ideal S256x128 .f32) :
    k0_pay137 (F := Ideal) p c s
      = turnedTile 384 slices_S256x2048_o0_384_S256x128 p c s := rfl

/-- The plain lanes of head 1, third chunk. -/
theorem scaled_third_1 (p : FVec Ideal S256x2048 .f32) :
    k0_pay136 (F := Ideal) p = scaledTile 256 slices_S256x2048_o0_256_S256x128 p := rfl

/-- The turned lanes of head 0, third chunk. -/
theorem turned_third_0 (p : FVec Ideal S256x2048 .f32) (c s : FVec Ideal S256x128 .f32) :
    k0_pay132 (F := Ideal) p c s
      = turnedTile 128 slices_S256x2048_o0_128_S256x128 p c s := rfl

/-- The plain lanes of head 0, third chunk. -/
theorem scaled_third_0 (p : FVec Ideal S256x2048 .f32) :
    k0_pay131 (F := Ideal) p = scaledTile 0 slices_S256x2048_o0_0_S256x128 p := rfl

/-- The turned lanes of head 7, second chunk. -/
theorem turned_second_7 (p : FVec Ideal S256x2048 .f32) (c s : FVec Ideal S256x128 .f32) :
    k0_pay119 (F := Ideal) (k0_pay118 p c s)
      = turnedTile 1920 slices_S256x2048_o0_1920_S256x128 p c s := rfl

/-- The plain lanes of head 7, second chunk. -/
theorem scaled_second_7 (p : FVec Ideal S256x2048 .f32) :
    k0_pay117 (F := Ideal) p = scaledTile 1792 slices_S256x2048_o0_1792_S256x128 p := rfl

/-- The turned lanes of head 6, second chunk. -/
theorem turned_second_6 (p : FVec Ideal S256x2048 .f32) (c s : FVec Ideal S256x128 .f32) :
    k0_pay114 (F := Ideal) (k0_pay113 p c s)
      = turnedTile 1664 slices_S256x2048_o0_1664_S256x128 p c s := rfl

/-- The plain lanes of head 6, second chunk. -/
theorem scaled_second_6 (p : FVec Ideal S256x2048 .f32) :
    k0_pay112 (F := Ideal) p = scaledTile 1536 slices_S256x2048_o0_1536_S256x128 p := rfl

/-- The turned lanes of head 5, second chunk. -/
theorem turned_second_5 (p : FVec Ideal S256x2048 .f32) (c s : FVec Ideal S256x128 .f32) :
    k0_pay109 (F := Ideal) (k0_pay108 p c s)
      = turnedTile 1408 slices_S256x2048_o0_1408_S256x128 p c s := rfl

/-- The plain lanes of head 5, second chunk. -/
theorem scaled_second_5 (p : FVec Ideal S256x2048 .f32) :
    k0_pay107 (F := Ideal) p = scaledTile 1280 slices_S256x2048_o0_1280_S256x128 p := rfl

/-- The turned lanes of head 4, second chunk. -/
theorem turned_second_4 (p : FVec Ideal S256x2048 .f32) (c s : FVec Ideal S256x128 .f32) :
    k0_pay104 (F := Ideal) (k0_pay103 p c s)
      = turnedTile 1152 slices_S256x2048_o0_1152_S256x128 p c s := rfl

/-- The plain lanes of head 4, second chunk. -/
theorem scaled_second_4 (p : FVec Ideal S256x2048 .f32) :
    k0_pay102 (F := Ideal) p = scaledTile 1024 slices_S256x2048_o0_1024_S256x128 p := rfl

/-- The turned lanes of head 3, second chunk. -/
theorem turned_second_3 (p : FVec Ideal S256x2048 .f32) (c s : FVec Ideal S256x128 .f32) :
    k0_pay99 (F := Ideal) (k0_pay98 p c s)
      = turnedTile 896 slices_S256x2048_o0_896_S256x128 p c s := rfl

/-- The plain lanes of head 3, second chunk. -/
theorem scaled_second_3 (p : FVec Ideal S256x2048 .f32) :
    k0_pay97 (F := Ideal) p = scaledTile 768 slices_S256x2048_o0_768_S256x128 p := rfl

/-- The turned lanes of head 2, second chunk. -/
theorem turned_second_2 (p : FVec Ideal S256x2048 .f32) (c s : FVec Ideal S256x128 .f32) :
    k0_pay94 (F := Ideal) (k0_pay93 p c s)
      = turnedTile 640 slices_S256x2048_o0_640_S256x128 p c s := rfl

/-- The plain lanes of head 2, second chunk. -/
theorem scaled_second_2 (p : FVec Ideal S256x2048 .f32) :
    k0_pay92 (F := Ideal) p = scaledTile 512 slices_S256x2048_o0_512_S256x128 p := rfl

/-- The turned lanes of head 1, second chunk. -/
theorem turned_second_1 (p : FVec Ideal S256x2048 .f32) (c s : FVec Ideal S256x128 .f32) :
    k0_pay89 (F := Ideal) (k0_pay88 p c s)
      = turnedTile 384 slices_S256x2048_o0_384_S256x128 p c s := rfl

/-- The plain lanes of head 1, second chunk. -/
theorem scaled_second_1 (p : FVec Ideal S256x2048 .f32) :
    k0_pay87 (F := Ideal) p = scaledTile 256 slices_S256x2048_o0_256_S256x128 p := rfl

/-- The turned lanes of head 0, second chunk. -/
theorem turned_second_0 (p : FVec Ideal S256x2048 .f32) (c s : FVec Ideal S256x128 .f32) :
    k0_pay84 (F := Ideal) p c s
      = turnedTile 128 slices_S256x2048_o0_128_S256x128 p c s := rfl

/-- The plain lanes of head 0, second chunk. -/
theorem scaled_second_0 (p : FVec Ideal S256x2048 .f32) :
    k0_pay83 (F := Ideal) p = scaledTile 0 slices_S256x2048_o0_0_S256x128 p := rfl

/-- The turned lanes of head 7, first chunk. -/
theorem turned_first_7 (p : FVec Ideal S256x2048 .f32) (c s : FVec Ideal S256x128 .f32) :
    k0_pay70 (F := Ideal) s (k0_pay67 p) (k0_pay69 p c) (iota .tc S256x128 32 [1] iota_S256x128_d1_w32)
      = turnedTile 1920 slices_S256x2048_o0_1920_S256x128 p c s := rfl

/-- The plain lanes of head 7, first chunk. -/
theorem scaled_first_7 (p : FVec Ideal S256x2048 .f32) :
    k0_pay68 (F := Ideal) p = scaledTile 1792 slices_S256x2048_o0_1792_S256x128 p := rfl

/-- The turned lanes of head 6, first chunk. -/
theorem turned_first_6 (p : FVec Ideal S256x2048 .f32) (c s : FVec Ideal S256x128 .f32) :
    k0_pay64 (F := Ideal) s (k0_pay61 p) (k0_pay63 p c) (iota .tc S256x128 32 [1] iota_S256x128_d1_w32) 32#32
      = turnedTile 1664 slices_S256x2048_o0_1664_S256x128 p c s := rfl

/-- The plain lanes of head 6, first chunk. -/
theorem scaled_first_6 (p : FVec Ideal S256x2048 .f32) :
    k0_pay62 (F := Ideal) p = scaledTile 1536 slices_S256x2048_o0_1536_S256x128 p := rfl

/-- The turned lanes of head 5, first chunk. -/
theorem turned_first_5 (p : FVec Ideal S256x2048 .f32) (c s : FVec Ideal S256x128 .f32) :
    k0_pay58 (F := Ideal) s (k0_pay54 p) (k0_pay56 p c) (iota .tc S256x128 32 [1] iota_S256x128_d1_w32) k0_pay57
      = turnedTile 1408 slices_S256x2048_o0_1408_S256x128 p c s := rfl

/-- The plain lanes of head 5, first chunk. -/
theorem scaled_first_5 (p : FVec Ideal S256x2048 .f32) :
    k0_pay55 (F := Ideal) p = scaledTile 1280 slices_S256x2048_o0_1280_S256x128 p := rfl

/-- The turned lanes of head 4, first chunk. -/
theorem turned_first_4 (p : FVec Ideal S256x2048 .f32) (c s : FVec Ideal S256x128 .f32) :
    k0_pay51 (F := Ideal) s (k0_pay47 p) (k0_pay49 p c) k0_pay50
      = turnedTile 1152 slices_S256x2048_o0_1152_S256x128 p c s := rfl

/-- The plain lanes of head 4, first chunk. -/
theorem scaled_first_4 (p : FVec Ideal S256x2048 .f32) :
    k0_pay48 (F := Ideal) p = scaledTile 1024 slices_S256x2048_o0_1024_S256x128 p := rfl

/-- The turned lanes of head 3, first chunk. -/
theorem turned_first_3 (p : FVec Ideal S256x2048 .f32) (c s : FVec Ideal S256x128 .f32) :
    k0_pay44 (F := Ideal) s (k0_pay40 p) (k0_pay42 p c) k0_pay43 96#32
      = turnedTile 896 slices_S256x2048_o0_896_S256x128 p c s := rfl

/-- The plain lanes of head 3, first chunk. -/
theorem scaled_first_3 (p : FVec Ideal S256x2048 .f32) :
    k0_pay41 (F := Ideal) p = scaledTile 768 slices_S256x2048_o0_768_S256x128 p := rfl

/-- The turned lanes of head 2, first chunk. -/
theorem turned_first_2 (p : FVec Ideal S256x2048 .f32) (c s : FVec Ideal S256x128 .f32) :
    k0_pay37 (F := Ideal) s (k0_pay32 p) (k0_pay34 p c) k0_pay35 (k0_pay36 p)
      = turnedTile 640 slices_S256x2048_o0_640_S256x128 p c s := rfl

/-- The plain lanes of head 2, first chunk. -/
theorem scaled_first_2 (p : FVec Ideal S256x2048 .f32) :
    k0_pay33 (F := Ideal) p = scaledTile 512 slices_S256x2048_o0_512_S256x128 p := rfl

/-- The turned lanes of head 1, first chunk. -/
theorem turned_first_1 (p : FVec Ideal S256x2048 .f32) (c s : FVec Ideal S256x128 .f32) :
    k0_pay29 (F := Ideal) s (k0_pay24 p) (k0_pay26 p c) k0_pay27 (k0_pay28 p) (Scalar.ofBits (F := Ideal) .f32 0x00000000#32)
      = turnedTile 384 slices_S256x2048_o0_384_S256x128 p c s := rfl

/-- The plain lanes of head 1, first chunk. -/
theorem scaled_first_1 (p : FVec Ideal S256x2048 .f32) :
    k0_pay25 (F := Ideal) p = scaledTile 256 slices_S256x2048_o0_256_S256x128 p := rfl

/-- The turned lanes of head 0, first chunk. -/
theorem turned_first_0 (p : FVec Ideal S256x2048 .f32) (c s : FVec Ideal S256x128 .f32) :
    k0_pay21 (F := Ideal) s (k0_pay15 p) (k0_pay17 p c) k0_pay18 (k0_pay19 p) (k0_pay20 (F := Ideal))
      = turnedTile 128 slices_S256x2048_o0_128_S256x128 p (k0_pay12 c) s := rfl

/-- The plain lanes of head 0, first chunk. -/
theorem scaled_first_0 (p : FVec Ideal S256x2048 .f32) :
    k0_pay16 (F := Ideal) p = scaledTile 0 slices_S256x2048_o0_0_S256x128 p := rfl

end Cert.QkvQueryTiles

end
-- ==== Proof.QkvQueryBlock.lean ====
/- What one block of the queries holds. -/
module

public import proofs.«01_k».proof.Proof.QkvCases
public import proofs.«01_k».proof.Proof.QkvQueryTiles

@[expose] public section

set_option maxRecDepth 16384

noncomputable section

namespace Cert.QkvQueryBlock

open Cert.QkvIdeal Cert.QkvIdeal.Gen Cert.QkvTile Cert.QkvChunk Cert.QkvQueryTiles Cert.QkvCases
open Idealize.ShloMosaic Idealize.ShloMosaic.TcCoe Idealize.SL.Sem

/-- The queries' block at an index. -/
theorem out_queries (x0 : FVec Ideal S1024x512 .bf16) (x1 : FVec Ideal S1024x256 .bf16) (x2 : FVec Ideal S1024x128 .bf16)
    (x3 x4 : FVec Ideal S1024x128 .f32) (x5 : FVec Ideal S1x512 .f32) (x6 : FVec Ideal S1x256 .f32) (x7 : FVec Ideal S512x2048 .bf16)
    (x8 : FVec Ideal S256x2048 .bf16) (y : S1x8x1024x256.Idx) :
    out0_9 (F := Ideal) x0 x1 x2 x3 x4 x5 x6 x7 x8 y
      = queryLane (fun k => x0 (ix2 (y 2) k)) (fun k => x5 (ix2 0 k)) (fun k l => x7 (ix2 k l)) (fun l => x3 (ix2 (y 2) l))
        (fun l => x4 (ix2 (y 2) l)) (y 1) (y 3) := by
  unfold out0_9
  canon_tiles x e
  all_goals
    obtain ⟨xb, xh, xr, xc, rfl⟩ : ∃ (xb xh : Fin 1) (xr : Fin 256) (xc : Fin 128), x = ix4 xb xh xr xc := ⟨x 0, x 1, x 2, x 3, eq_ix4 x⟩
    obtain rfl : xb = 0 := Subsingleton.elim _ _
    obtain rfl : xh = 0 := Subsingleton.elim _ _
    simp only [ix4_0, ix4_1, ix4_2, ix4_3] at e0 e1 e2 e3
  · exact (congrFun (turned_fourth_7 _ _ _) (ix4 0 0 xr xc)).trans (turned_case 1920 (by decide) _ (fun k => query_row_fourth x0 x1 x2 x3 x4 x5 x6 x7 x8 xr _ e2 k)
      (fun k => cos_row_fourth x0 x1 x2 x3 x4 x5 x6 x7 x8 xr _ e2 k) (fun k => sin_row_fourth x0 x1 x2 x3 x4 x5 x6 x7 x8 xr _ e2 k) (by have e : (y 1).val = 7 := e1; omega) (by omega))
  · exact (congrFun (scaled_fourth_7 _) (ix4 0 0 xr xc)).trans (scaled_case 1792 (by decide) _ (fun k => query_row_fourth x0 x1 x2 x3 x4 x5 x6 x7 x8 xr _ e2 k)
      (by have e : (y 1).val = 7 := e1; omega) (by omega))
  · exact (congrFun (turned_fourth_6 _ _ _) (ix4 0 0 xr xc)).trans (turned_case 1664 (by decide) _ (fun k => query_row_fourth x0 x1 x2 x3 x4 x5 x6 x7 x8 xr _ e2 k)
      (fun k => cos_row_fourth x0 x1 x2 x3 x4 x5 x6 x7 x8 xr _ e2 k) (fun k => sin_row_fourth x0 x1 x2 x3 x4 x5 x6 x7 x8 xr _ e2 k) (by have e : (y 1).val = 6 := e1; omega) (by omega))
  · exact (congrFun (scaled_fourth_6 _) (ix4 0 0 xr xc)).trans (scaled_case 1536 (by decide) _ (fun k => query_row_fourth x0 x1 x2 x3 x4 x5 x6 x7 x8 xr _ e2 k)
      (by have e : (y 1).val = 6 := e1; omega) (by omega))
  · exact (congrFun (turned_fourth_5 _ _ _) (ix4 0 0 xr xc)).trans (turned_case 1408 (by decide) _ (fun k => query_row_fourth x0 x1 x2 x3 x4 x5 x6 x7 x8 xr _ e2 k)
      (fun k => cos_row_fourth x0 x1 x2 x3 x4 x5 x6 x7 x8 xr _ e2 k) (fun k => sin_row_fourth x0 x1 x2 x3 x4 x5 x6 x7 x8 xr _ e2 k) (by have e : (y 1).val = 5 := e1; omega) (by omega))
  · exact (congrFun (scaled_fourth_5 _) (ix4 0 0 xr xc)).trans (scaled_case 1280 (by decide) _ (fun k => query_row_fourth x0 x1 x2 x3 x4 x5 x6 x7 x8 xr _ e2 k)
      (by have e : (y 1).val = 5 := e1; omega) (by omega))
  · exact (congrFun (turned_fourth_4 _ _ _) (ix4 0 0 xr xc)).trans (turned_case 1152 (by decide) _ (fun k => query_row_fourth x0 x1 x2 x3 x4 x5 x6 x7 x8 xr _ e2 k)
      (fun k => cos_row_fourth x0 x1 x2 x3 x4 x5 x6 x7 x8 xr _ e2 k) (fun k => sin_row_fourth x0 x1 x2 x3 x4 x5 x6 x7 x8 xr _ e2 k) (by have e : (y 1).val = 4 := e1; omega) (by omega))
  · exact (congrFun (scaled_fourth_4 _) (ix4 0 0 xr xc)).trans (scaled_case 1024 (by decide) _ (fun k => query_row_fourth x0 x1 x2 x3 x4 x5 x6 x7 x8 xr _ e2 k)
      (by have e : (y 1).val = 4 := e1; omega) (by omega))
  · exact (congrFun (turned_fourth_3 _ _ _) (ix4 0 0 xr xc)).trans (turned_case 896 (by decide) _ (fun k => query_row_fourth x0 x1 x2 x3 x4 x5 x6 x7 x8 xr _ e2 k)
      (fun k => cos_row_fourth x0 x1 x2 x3 x4 x5 x6 x7 x8 xr _ e2 k) (fun k => sin_row_fourth x0 x1 x2 x3 x4 x5 x6 x7 x8 xr _ e2 k) (by have e : (y 1).val = 3 := e1; omega) (by omega))
  · exact (congrFun (scaled_fourth_3 _) (ix4 0 0 xr xc)).trans (scaled_case 768 (by decide) _ (fun k => query_row_fourth x0 x1 x2 x3 x4 x5 x6 x7 x8 xr _ e2 k)
      (by have e : (y 1).val = 3 := e1; omega) (by omega))
  · exact (congrFun (turned_fourth_2 _ _ _) (ix4 0 0 xr xc)).trans (turned_case 640 (by decide) _ (fun k => query_row_fourth x0 x1 x2 x3 x4 x5 x6 x7 x8 xr _ e2 k)
      (fun k => cos_row_fourth x0 x1 x2 x3 x4 x5 x6 x7 x8 xr _ e2 k) (fun k => sin_row_fourth x0 x1 x2 x3 x4 x5 x6 x7 x8 xr _ e2 k) (by have e : (y 1).val = 2 := e1; omega) (by omega))
  · exact (congrFun (scaled_fourth_2 _) (ix4 0 0 xr xc)).trans (scaled_case 512 (by decide) _ (fun k => query_row_fourth x0 x1 x2 x3 x4 x5 x6 x7 x8 xr _ e2 k)
      (by have e : (y 1).val = 2 := e1; omega) (by omega))
  · exact (congrFun (turned_fourth_1 _ _ _) (ix4 0 0 xr xc)).trans (turned_case 384 (by decide) _ (fun k => query_row_fourth x0 x1 x2 x3 x4 x5 x6 x7 x8 xr _ e2 k)
      (fun k => cos_row_fourth x0 x1 x2 x3 x4 x5 x6 x7 x8 xr _ e2 k) (fun k => sin_row_fourth x0 x1 x2 x3 x4 x5 x6 x7 x8 xr _ e2 k) (by have e : (y 1).val = 1 := e1; omega) (by omega))
  · exact (congrFun (scaled_fourth_1 _) (ix4 0 0 xr xc)).trans (scaled_case 256 (by decide) _ (fun k => query_row_fourth x0 x1 x2 x3 x4 x5 x6 x7 x8 xr _ e2 k)
      (by have e : (y 1).val = 1 := e1; omega) (by omega))
  · exact (congrFun (turned_fourth_0 _ _ _) (ix4 0 0 xr xc)).trans (turned_case 128 (by decide) _ (fun k => query_row_fourth x0 x1 x2 x3 x4 x5 x6 x7 x8 xr _ e2 k)
      (fun k => cos_row_fourth x0 x1 x2 x3 x4 x5 x6 x7 x8 xr _ e2 k) (fun k => sin_row_fourth x0 x1 x2 x3 x4 x5 x6 x7 x8 xr _ e2 k) (by have e : (y 1).val = 0 := e1; omega) (by omega))
  · exact (congrFun (scaled_fourth_0 _) (ix4 0 0 xr xc)).trans (scaled_case 0 (by decide) _ (fun k => query_row_fourth x0 x1 x2 x3 x4 x5 x6 x7 x8 xr _ e2 k)
      (by have e : (y 1).val = 0 := e1; omega) (by omega))
  · exact (congrFun (turned_third_7 _ _ _) (ix4 0 0 xr xc)).trans (turned_case 1920 (by decide) _ (fun k => query_row_third x0 x1 x2 x3 x4 x5 x6 x7 x8 xr _ e2 k)
      (fun k => cos_row_third x0 x1 x2 x3 x4 x5 x6 x7 x8 xr _ e2 k) (fun k => sin_row_third x0 x1 x2 x3 x4 x5 x6 x7 x8 xr _ e2 k) (by have e : (y 1).val = 7 := e1; omega) (by omega))
  · exact (congrFun (scaled_third_7 _) (ix4 0 0 xr xc)).trans (scaled_case 1792 (by decide) _ (fun k => query_row_third x0 x1 x2 x3 x4 x5 x6 x7 x8 xr _ e2 k)
      (by have e : (y 1).val = 7 := e1; omega) (by omega))
  · exact (congrFun (turned_third_6 _ _ _) (ix4 0 0 xr xc)).trans (turned_case 1664 (by decide) _ (fun k => query_row_third x0 x1 x2 x3 x4 x5 x6 x7 x8 xr _ e2 k)
      (fun k => cos_row_third x0 x1 x2 x3 x4 x5 x6 x7 x8 xr _ e2 k) (fun k => sin_row_third x0 x1 x2 x3 x4 x5 x6 x7 x8 xr _ e2 k) (by have e : (y 1).val = 6 := e1; omega) (by omega))
  · exact (congrFun (scaled_third_6 _) (ix4 0 0 xr xc)).trans (scaled_case 1536 (by decide) _ (fun k => query_row_third x0 x1 x2 x3 x4 x5 x6 x7 x8 xr _ e2 k)
      (by have e : (y 1).val = 6 := e1; omega) (by omega))
  · exact (congrFun (turned_third_5 _ _ _) (ix4 0 0 xr xc)).trans (turned_case 1408 (by decide) _ (fun k => query_row_third x0 x1 x2 x3 x4 x5 x6 x7 x8 xr _ e2 k)
      (fun k => cos_row_third x0 x1 x2 x3 x4 x5 x6 x7 x8 xr _ e2 k) (fun k => sin_row_third x0 x1 x2 x3 x4 x5 x6 x7 x8 xr _ e2 k) (by have e : (y 1).val = 5 := e1; omega) (by omega))
  · exact (congrFun (scaled_third_5 _) (ix4 0 0 xr xc)).trans (scaled_case 1280 (by decide) _ (fun k => query_row_third x0 x1 x2 x3 x4 x5 x6 x7 x8 xr _ e2 k)
      (by have e : (y 1).val = 5 := e1; omega) (by omega))
  · exact (congrFun (turned_third_4 _ _ _) (ix4 0 0 xr xc)).trans (turned_case 1152 (by decide) _ (fun k => query_row_third x0 x1 x2 x3 x4 x5 x6 x7 x8 xr _ e2 k)
      (fun k => cos_row_third x0 x1 x2 x3 x4 x5 x6 x7 x8 xr _ e2 k) (fun k => sin_row_third x0 x1 x2 x3 x4 x5 x6 x7 x8 xr _ e2 k) (by have e : (y 1).val = 4 := e1; omega) (by omega))
  · exact (congrFun (scaled_third_4 _) (ix4 0 0 xr xc)).trans (scaled_case 1024 (by decide) _ (fun k => query_row_third x0 x1 x2 x3 x4 x5 x6 x7 x8 xr _ e2 k)
      (by have e : (y 1).val = 4 := e1; omega) (by omega))
  · exact (congrFun (turned_third_3 _ _ _) (ix4 0 0 xr xc)).trans (turned_case 896 (by decide) _ (fun k => query_row_third x0 x1 x2 x3 x4 x5 x6 x7 x8 xr _ e2 k)
      (fun k => cos_row_third x0 x1 x2 x3 x4 x5 x6 x7 x8 xr _ e2 k) (fun k => sin_row_third x0 x1 x2 x3 x4 x5 x6 x7 x8 xr _ e2 k) (by have e : (y 1).val = 3 := e1; omega) (by omega))
  · exact (congrFun (scaled_third_3 _) (ix4 0 0 xr xc)).trans (scaled_case 768 (by decide) _ (fun k => query_row_third x0 x1 x2 x3 x4 x5 x6 x7 x8 xr _ e2 k)
      (by have e : (y 1).val = 3 := e1; omega) (by omega))
  · exact (congrFun (turned_third_2 _ _ _) (ix4 0 0 xr xc)).trans (turned_case 640 (by decide) _ (fun k => query_row_third x0 x1 x2 x3 x4 x5 x6 x7 x8 xr _ e2 k)
      (fun k => cos_row_third x0 x1 x2 x3 x4 x5 x6 x7 x8 xr _ e2 k) (fun k => sin_row_third x0 x1 x2 x3 x4 x5 x6 x7 x8 xr _ e2 k) (by have e : (y 1).val = 2 := e1; omega) (by omega))
  · exact (congrFun (scaled_third_2 _) (ix4 0 0 xr xc)).trans (scaled_case 512 (by decide) _ (fun k => query_row_third x0 x1 x2 x3 x4 x5 x6 x7 x8 xr _ e2 k)
      (by have e : (y 1).val = 2 := e1; omega) (by omega))
  · exact (congrFun (turned_third_1 _ _ _) (ix4 0 0 xr xc)).trans (turned_case 384 (by decide) _ (fun k => query_row_third x0 x1 x2 x3 x4 x5 x6 x7 x8 xr _ e2 k)
      (fun k => cos_row_third x0 x1 x2 x3 x4 x5 x6 x7 x8 xr _ e2 k) (fun k => sin_row_third x0 x1 x2 x3 x4 x5 x6 x7 x8 xr _ e2 k) (by have e : (y 1).val = 1 := e1; omega) (by omega))
  · exact (congrFun (scaled_third_1 _) (ix4 0 0 xr xc)).trans (scaled_case 256 (by decide) _ (fun k => query_row_third x0 x1 x2 x3 x4 x5 x6 x7 x8 xr _ e2 k)
      (by have e : (y 1).val = 1 := e1; omega) (by omega))
  · exact (congrFun (turned_third_0 _ _ _) (ix4 0 0 xr xc)).trans (turned_case 128 (by decide) _ (fun k => query_row_third x0 x1 x2 x3 x4 x5 x6 x7 x8 xr _ e2 k)
      (fun k => cos_row_third x0 x1 x2 x3 x4 x5 x6 x7 x8 xr _ e2 k) (fun k => sin_row_third x0 x1 x2 x3 x4 x5 x6 x7 x8 xr _ e2 k) (by have e : (y 1).val = 0 := e1; omega) (by omega))
  · exact (congrFun (scaled_third_0 _) (ix4 0 0 xr xc)).trans (scaled_case 0 (by decide) _ (fun k => query_row_third x0 x1 x2 x3 x4 x5 x6 x7 x8 xr _ e2 k)
      (by have e : (y 1).val = 0 := e1; omega) (by omega))
  · exact (congrFun (turned_second_7 _ _ _) (ix4 0 0 xr xc)).trans (turned_case 1920 (by decide) _ (fun k => query_row_second x0 x1 x2 x3 x4 x5 x6 x7 x8 xr _ e2 k)
      (fun k => cos_row_second x0 x1 x2 x3 x4 x5 x6 x7 x8 xr _ e2 k) (fun k => sin_row_second x0 x1 x2 x3 x4 x5 x6 x7 x8 xr _ e2 k) (by have e : (y 1).val = 7 := e1; omega) (by omega))
  · exact (congrFun (scaled_second_7 _) (ix4 0 0 xr xc)).trans (scaled_case 1792 (by decide) _ (fun k => query_row_second x0 x1 x2 x3 x4 x5 x6 x7 x8 xr _ e2 k)
      (by have e : (y 1).val = 7 := e1; omega) (by omega))
  · exact (congrFun (turned_second_6 _ _ _) (ix4 0 0 xr xc)).trans (turned_case 1664 (by decide) _ (fun k => query_row_second x0 x1 x2 x3 x4 x5 x6 x7 x8 xr _ e2 k)
      (fun k => cos_row_second x0 x1 x2 x3 x4 x5 x6 x7 x8 xr _ e2 k) (fun k => sin_row_second x0 x1 x2 x3 x4 x5 x6 x7 x8 xr _ e2 k) (by have e : (y 1).val = 6 := e1; omega) (by omega))
  · exact (congrFun (scaled_second_6 _) (ix4 0 0 xr xc)).trans (scaled_case 1536 (by decide) _ (fun k => query_row_second x0 x1 x2 x3 x4 x5 x6 x7 x8 xr _ e2 k)
      (by have e : (y 1).val = 6 := e1; omega) (by omega))
  · exact (congrFun (turned_second_5 _ _ _) (ix4 0 0 xr xc)).trans (turned_case 1408 (by decide) _ (fun k => query_row_second x0 x1 x2 x3 x4 x5 x6 x7 x8 xr _ e2 k)
      (fun k => cos_row_second x0 x1 x2 x3 x4 x5 x6 x7 x8 xr _ e2 k) (fun k => sin_row_second x0 x1 x2 x3 x4 x5 x6 x7 x8 xr _ e2 k) (by have e : (y 1).val = 5 := e1; omega) (by omega))
  · exact (congrFun (scaled_second_5 _) (ix4 0 0 xr xc)).trans (scaled_case 1280 (by decide) _ (fun k => query_row_second x0 x1 x2 x3 x4 x5 x6 x7 x8 xr _ e2 k)
      (by have e : (y 1).val = 5 := e1; omega) (by omega))
  · exact (congrFun (turned_second_4 _ _ _) (ix4 0 0 xr xc)).trans (turned_case 1152 (by decide) _ (fun k => query_row_second x0 x1 x2 x3 x4 x5 x6 x7 x8 xr _ e2 k)
      (fun k => cos_row_second x0 x1 x2 x3 x4 x5 x6 x7 x8 xr _ e2 k) (fun k => sin_row_second x0 x1 x2 x3 x4 x5 x6 x7 x8 xr _ e2 k) (by have e : (y 1).val = 4 := e1; omega) (by omega))
  · exact (congrFun (scaled_second_4 _) (ix4 0 0 xr xc)).trans (scaled_case 1024 (by decide) _ (fun k => query_row_second x0 x1 x2 x3 x4 x5 x6 x7 x8 xr _ e2 k)
      (by have e : (y 1).val = 4 := e1; omega) (by omega))
  · exact (congrFun (turned_second_3 _ _ _) (ix4 0 0 xr xc)).trans (turned_case 896 (by decide) _ (fun k => query_row_second x0 x1 x2 x3 x4 x5 x6 x7 x8 xr _ e2 k)
      (fun k => cos_row_second x0 x1 x2 x3 x4 x5 x6 x7 x8 xr _ e2 k) (fun k => sin_row_second x0 x1 x2 x3 x4 x5 x6 x7 x8 xr _ e2 k) (by have e : (y 1).val = 3 := e1; omega) (by omega))
  · exact (congrFun (scaled_second_3 _) (ix4 0 0 xr xc)).trans (scaled_case 768 (by decide) _ (fun k => query_row_second x0 x1 x2 x3 x4 x5 x6 x7 x8 xr _ e2 k)
      (by have e : (y 1).val = 3 := e1; omega) (by omega))
  · exact (congrFun (turned_second_2 _ _ _) (ix4 0 0 xr xc)).trans (turned_case 640 (by decide) _ (fun k => query_row_second x0 x1 x2 x3 x4 x5 x6 x7 x8 xr _ e2 k)
      (fun k => cos_row_second x0 x1 x2 x3 x4 x5 x6 x7 x8 xr _ e2 k) (fun k => sin_row_second x0 x1 x2 x3 x4 x5 x6 x7 x8 xr _ e2 k) (by have e : (y 1).val = 2 := e1; omega) (by omega))
  · exact (congrFun (scaled_second_2 _) (ix4 0 0 xr xc)).trans (scaled_case 512 (by decide) _ (fun k => query_row_second x0 x1 x2 x3 x4 x5 x6 x7 x8 xr _ e2 k)
      (by have e : (y 1).val = 2 := e1; omega) (by omega))
  · exact (congrFun (turned_second_1 _ _ _) (ix4 0 0 xr xc)).trans (turned_case 384 (by decide) _ (fun k => query_row_second x0 x1 x2 x3 x4 x5 x6 x7 x8 xr _ e2 k)
      (fun k => cos_row_second x0 x1 x2 x3 x4 x5 x6 x7 x8 xr _ e2 k) (fun k => sin_row_second x0 x1 x2 x3 x4 x5 x6 x7 x8 xr _ e2 k) (by have e : (y 1).val = 1 := e1; omega) (by omega))
  · exact (congrFun (scaled_second_1 _) (ix4 0 0 xr xc)).trans (scaled_case 256 (by decide) _ (fun k => query_row_second x0 x1 x2 x3 x4 x5 x6 x7 x8 xr _ e2 k)
      (by have e : (y 1).val = 1 := e1; omega) (by omega))
  · exact (congrFun (turned_second_0 _ _ _) (ix4 0 0 xr xc)).trans (turned_case 128 (by decide) _ (fun k => query_row_second x0 x1 x2 x3 x4 x5 x6 x7 x8 xr _ e2 k)
      (fun k => cos_row_second x0 x1 x2 x3 x4 x5 x6 x7 x8 xr _ e2 k) (fun k => sin_row_second x0 x1 x2 x3 x4 x5 x6 x7 x8 xr _ e2 k) (by have e : (y 1).val = 0 := e1; omega) (by omega))
  · exact (congrFun (scaled_second_0 _) (ix4 0 0 xr xc)).trans (scaled_case 0 (by decide) _ (fun k => query_row_second x0 x1 x2 x3 x4 x5 x6 x7 x8 xr _ e2 k)
      (by have e : (y 1).val = 0 := e1; omega) (by omega))
  · exact (congrFun (turned_first_7 _ _ _) (ix4 0 0 xr xc)).trans (turned_case 1920 (by decide) _ (fun k => query_row_first x0 x1 x2 x3 x4 x5 x6 x7 x8 xr _ (e2.trans (Nat.zero_add _).symm) k)
      (fun k => cos_row_first x0 x1 x2 x3 x4 x5 x6 x7 x8 xr _ (e2.trans (Nat.zero_add _).symm) k) (fun k => sin_row_first x0 x1 x2 x3 x4 x5 x6 x7 x8 xr _ (e2.trans (Nat.zero_add _).symm) k) (by have e : (y 1).val = 7 := e1; omega) (by omega))
  · exact (congrFun (scaled_first_7 _) (ix4 0 0 xr xc)).trans (scaled_case 1792 (by decide) _ (fun k => query_row_first x0 x1 x2 x3 x4 x5 x6 x7 x8 xr _ (e2.trans (Nat.zero_add _).symm) k)
      (by have e : (y 1).val = 7 := e1; omega) (by omega))
  · exact (congrFun (turned_first_6 _ _ _) (ix4 0 0 xr xc)).trans (turned_case 1664 (by decide) _ (fun k => query_row_first x0 x1 x2 x3 x4 x5 x6 x7 x8 xr _ (e2.trans (Nat.zero_add _).symm) k)
      (fun k => cos_row_first x0 x1 x2 x3 x4 x5 x6 x7 x8 xr _ (e2.trans (Nat.zero_add _).symm) k) (fun k => sin_row_first x0 x1 x2 x3 x4 x5 x6 x7 x8 xr _ (e2.trans (Nat.zero_add _).symm) k) (by have e : (y 1).val = 6 := e1; omega) (by omega))
  · exact (congrFun (scaled_first_6 _) (ix4 0 0 xr xc)).trans (scaled_case 1536 (by decide) _ (fun k => query_row_first x0 x1 x2 x3 x4 x5 x6 x7 x8 xr _ (e2.trans (Nat.zero_add _).symm) k)
      (by have e : (y 1).val = 6 := e1; omega) (by omega))
  · exact (congrFun (turned_first_5 _ _ _) (ix4 0 0 xr xc)).trans (turned_case 1408 (by decide) _ (fun k => query_row_first x0 x1 x2 x3 x4 x5 x6 x7 x8 xr _ (e2.trans (Nat.zero_add _).symm) k)
      (fun k => cos_row_first x0 x1 x2 x3 x4 x5 x6 x7 x8 xr _ (e2.trans (Nat.zero_add _).symm) k) (fun k => sin_row_first x0 x1 x2 x3 x4 x5 x6 x7 x8 xr _ (e2.trans (Nat.zero_add _).symm) k) (by have e : (y 1).val = 5 := e1; omega) (by omega))
  · exact (congrFun (scaled_first_5 _) (ix4 0 0 xr xc)).trans (scaled_case 1280 (by decide) _ (fun k => query_row_first x0 x1 x2 x3 x4 x5 x6 x7 x8 xr _ (e2.trans (Nat.zero_add _).symm) k)
      (by have e : (y 1).val = 5 := e1; omega) (by omega))
  · exact (congrFun (turned_first_4 _ _ _) (ix4 0 0 xr xc)).trans (turned_case 1152 (by decide) _ (fun k => query_row_first x0 x1 x2 x3 x4 x5 x6 x7 x8 xr _ (e2.trans (Nat.zero_add _).symm) k)
      (fun k => cos_row_first x0 x1 x2 x3 x4 x5 x6 x7 x8 xr _ (e2.trans (Nat.zero_add _).symm) k) (fun k => sin_row_first x0 x1 x2 x3 x4 x5 x6 x7 x8 xr _ (e2.trans (Nat.zero_add _).symm) k) (by have e : (y 1).val = 4 := e1; omega) (by omega))
  · exact (congrFun (scaled_first_4 _) (ix4 0 0 xr xc)).trans (scaled_case 1024 (by decide) _ (fun k => query_row_first x0 x1 x2 x3 x4 x5 x6 x7 x8 xr _ (e2.trans (Nat.zero_add _).symm) k)
      (by have e : (y 1).val = 4 := e1; omega) (by omega))
  · exact (congrFun (turned_first_3 _ _ _) (ix4 0 0 xr xc)).trans (turned_case 896 (by decide) _ (fun k => query_row_first x0 x1 x2 x3 x4 x5 x6 x7 x8 xr _ (e2.trans (Nat.zero_add _).symm) k)
      (fun k => cos_row_first x0 x1 x2 x3 x4 x5 x6 x7 x8 xr _ (e2.trans (Nat.zero_add _).symm) k) (fun k => sin_row_first x0 x1 x2 x3 x4 x5 x6 x7 x8 xr _ (e2.trans (Nat.zero_add _).symm) k) (by have e : (y 1).val = 3 := e1; omega) (by omega))
  · exact (congrFun (scaled_first_3 _) (ix4 0 0 xr xc)).trans (scaled_case 768 (by decide) _ (fun k => query_row_first x0 x1 x2 x3 x4 x5 x6 x7 x8 xr _ (e2.trans (Nat.zero_add _).symm) k)
      (by have e : (y 1).val = 3 := e1; omega) (by omega))
  · exact (congrFun (turned_first_2 _ _ _) (ix4 0 0 xr xc)).trans (turned_case 640 (by decide) _ (fun k => query_row_first x0 x1 x2 x3 x4 x5 x6 x7 x8 xr _ (e2.trans (Nat.zero_add _).symm) k)
      (fun k => cos_row_first x0 x1 x2 x3 x4 x5 x6 x7 x8 xr _ (e2.trans (Nat.zero_add _).symm) k) (fun k => sin_row_first x0 x1 x2 x3 x4 x5 x6 x7 x8 xr _ (e2.trans (Nat.zero_add _).symm) k) (by have e : (y 1).val = 2 := e1; omega) (by omega))
  · exact (congrFun (scaled_first_2 _) (ix4 0 0 xr xc)).trans (scaled_case 512 (by decide) _ (fun k => query_row_first x0 x1 x2 x3 x4 x5 x6 x7 x8 xr _ (e2.trans (Nat.zero_add _).symm) k)
      (by have e : (y 1).val = 2 := e1; omega) (by omega))
  · exact (congrFun (turned_first_1 _ _ _) (ix4 0 0 xr xc)).trans (turned_case 384 (by decide) _ (fun k => query_row_first x0 x1 x2 x3 x4 x5 x6 x7 x8 xr _ (e2.trans (Nat.zero_add _).symm) k)
      (fun k => cos_row_first x0 x1 x2 x3 x4 x5 x6 x7 x8 xr _ (e2.trans (Nat.zero_add _).symm) k) (fun k => sin_row_first x0 x1 x2 x3 x4 x5 x6 x7 x8 xr _ (e2.trans (Nat.zero_add _).symm) k) (by have e : (y 1).val = 1 := e1; omega) (by omega))
  · exact (congrFun (scaled_first_1 _) (ix4 0 0 xr xc)).trans (scaled_case 256 (by decide) _ (fun k => query_row_first x0 x1 x2 x3 x4 x5 x6 x7 x8 xr _ (e2.trans (Nat.zero_add _).symm) k)
      (by have e : (y 1).val = 1 := e1; omega) (by omega))
  · exact (congrFun (turned_first_0 _ _ _) (ix4 0 0 xr xc)).trans (turned_case 128 (by decide) _ (fun k => query_row_first x0 x1 x2 x3 x4 x5 x6 x7 x8 xr _ (e2.trans (Nat.zero_add _).symm) k)
      (fun k => cos_row_first x0 x1 x2 x3 x4 x5 x6 x7 x8 xr _ (e2.trans (Nat.zero_add _).symm) k) (fun k => sin_row_first x0 x1 x2 x3 x4 x5 x6 x7 x8 xr _ (e2.trans (Nat.zero_add _).symm) k) (by have e : (y 1).val = 0 := e1; omega) (by omega))
  · exact (congrFun (scaled_first_0 _) (ix4 0 0 xr xc)).trans (scaled_case 0 (by decide) _ (fun k => query_row_first x0 x1 x2 x3 x4 x5 x6 x7 x8 xr _ (e2.trans (Nat.zero_add _).symm) k)
      (by have e : (y 1).val = 0 := e1; omega) (by omega))

end Cert.QkvQueryBlock

end
-- ==== Proof.QkvKeyTiles.lean ====
/- The keys' and values' stored blocks as tiles. -/
module

public import proofs.«01_k».proof.Proof.QkvTile
public import proofs.«01_k».proof.Proof.Gen.QkvIdeal.Frame

@[expose] public section

set_option maxRecDepth 16384

noncomputable section

namespace Cert.QkvKeyTiles

open Cert.QkvIdeal Cert.QkvIdeal.Gen Cert.QkvTile
open Idealize.ShloMosaic Idealize.ShloMosaic.TcCoe Idealize.SL.Sem
/-- The key of head 7, fourth chunk. -/
theorem key_fourth_7 (p : FVec Ideal S256x2048 .f32) :
    k0_pay2 (F := Ideal) p = plainTile 1792 slices_S256x2048_o0_1792_S256x128 p := rfl

/-- The key of head 6, fourth chunk. -/
theorem key_fourth_6 (p : FVec Ideal S256x2048 .f32) :
    k0_pay210 (F := Ideal) p = plainTile 1536 slices_S256x2048_o0_1536_S256x128 p := rfl

/-- The key of head 5, fourth chunk. -/
theorem key_fourth_5 (p : FVec Ideal S256x2048 .f32) :
    k0_pay204 (F := Ideal) p = plainTile 1280 slices_S256x2048_o0_1280_S256x128 p := rfl

/-- The key of head 4, fourth chunk. -/
theorem key_fourth_4 (p : FVec Ideal S256x2048 .f32) :
    k0_pay198 (F := Ideal) p = plainTile 1024 slices_S256x2048_o0_1024_S256x128 p := rfl

/-- The key of head 3, fourth chunk. -/
theorem key_fourth_3 (p : FVec Ideal S256x2048 .f32) :
    k0_pay192 (F := Ideal) p = plainTile 768 slices_S256x2048_o0_768_S256x128 p := rfl

/-- The key of head 2, fourth chunk. -/
theorem key_fourth_2 (p : FVec Ideal S256x2048 .f32) :
    k0_pay186 (F := Ideal) p = plainTile 512 slices_S256x2048_o0_512_S256x128 p := rfl

/-- The key of head 1, fourth chunk. -/
theorem key_fourth_1 (p : FVec Ideal S256x2048 .f32) :
    k0_pay180 (F := Ideal) p = plainTile 256 slices_S256x2048_o0_256_S256x128 p := rfl

/-- The key of head 0, fourth chunk. -/
theorem key_fourth_0 (p : FVec Ideal S256x2048 .f32) :
    k0_pay175 (F := Ideal) p = plainTile 0 slices_S256x2048_o0_0_S256x128 p := rfl

/-- The key of head 7, third chunk. -/
theorem key_third_7 (p : FVec Ideal S256x2048 .f32) :
    k0_pay167 (F := Ideal) p = plainTile 1792 slices_S256x2048_o0_1792_S256x128 p := rfl

/-- The key of head 6, third chunk. -/
theorem key_third_6 (p : FVec Ideal S256x2048 .f32) :
    k0_pay163 (F := Ideal) p = plainTile 1536 slices_S256x2048_o0_1536_S256x128 p := rfl

/-- The key of head 5, third chunk. -/
theorem key_third_5 (p : FVec Ideal S256x2048 .f32) :
    k0_pay158 (F := Ideal) p = plainTile 1280 slices_S256x2048_o0_1280_S256x128 p := rfl

/-- The key of head 4, third chunk. -/
theorem key_third_4 (p : FVec Ideal S256x2048 .f32) :
    k0_pay153 (F := Ideal) p = plainTile 1024 slices_S256x2048_o0_1024_S256x128 p := rfl

/-- The key of head 3, third chunk. -/
theorem key_third_3 (p : FVec Ideal S256x2048 .f32) :
    k0_pay148 (F := Ideal) p = plainTile 768 slices_S256x2048_o0_768_S256x128 p := rfl

/-- The key of head 2, third chunk. -/
theorem key_third_2 (p : FVec Ideal S256x2048 .f32) :
    k0_pay143 (F := Ideal) p = plainTile 512 slices_S256x2048_o0_512_S256x128 p := rfl

/-- The key of head 1, third chunk. -/
theorem key_third_1 (p : FVec Ideal S256x2048 .f32) :
    k0_pay138 (F := Ideal) p = plainTile 256 slices_S256x2048_o0_256_S256x128 p := rfl

/-- The key of head 0, third chunk. -/
theorem key_third_0 (p : FVec Ideal S256x2048 .f32) :
    k0_pay133 (F := Ideal) p = plainTile 0 slices_S256x2048_o0_0_S256x128 p := rfl

/-- The key of head 7, second chunk. -/
theorem key_second_7 (p : FVec Ideal S256x2048 .f32) :
    k0_pay120 (F := Ideal) p = plainTile 1792 slices_S256x2048_o0_1792_S256x128 p := rfl

/-- The key of head 6, second chunk. -/
theorem key_second_6 (p : FVec Ideal S256x2048 .f32) :
    k0_pay115 (F := Ideal) p = plainTile 1536 slices_S256x2048_o0_1536_S256x128 p := rfl

/-- The key of head 5, second chunk. -/
theorem key_second_5 (p : FVec Ideal S256x2048 .f32) :
    k0_pay110 (F := Ideal) p = plainTile 1280 slices_S256x2048_o0_1280_S256x128 p := rfl

/-- The key of head 4, second chunk. -/
theorem key_second_4 (p : FVec Ideal S256x2048 .f32) :
    k0_pay105 (F := Ideal) p = plainTile 1024 slices_S256x2048_o0_1024_S256x128 p := rfl

/-- The key of head 3, second chunk. -/
theorem key_second_3 (p : FVec Ideal S256x2048 .f32) :
    k0_pay100 (F := Ideal) p = plainTile 768 slices_S256x2048_o0_768_S256x128 p := rfl

/-- The key of head 2, second chunk. -/
theorem key_second_2 (p : FVec Ideal S256x2048 .f32) :
    k0_pay95 (F := Ideal) p = plainTile 512 slices_S256x2048_o0_512_S256x128 p := rfl

/-- The key of head 1, second chunk. -/
theorem key_second_1 (p : FVec Ideal S256x2048 .f32) :
    k0_pay90 (F := Ideal) p = plainTile 256 slices_S256x2048_o0_256_S256x128 p := rfl

/-- The key of head 0, second chunk. -/
theorem key_second_0 (p : FVec Ideal S256x2048 .f32) :
    k0_pay85 (F := Ideal) p = plainTile 0 slices_S256x2048_o0_0_S256x128 p := rfl

/-- The key of head 7, first chunk. -/
theorem key_first_7 (p : FVec Ideal S256x2048 .f32) :
    k0_pay71 (F := Ideal) p = plainTile 1792 slices_S256x2048_o0_1792_S256x128 p := rfl

/-- The key of head 6, first chunk. -/
theorem key_first_6 (p : FVec Ideal S256x2048 .f32) :
    k0_pay65 (F := Ideal) p = plainTile 1536 slices_S256x2048_o0_1536_S256x128 p := rfl

/-- The key of head 5, first chunk. -/
theorem key_first_5 (p : FVec Ideal S256x2048 .f32) :
    k0_pay59 (F := Ideal) p = plainTile 1280 slices_S256x2048_o0_1280_S256x128 p := rfl

/-- The key of head 4, first chunk. -/
theorem key_first_4 (p : FVec Ideal S256x2048 .f32) :
    k0_pay52 (F := Ideal) p = plainTile 1024 slices_S256x2048_o0_1024_S256x128 p := rfl

/-- The key of head 3, first chunk. -/
theorem key_first_3 (p : FVec Ideal S256x2048 .f32) :
    k0_pay45 (F := Ideal) p = plainTile 768 slices_S256x2048_o0_768_S256x128 p := rfl

/-- The key of head 2, first chunk. -/
theorem key_first_2 (p : FVec Ideal S256x2048 .f32) :
    k0_pay38 (F := Ideal) p = plainTile 512 slices_S256x2048_o0_512_S256x128 p := rfl

/-- The key of head 1, first chunk. -/
theorem key_first_1 (p : FVec Ideal S256x2048 .f32) :
    k0_pay30 (F := Ideal) p = plainTile 256 slices_S256x2048_o0_256_S256x128 p := rfl

/-- The key of head 0, first chunk. -/
theorem key_first_0 (p : FVec Ideal S256x2048 .f32) :
    k0_pay22 (F := Ideal) p = plainTile 0 slices_S256x2048_o0_0_S256x128 p := rfl

/-- The value of head 7, fourth chunk. -/
theorem value_fourth_7 (p : FVec Ideal S256x2048 .f32) :
    k0_pay3 (F := Ideal) p = plainTile 1920 slices_S256x2048_o0_1920_S256x128 p := rfl

/-- The value of head 6, fourth chunk. -/
theorem value_fourth_6 (p : FVec Ideal S256x2048 .f32) :
    k0_pay211 (F := Ideal) p = plainTile 1664 slices_S256x2048_o0_1664_S256x128 p := rfl

/-- The value of head 5, fourth chunk. -/
theorem value_fourth_5 (p : FVec Ideal S256x2048 .f32) :
    k0_pay205 (F := Ideal) p = plainTile 1408 slices_S256x2048_o0_1408_S256x128 p := rfl

/-- The value of head 4, fourth chunk. -/
theorem value_fourth_4 (p : FVec Ideal S256x2048 .f32) :
    k0_pay199 (F := Ideal) p = plainTile 1152 slices_S256x2048_o0_1152_S256x128 p := rfl

/-- The value of head 3, fourth chunk. -/
theorem value_fourth_3 (p : FVec Ideal S256x2048 .f32) :
    k0_pay193 (F := Ideal) p = plainTile 896 slices_S256x2048_o0_896_S256x128 p := rfl

/-- The value of head 2, fourth chunk. -/
theorem value_fourth_2 (p : FVec Ideal S256x2048 .f32) :
    k0_pay187 (F := Ideal) p = plainTile 640 slices_S256x2048_o0_640_S256x128 p := rfl

/-- The value of head 1, fourth chunk. -/
theorem value_fourth_1 (p : FVec Ideal S256x2048 .f32) :
    k0_pay181 (F := Ideal) p = plainTile 384 slices_S256x2048_o0_384_S256x128 p := rfl

/-- The value of head 0, fourth chunk. -/
theorem value_fourth_0 (p : FVec Ideal S256x2048 .f32) :
    k0_pay176 (F := Ideal) p = plainTile 128 slices_S256x2048_o0_128_S256x128 p := rfl

/-- The value of head 7, third chunk. -/
theorem value_third_7 (p : FVec Ideal S256x2048 .f32) :
    k0_pay168 (F := Ideal) p = plainTile 1920 slices_S256x2048_o0_1920_S256x128 p := rfl

/-- The value of head 6, third chunk. -/
theorem value_third_6 (p : FVec Ideal S256x2048 .f32) :
    k0_pay164 (F := Ideal) p = plainTile 1664 slices_S256x2048_o0_1664_S256x128 p := rfl

/-- The value of head 5, third chunk. -/
theorem value_third_5 (p : FVec Ideal S256x2048 .f32) :
    k0_pay160 (F := Ideal) (k0_pay159 p) = plainTile 1408 slices_S256x2048_o0_1408_S256x128 p := rfl

/-- The value of head 4, third chunk. -/
theorem value_third_4 (p : FVec Ideal S256x2048 .f32) :
    k0_pay155 (F := Ideal) (k0_pay154 p) = plainTile 1152 slices_S256x2048_o0_1152_S256x128 p := rfl

/-- The value of head 3, third chunk. -/
theorem value_third_3 (p : FVec Ideal S256x2048 .f32) :
    k0_pay150 (F := Ideal) (k0_pay149 p) = plainTile 896 slices_S256x2048_o0_896_S256x128 p := rfl

/-- The value of head 2, third chunk. -/
theorem value_third_2 (p : FVec Ideal S256x2048 .f32) :
    k0_pay145 (F := Ideal) (k0_pay144 p) = plainTile 640 slices_S256x2048_o0_640_S256x128 p := rfl

/-- The value of head 1, third chunk. -/
theorem value_third_1 (p : FVec Ideal S256x2048 .f32) :
    k0_pay140 (F := Ideal) (k0_pay139 p) = plainTile 384 slices_S256x2048_o0_384_S256x128 p := rfl

/-- The value of head 0, third chunk. -/
theorem value_third_0 (p : FVec Ideal S256x2048 .f32) :
    k0_pay135 (F := Ideal) (k0_pay134 p) = plainTile 128 slices_S256x2048_o0_128_S256x128 p := rfl

/-- The value of head 7, second chunk. -/
theorem value_second_7 (p : FVec Ideal S256x2048 .f32) :
    k0_pay121 (F := Ideal) p = plainTile 1920 slices_S256x2048_o0_1920_S256x128 p := rfl

/-- The value of head 6, second chunk. -/
theorem value_second_6 (p : FVec Ideal S256x2048 .f32) :
    k0_pay116 (F := Ideal) p = plainTile 1664 slices_S256x2048_o0_1664_S256x128 p := rfl

/-- The value of head 5, second chunk. -/
theorem value_second_5 (p : FVec Ideal S256x2048 .f32) :
    k0_pay111 (F := Ideal) p = plainTile 1408 slices_S256x2048_o0_1408_S256x128 p := rfl

/-- The value of head 4, second chunk. -/
theorem value_second_4 (p : FVec Ideal S256x2048 .f32) :
    k0_pay106 (F := Ideal) p = plainTile 1152 slices_S256x2048_o0_1152_S256x128 p := rfl

/-- The value of head 3, second chunk. -/
theorem value_second_3 (p : FVec Ideal S256x2048 .f32) :
    k0_pay101 (F := Ideal) p = plainTile 896 slices_S256x2048_o0_896_S256x128 p := rfl

/-- The value of head 2, second chunk. -/
theorem value_second_2 (p : FVec Ideal S256x2048 .f32) :
    k0_pay96 (F := Ideal) p = plainTile 640 slices_S256x2048_o0_640_S256x128 p := rfl

/-- The value of head 1, second chunk. -/
theorem value_second_1 (p : FVec Ideal S256x2048 .f32) :
    k0_pay91 (F := Ideal) p = plainTile 384 slices_S256x2048_o0_384_S256x128 p := rfl

/-- The value of head 0, second chunk. -/
theorem value_second_0 (p : FVec Ideal S256x2048 .f32) :
    k0_pay86 (F := Ideal) p = plainTile 128 slices_S256x2048_o0_128_S256x128 p := rfl

/-- The value of head 7, first chunk. -/
theorem value_first_7 (p : FVec Ideal S256x2048 .f32) :
    k0_pay72 (F := Ideal) p = plainTile 1920 slices_S256x2048_o0_1920_S256x128 p := rfl

/-- The value of head 6, first chunk. -/
theorem value_first_6 (p : FVec Ideal S256x2048 .f32) :
    k0_pay66 (F := Ideal) p = plainTile 1664 slices_S256x2048_o0_1664_S256x128 p := rfl

/-- The value of head 5, first chunk. -/
theorem value_first_5 (p : FVec Ideal S256x2048 .f32) :
    k0_pay60 (F := Ideal) p = plainTile 1408 slices_S256x2048_o0_1408_S256x128 p := rfl

/-- The value of head 4, first chunk. -/
theorem value_first_4 (p : FVec Ideal S256x2048 .f32) :
    k0_pay53 (F := Ideal) p = plainTile 1152 slices_S256x2048_o0_1152_S256x128 p := rfl

/-- The value of head 3, first chunk. -/
theorem value_first_3 (p : FVec Ideal S256x2048 .f32) :
    k0_pay46 (F := Ideal) p = plainTile 896 slices_S256x2048_o0_896_S256x128 p := rfl

/-- The value of head 2, first chunk. -/
theorem value_first_2 (p : FVec Ideal S256x2048 .f32) :
    k0_pay39 (F := Ideal) p = plainTile 640 slices_S256x2048_o0_640_S256x128 p := rfl

/-- The value of head 1, first chunk. -/
theorem value_first_1 (p : FVec Ideal S256x2048 .f32) :
    k0_pay31 (F := Ideal) p = plainTile 384 slices_S256x2048_o0_384_S256x128 p := rfl

/-- The value of head 0, first chunk. -/
theorem value_first_0 (p : FVec Ideal S256x2048 .f32) :
    k0_pay23 (F := Ideal) p = plainTile 128 slices_S256x2048_o0_128_S256x128 p := rfl

/-- The shared key's block, fourth chunk. -/
theorem shared_fourth (x : FVec Ideal S256x128 .bf16) (c s : FVec Ideal S256x128 .f32) :
    k0_pay171 (F := Ideal) c s x
      = keyTile x (k0_pay169 c) (k0_pay170 s) := rfl

/-- The shared key's block, third chunk. -/
theorem shared_third (x : FVec Ideal S256x128 .bf16) (c s : FVec Ideal S256x128 .f32) :
    k0_pay130 (F := Ideal) (k0_pay129 c s x)
      = keyTile x (k0_pay127 c) (k0_pay128 s) := rfl

/-- The shared key's block, second chunk. -/
theorem shared_second (x : FVec Ideal S256x128 .bf16) (c s : FVec Ideal S256x128 .f32) :
    k0_pay82 (F := Ideal) s (k0_pay80 x) (k0_pay81 c x) (iota .tc S256x128 32 [1] iota_S256x128_d1_w32) 32#32
      = keyTile x (k0_pay78 c) s := rfl

/-- The shared key's block, first chunk. -/
theorem shared_first (x : FVec Ideal S256x128 .bf16) (c s : FVec Ideal S256x128 .f32) :
    k0_pay14 (F := Ideal) c s x
      = keyTile x (k0_pay12 c) (k0_pay13 s) := rfl

end Cert.QkvKeyTiles

end
-- ==== Proof.QkvKeyBlock.lean ====
/- What one block of the keys, of the shared key and of the values holds. -/
module

public import proofs.«01_k».proof.Proof.QkvCases
public import proofs.«01_k».proof.Proof.QkvKeyTiles

@[expose] public section

set_option maxRecDepth 16384

noncomputable section

namespace Cert.QkvKeyBlock

open Cert.QkvIdeal Cert.QkvIdeal.Gen Cert.QkvTile Cert.QkvChunk Cert.QkvKeyTiles Cert.QkvCases
open Idealize.ShloMosaic Idealize.ShloMosaic.TcCoe Idealize.SL.Sem

/-- The keys' block at an index. -/
theorem out_keys (x0 : FVec Ideal S1024x512 .bf16) (x1 : FVec Ideal S1024x256 .bf16) (x2 : FVec Ideal S1024x128 .bf16)
    (x3 x4 : FVec Ideal S1024x128 .f32) (x5 : FVec Ideal S1x512 .f32) (x6 : FVec Ideal S1x256 .f32) (x7 : FVec Ideal S512x2048 .bf16)
    (x8 : FVec Ideal S256x2048 .bf16) (y : S1x8x1024x128.Idx) :
    out0_10 (F := Ideal) x0 x1 x2 x3 x4 x5 x6 x7 x8 y
      = product 0x43800000#32 (fun k => x1 (ix2 (y 2) k)) (fun k => x6 (ix2 0 k)) (fun k l => x8 (ix2 k l)) ⟨256 * (y 1).val + (y 3).val, by
        have : (y 1).val < 8 := (y 1).isLt
        have : (y 3).val < 128 := (y 3).isLt
        omega⟩ := by
  unfold out0_10
  canon_tiles x e
  all_goals
    obtain ⟨xb, xh, xr, xc, rfl⟩ : ∃ (xb xh : Fin 1) (xr : Fin 256) (xc : Fin 128), x = ix4 xb xh xr xc := ⟨x 0, x 1, x 2, x 3, eq_ix4 x⟩
    obtain rfl : xb = 0 := Subsingleton.elim _ _
    obtain rfl : xh = 0 := Subsingleton.elim _ _
    simp only [ix4_0, ix4_1, ix4_2, ix4_3] at e0 e1 e2 e3
  · exact (congrFun (key_fourth_7 _) (ix4 0 0 xr xc)).trans (plain_case 1792 (by decide) _ (fun k => key_row_fourth x0 x1 x2 x3 x4 x5 x6 x7 x8 xr _ e2 k)
      (by have e : (y 1).val = 7 := e1; simp only []; omega))
  · exact (congrFun (key_fourth_6 _) (ix4 0 0 xr xc)).trans (plain_case 1536 (by decide) _ (fun k => key_row_fourth x0 x1 x2 x3 x4 x5 x6 x7 x8 xr _ e2 k)
      (by have e : (y 1).val = 6 := e1; simp only []; omega))
  · exact (congrFun (key_fourth_5 _) (ix4 0 0 xr xc)).trans (plain_case 1280 (by decide) _ (fun k => key_row_fourth x0 x1 x2 x3 x4 x5 x6 x7 x8 xr _ e2 k)
      (by have e : (y 1).val = 5 := e1; simp only []; omega))
  · exact (congrFun (key_fourth_4 _) (ix4 0 0 xr xc)).trans (plain_case 1024 (by decide) _ (fun k => key_row_fourth x0 x1 x2 x3 x4 x5 x6 x7 x8 xr _ e2 k)
      (by have e : (y 1).val = 4 := e1; simp only []; omega))
  · exact (congrFun (key_fourth_3 _) (ix4 0 0 xr xc)).trans (plain_case 768 (by decide) _ (fun k => key_row_fourth x0 x1 x2 x3 x4 x5 x6 x7 x8 xr _ e2 k)
      (by have e : (y 1).val = 3 := e1; simp only []; omega))
  · exact (congrFun (key_fourth_2 _) (ix4 0 0 xr xc)).trans (plain_case 512 (by decide) _ (fun k => key_row_fourth x0 x1 x2 x3 x4 x5 x6 x7 x8 xr _ e2 k)
      (by have e : (y 1).val = 2 := e1; simp only []; omega))
  · exact (congrFun (key_fourth_1 _) (ix4 0 0 xr xc)).trans (plain_case 256 (by decide) _ (fun k => key_row_fourth x0 x1 x2 x3 x4 x5 x6 x7 x8 xr _ e2 k)
      (by have e : (y 1).val = 1 := e1; simp only []; omega))
  · exact (congrFun (key_fourth_0 _) (ix4 0 0 xr xc)).trans (plain_case 0 (by decide) _ (fun k => key_row_fourth x0 x1 x2 x3 x4 x5 x6 x7 x8 xr _ e2 k)
      (by have e : (y 1).val = 0 := e1; simp only []; omega))
  · exact (congrFun (key_third_7 _) (ix4 0 0 xr xc)).trans (plain_case 1792 (by decide) _ (fun k => key_row_third x0 x1 x2 x3 x4 x5 x6 x7 x8 xr _ e2 k)
      (by have e : (y 1).val = 7 := e1; simp only []; omega))
  · exact (congrFun (key_third_6 _) (ix4 0 0 xr xc)).trans (plain_case 1536 (by decide) _ (fun k => key_row_third x0 x1 x2 x3 x4 x5 x6 x7 x8 xr _ e2 k)
      (by have e : (y 1).val = 6 := e1; simp only []; omega))
  · exact (congrFun (key_third_5 _) (ix4 0 0 xr xc)).trans (plain_case 1280 (by decide) _ (fun k => key_row_third x0 x1 x2 x3 x4 x5 x6 x7 x8 xr _ e2 k)
      (by have e : (y 1).val = 5 := e1; simp only []; omega))
  · exact (congrFun (key_third_4 _) (ix4 0 0 xr xc)).trans (plain_case 1024 (by decide) _ (fun k => key_row_third x0 x1 x2 x3 x4 x5 x6 x7 x8 xr _ e2 k)
      (by have e : (y 1).val = 4 := e1; simp only []; omega))
  · exact (congrFun (key_third_3 _) (ix4 0 0 xr xc)).trans (plain_case 768 (by decide) _ (fun k => key_row_third x0 x1 x2 x3 x4 x5 x6 x7 x8 xr _ e2 k)
      (by have e : (y 1).val = 3 := e1; simp only []; omega))
  · exact (congrFun (key_third_2 _) (ix4 0 0 xr xc)).trans (plain_case 512 (by decide) _ (fun k => key_row_third x0 x1 x2 x3 x4 x5 x6 x7 x8 xr _ e2 k)
      (by have e : (y 1).val = 2 := e1; simp only []; omega))
  · exact (congrFun (key_third_1 _) (ix4 0 0 xr xc)).trans (plain_case 256 (by decide) _ (fun k => key_row_third x0 x1 x2 x3 x4 x5 x6 x7 x8 xr _ e2 k)
      (by have e : (y 1).val = 1 := e1; simp only []; omega))
  · exact (congrFun (key_third_0 _) (ix4 0 0 xr xc)).trans (plain_case 0 (by decide) _ (fun k => key_row_third x0 x1 x2 x3 x4 x5 x6 x7 x8 xr _ e2 k)
      (by have e : (y 1).val = 0 := e1; simp only []; omega))
  · exact (congrFun (key_second_7 _) (ix4 0 0 xr xc)).trans (plain_case 1792 (by decide) _ (fun k => key_row_second x0 x1 x2 x3 x4 x5 x6 x7 x8 xr _ e2 k)
      (by have e : (y 1).val = 7 := e1; simp only []; omega))
  · exact (congrFun (key_second_6 _) (ix4 0 0 xr xc)).trans (plain_case 1536 (by decide) _ (fun k => key_row_second x0 x1 x2 x3 x4 x5 x6 x7 x8 xr _ e2 k)
      (by have e : (y 1).val = 6 := e1; simp only []; omega))
  · exact (congrFun (key_second_5 _) (ix4 0 0 xr xc)).trans (plain_case 1280 (by decide) _ (fun k => key_row_second x0 x1 x2 x3 x4 x5 x6 x7 x8 xr _ e2 k)
      (by have e : (y 1).val = 5 := e1; simp only []; omega))
  · exact (congrFun (key_second_4 _) (ix4 0 0 xr xc)).trans (plain_case 1024 (by decide) _ (fun k => key_row_second x0 x1 x2 x3 x4 x5 x6 x7 x8 xr _ e2 k)
      (by have e : (y 1).val = 4 := e1; simp only []; omega))
  · exact (congrFun (key_second_3 _) (ix4 0 0 xr xc)).trans (plain_case 768 (by decide) _ (fun k => key_row_second x0 x1 x2 x3 x4 x5 x6 x7 x8 xr _ e2 k)
      (by have e : (y 1).val = 3 := e1; simp only []; omega))
  · exact (congrFun (key_second_2 _) (ix4 0 0 xr xc)).trans (plain_case 512 (by decide) _ (fun k => key_row_second x0 x1 x2 x3 x4 x5 x6 x7 x8 xr _ e2 k)
      (by have e : (y 1).val = 2 := e1; simp only []; omega))
  · exact (congrFun (key_second_1 _) (ix4 0 0 xr xc)).trans (plain_case 256 (by decide) _ (fun k => key_row_second x0 x1 x2 x3 x4 x5 x6 x7 x8 xr _ e2 k)
      (by have e : (y 1).val = 1 := e1; simp only []; omega))
  · exact (congrFun (key_second_0 _) (ix4 0 0 xr xc)).trans (plain_case 0 (by decide) _ (fun k => key_row_second x0 x1 x2 x3 x4 x5 x6 x7 x8 xr _ e2 k)
      (by have e : (y 1).val = 0 := e1; simp only []; omega))
  · exact (congrFun (key_first_7 _) (ix4 0 0 xr xc)).trans (plain_case 1792 (by decide) _ (fun k => key_row_first x0 x1 x2 x3 x4 x5 x6 x7 x8 xr _ (e2.trans (Nat.zero_add _).symm) k)
      (by have e : (y 1).val = 7 := e1; simp only []; omega))
  · exact (congrFun (key_first_6 _) (ix4 0 0 xr xc)).trans (plain_case 1536 (by decide) _ (fun k => key_row_first x0 x1 x2 x3 x4 x5 x6 x7 x8 xr _ (e2.trans (Nat.zero_add _).symm) k)
      (by have e : (y 1).val = 6 := e1; simp only []; omega))
  · exact (congrFun (key_first_5 _) (ix4 0 0 xr xc)).trans (plain_case 1280 (by decide) _ (fun k => key_row_first x0 x1 x2 x3 x4 x5 x6 x7 x8 xr _ (e2.trans (Nat.zero_add _).symm) k)
      (by have e : (y 1).val = 5 := e1; simp only []; omega))
  · exact (congrFun (key_first_4 _) (ix4 0 0 xr xc)).trans (plain_case 1024 (by decide) _ (fun k => key_row_first x0 x1 x2 x3 x4 x5 x6 x7 x8 xr _ (e2.trans (Nat.zero_add _).symm) k)
      (by have e : (y 1).val = 4 := e1; simp only []; omega))
  · exact (congrFun (key_first_3 _) (ix4 0 0 xr xc)).trans (plain_case 768 (by decide) _ (fun k => key_row_first x0 x1 x2 x3 x4 x5 x6 x7 x8 xr _ (e2.trans (Nat.zero_add _).symm) k)
      (by have e : (y 1).val = 3 := e1; simp only []; omega))
  · exact (congrFun (key_first_2 _) (ix4 0 0 xr xc)).trans (plain_case 512 (by decide) _ (fun k => key_row_first x0 x1 x2 x3 x4 x5 x6 x7 x8 xr _ (e2.trans (Nat.zero_add _).symm) k)
      (by have e : (y 1).val = 2 := e1; simp only []; omega))
  · exact (congrFun (key_first_1 _) (ix4 0 0 xr xc)).trans (plain_case 256 (by decide) _ (fun k => key_row_first x0 x1 x2 x3 x4 x5 x6 x7 x8 xr _ (e2.trans (Nat.zero_add _).symm) k)
      (by have e : (y 1).val = 1 := e1; simp only []; omega))
  · exact (congrFun (key_first_0 _) (ix4 0 0 xr xc)).trans (plain_case 0 (by decide) _ (fun k => key_row_first x0 x1 x2 x3 x4 x5 x6 x7 x8 xr _ (e2.trans (Nat.zero_add _).symm) k)
      (by have e : (y 1).val = 0 := e1; simp only []; omega))

/-- The values' block at an index. -/
theorem out_values (x0 : FVec Ideal S1024x512 .bf16) (x1 : FVec Ideal S1024x256 .bf16) (x2 : FVec Ideal S1024x128 .bf16)
    (x3 x4 : FVec Ideal S1024x128 .f32) (x5 : FVec Ideal S1x512 .f32) (x6 : FVec Ideal S1x256 .f32) (x7 : FVec Ideal S512x2048 .bf16)
    (x8 : FVec Ideal S256x2048 .bf16) (y : S1x8x1024x128.Idx) :
    out0_12 (F := Ideal) x0 x1 x2 x3 x4 x5 x6 x7 x8 y
      = product 0x43800000#32 (fun k => x1 (ix2 (y 2) k)) (fun k => x6 (ix2 0 k)) (fun k l => x8 (ix2 k l)) ⟨256 * (y 1).val + 128 + (y 3).val, by
        have : (y 1).val < 8 := (y 1).isLt
        have : (y 3).val < 128 := (y 3).isLt
        omega⟩ := by
  unfold out0_12
  canon_tiles x e
  all_goals
    obtain ⟨xb, xh, xr, xc, rfl⟩ : ∃ (xb xh : Fin 1) (xr : Fin 256) (xc : Fin 128), x = ix4 xb xh xr xc := ⟨x 0, x 1, x 2, x 3, eq_ix4 x⟩
    obtain rfl : xb = 0 := Subsingleton.elim _ _
    obtain rfl : xh = 0 := Subsingleton.elim _ _
    simp only [ix4_0, ix4_1, ix4_2, ix4_3] at e0 e1 e2 e3
  · exact (congrFun (value_fourth_7 _) (ix4 0 0 xr xc)).trans (plain_case 1920 (by decide) _ (fun k => key_row_fourth x0 x1 x2 x3 x4 x5 x6 x7 x8 xr _ e2 k)
      (by have e : (y 1).val = 7 := e1; simp only []; omega))
  · exact (congrFun (value_fourth_6 _) (ix4 0 0 xr xc)).trans (plain_case 1664 (by decide) _ (fun k => key_row_fourth x0 x1 x2 x3 x4 x5 x6 x7 x8 xr _ e2 k)
      (by have e : (y 1).val = 6 := e1; simp only []; omega))
  · exact (congrFun (value_fourth_5 _) (ix4 0 0 xr xc)).trans (plain_case 1408 (by decide) _ (fun k => key_row_fourth x0 x1 x2 x3 x4 x5 x6 x7 x8 xr _ e2 k)
      (by have e : (y 1).val = 5 := e1; simp only []; omega))
  · exact (congrFun (value_fourth_4 _) (ix4 0 0 xr xc)).trans (plain_case 1152 (by decide) _ (fun k => key_row_fourth x0 x1 x2 x3 x4 x5 x6 x7 x8 xr _ e2 k)
      (by have e : (y 1).val = 4 := e1; simp only []; omega))
  · exact (congrFun (value_fourth_3 _) (ix4 0 0 xr xc)).trans (plain_case 896 (by decide) _ (fun k => key_row_fourth x0 x1 x2 x3 x4 x5 x6 x7 x8 xr _ e2 k)
      (by have e : (y 1).val = 3 := e1; simp only []; omega))
  · exact (congrFun (value_fourth_2 _) (ix4 0 0 xr xc)).trans (plain_case 640 (by decide) _ (fun k => key_row_fourth x0 x1 x2 x3 x4 x5 x6 x7 x8 xr _ e2 k)
      (by have e : (y 1).val = 2 := e1; simp only []; omega))
  · exact (congrFun (value_fourth_1 _) (ix4 0 0 xr xc)).trans (plain_case 384 (by decide) _ (fun k => key_row_fourth x0 x1 x2 x3 x4 x5 x6 x7 x8 xr _ e2 k)
      (by have e : (y 1).val = 1 := e1; simp only []; omega))
  · exact (congrFun (value_fourth_0 _) (ix4 0 0 xr xc)).trans (plain_case 128 (by decide) _ (fun k => key_row_fourth x0 x1 x2 x3 x4 x5 x6 x7 x8 xr _ e2 k)
      (by have e : (y 1).val = 0 := e1; simp only []; omega))
  · exact (congrFun (value_third_7 _) (ix4 0 0 xr xc)).trans (plain_case 1920 (by decide) _ (fun k => key_row_third x0 x1 x2 x3 x4 x5 x6 x7 x8 xr _ e2 k)
      (by have e : (y 1).val = 7 := e1; simp only []; omega))
  · exact (congrFun (value_third_6 _) (ix4 0 0 xr xc)).trans (plain_case 1664 (by decide) _ (fun k => key_row_third x0 x1 x2 x3 x4 x5 x6 x7 x8 xr _ e2 k)
      (by have e : (y 1).val = 6 := e1; simp only []; omega))
  · exact (congrFun (value_third_5 _) (ix4 0 0 xr xc)).trans (plain_case 1408 (by decide) _ (fun k => key_row_third x0 x1 x2 x3 x4 x5 x6 x7 x8 xr _ e2 k)
      (by have e : (y 1).val = 5 := e1; simp only []; omega))
  · exact (congrFun (value_third_4 _) (ix4 0 0 xr xc)).trans (plain_case 1152 (by decide) _ (fun k => key_row_third x0 x1 x2 x3 x4 x5 x6 x7 x8 xr _ e2 k)
      (by have e : (y 1).val = 4 := e1; simp only []; omega))
  · exact (congrFun (value_third_3 _) (ix4 0 0 xr xc)).trans (plain_case 896 (by decide) _ (fun k => key_row_third x0 x1 x2 x3 x4 x5 x6 x7 x8 xr _ e2 k)
      (by have e : (y 1).val = 3 := e1; simp only []; omega))
  · exact (congrFun (value_third_2 _) (ix4 0 0 xr xc)).trans (plain_case 640 (by decide) _ (fun k => key_row_third x0 x1 x2 x3 x4 x5 x6 x7 x8 xr _ e2 k)
      (by have e : (y 1).val = 2 := e1; simp only []; omega))
  · exact (congrFun (value_third_1 _) (ix4 0 0 xr xc)).trans (plain_case 384 (by decide) _ (fun k => key_row_third x0 x1 x2 x3 x4 x5 x6 x7 x8 xr _ e2 k)
      (by have e : (y 1).val = 1 := e1; simp only []; omega))
  · exact (congrFun (value_third_0 _) (ix4 0 0 xr xc)).trans (plain_case 128 (by decide) _ (fun k => key_row_third x0 x1 x2 x3 x4 x5 x6 x7 x8 xr _ e2 k)
      (by have e : (y 1).val = 0 := e1; simp only []; omega))
  · exact (congrFun (value_second_7 _) (ix4 0 0 xr xc)).trans (plain_case 1920 (by decide) _ (fun k => key_row_second x0 x1 x2 x3 x4 x5 x6 x7 x8 xr _ e2 k)
      (by have e : (y 1).val = 7 := e1; simp only []; omega))
  · exact (congrFun (value_second_6 _) (ix4 0 0 xr xc)).trans (plain_case 1664 (by decide) _ (fun k => key_row_second x0 x1 x2 x3 x4 x5 x6 x7 x8 xr _ e2 k)
      (by have e : (y 1).val = 6 := e1; simp only []; omega))
  · exact (congrFun (value_second_5 _) (ix4 0 0 xr xc)).trans (plain_case 1408 (by decide) _ (fun k => key_row_second x0 x1 x2 x3 x4 x5 x6 x7 x8 xr _ e2 k)
      (by have e : (y 1).val = 5 := e1; simp only []; omega))
  · exact (congrFun (value_second_4 _) (ix4 0 0 xr xc)).trans (plain_case 1152 (by decide) _ (fun k => key_row_second x0 x1 x2 x3 x4 x5 x6 x7 x8 xr _ e2 k)
      (by have e : (y 1).val = 4 := e1; simp only []; omega))
  · exact (congrFun (value_second_3 _) (ix4 0 0 xr xc)).trans (plain_case 896 (by decide) _ (fun k => key_row_second x0 x1 x2 x3 x4 x5 x6 x7 x8 xr _ e2 k)
      (by have e : (y 1).val = 3 := e1; simp only []; omega))
  · exact (congrFun (value_second_2 _) (ix4 0 0 xr xc)).trans (plain_case 640 (by decide) _ (fun k => key_row_second x0 x1 x2 x3 x4 x5 x6 x7 x8 xr _ e2 k)
      (by have e : (y 1).val = 2 := e1; simp only []; omega))
  · exact (congrFun (value_second_1 _) (ix4 0 0 xr xc)).trans (plain_case 384 (by decide) _ (fun k => key_row_second x0 x1 x2 x3 x4 x5 x6 x7 x8 xr _ e2 k)
      (by have e : (y 1).val = 1 := e1; simp only []; omega))
  · exact (congrFun (value_second_0 _) (ix4 0 0 xr xc)).trans (plain_case 128 (by decide) _ (fun k => key_row_second x0 x1 x2 x3 x4 x5 x6 x7 x8 xr _ e2 k)
      (by have e : (y 1).val = 0 := e1; simp only []; omega))
  · exact (congrFun (value_first_7 _) (ix4 0 0 xr xc)).trans (plain_case 1920 (by decide) _ (fun k => key_row_first x0 x1 x2 x3 x4 x5 x6 x7 x8 xr _ (e2.trans (Nat.zero_add _).symm) k)
      (by have e : (y 1).val = 7 := e1; simp only []; omega))
  · exact (congrFun (value_first_6 _) (ix4 0 0 xr xc)).trans (plain_case 1664 (by decide) _ (fun k => key_row_first x0 x1 x2 x3 x4 x5 x6 x7 x8 xr _ (e2.trans (Nat.zero_add _).symm) k)
      (by have e : (y 1).val = 6 := e1; simp only []; omega))
  · exact (congrFun (value_first_5 _) (ix4 0 0 xr xc)).trans (plain_case 1408 (by decide) _ (fun k => key_row_first x0 x1 x2 x3 x4 x5 x6 x7 x8 xr _ (e2.trans (Nat.zero_add _).symm) k)
      (by have e : (y 1).val = 5 := e1; simp only []; omega))
  · exact (congrFun (value_first_4 _) (ix4 0 0 xr xc)).trans (plain_case 1152 (by decide) _ (fun k => key_row_first x0 x1 x2 x3 x4 x5 x6 x7 x8 xr _ (e2.trans (Nat.zero_add _).symm) k)
      (by have e : (y 1).val = 4 := e1; simp only []; omega))
  · exact (congrFun (value_first_3 _) (ix4 0 0 xr xc)).trans (plain_case 896 (by decide) _ (fun k => key_row_first x0 x1 x2 x3 x4 x5 x6 x7 x8 xr _ (e2.trans (Nat.zero_add _).symm) k)
      (by have e : (y 1).val = 3 := e1; simp only []; omega))
  · exact (congrFun (value_first_2 _) (ix4 0 0 xr xc)).trans (plain_case 640 (by decide) _ (fun k => key_row_first x0 x1 x2 x3 x4 x5 x6 x7 x8 xr _ (e2.trans (Nat.zero_add _).symm) k)
      (by have e : (y 1).val = 2 := e1; simp only []; omega))
  · exact (congrFun (value_first_1 _) (ix4 0 0 xr xc)).trans (plain_case 384 (by decide) _ (fun k => key_row_first x0 x1 x2 x3 x4 x5 x6 x7 x8 xr _ (e2.trans (Nat.zero_add _).symm) k)
      (by have e : (y 1).val = 1 := e1; simp only []; omega))
  · exact (congrFun (value_first_0 _) (ix4 0 0 xr xc)).trans (plain_case 128 (by decide) _ (fun k => key_row_first x0 x1 x2 x3 x4 x5 x6 x7 x8 xr _ (e2.trans (Nat.zero_add _).symm) k)
      (by have e : (y 1).val = 0 := e1; simp only []; omega))

/-- The shared key's block at an index. -/
theorem out_shared (x0 : FVec Ideal S1024x512 .bf16) (x1 : FVec Ideal S1024x256 .bf16) (x2 : FVec Ideal S1024x128 .bf16)
    (x3 x4 : FVec Ideal S1024x128 .f32) (x5 : FVec Ideal S1x512 .f32) (x6 : FVec Ideal S1x256 .f32) (x7 : FVec Ideal S512x2048 .bf16)
    (x8 : FVec Ideal S256x2048 .bf16) (y : S1x1024x128.Idx) :
    out0_11 (F := Ideal) x0 x1 x2 x3 x4 x5 x6 x7 x8 y
      = turned (fun l => x2 (ix2 (y 1) l)) (fun l => x3 (ix2 (y 1) l)) (fun l => x4 (ix2 (y 1) l)) (y 2) := by
  unfold out0_11
  canon_tiles x e
  all_goals
    obtain ⟨xb, xr, xc, rfl⟩ : ∃ (xb : Fin 1) (xr : Fin 256) (xc : Fin 128), x = ix3 xb xr xc := ⟨x 0, x 1, x 2, eq_ix3 x⟩
    obtain rfl : xb = 0 := Subsingleton.elim _ _
    simp only [ix3_0, ix3_1, ix3_2] at e0 e1 e2
  · exact (congrFun (shared_fourth _ _ _) (ix3 0 xr xc)).trans (shared_case (fun k => by pointwise; blk_ext)
      (fun k => cos_row_fourth x0 x1 x2 x3 x4 x5 x6 x7 x8 xr _ e1 k) (fun k => sin_row_fourth x0 x1 x2 x3 x4 x5 x6 x7 x8 xr _ e1 k) (by omega))
  · exact (congrFun (shared_third _ _ _) (ix3 0 xr xc)).trans (shared_case (fun k => by pointwise; blk_ext)
      (fun k => cos_row_third x0 x1 x2 x3 x4 x5 x6 x7 x8 xr _ e1 k) (fun k => sin_row_third x0 x1 x2 x3 x4 x5 x6 x7 x8 xr _ e1 k) (by omega))
  · exact (congrFun (shared_second _ _ _) (ix3 0 xr xc)).trans (shared_case (fun k => by pointwise; blk_ext)
      (fun k => cos_row_second x0 x1 x2 x3 x4 x5 x6 x7 x8 xr _ e1 k) (fun k => sin_row_second x0 x1 x2 x3 x4 x5 x6 x7 x8 xr _ e1 k) (by omega))
  · exact (congrFun (shared_first _ _ _) (ix3 0 xr xc)).trans (shared_case (fun k => by pointwise; blk_ext)
      (fun k => cos_row_first x0 x1 x2 x3 x4 x5 x6 x7 x8 xr _ (e1.trans (Nat.zero_add _).symm) k) (fun k => sin_row_first x0 x1 x2 x3 x4 x5 x6 x7 x8 xr _ (e1.trans (Nat.zero_add _).symm) k) (by omega))

end Cert.QkvKeyBlock

end
-- ==== Proof.QkvEntry.lean ====
/- The arrays the pipeline of the queries, keys and values starts from, in terms of the arguments. -/
module

public import proofs.«01_k».proof.Proof.Gen.QkvIdeal.Frame
public import Idealize.ShloMosaic.Lib.Pipeline.ValueKit

@[expose] public section

set_option maxRecDepth 16384

noncomputable section

namespace Cert.QkvEntry

open Cert.QkvIdeal Cert.QkvIdeal.Gen
open Idealize.ShloMosaic Idealize.ShloMosaic.TcCoe Idealize.SL.Sem

/-- A position times the frequency of each pair of lanes. -/
def halfAngles : FVec Ideal S2048x32 .f32 :=
  mulf (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1 (Host.divf
    (broadcastInDim S32 ![] bcast_S_S32 (constant S_ .f32 0x3F800000#32)) (Host.powf (broadcastInDim S32 ![] bcast_S_S32 (constant S_
    .f32 0x461C4000#32)) (Host.divf (addf (broadcastInDim S32 ![] bcast_S_S32 (constant S_ .f32 0x00000000#32)) (mulf (broadcastInDim
    S32 ![] bcast_S_S32 (constant S_ .f32 0x40000000#32)) (sitofp .f32 (iotaInDim S32 32 0)))) (broadcastInDim S32 ![] bcast_S_S32
    (constant S_ .f32 0x42800000#32)))))))

/-- The angle of every position and lane. -/
def angles : FVec Ideal S2048x64 .f32 :=
  concatenate S2048x64 1 [⟨S2048x32, halfAngles⟩, ⟨S2048x32, halfAngles⟩] concatenates_S2048x32_S2048x32_S2048x64_d1

/-- The cosines. -/
def cosines : FVec Ideal S2048x64 .f32 := Host.cos angles

/-- The sines. -/
def sines : FVec Ideal S2048x64 .f32 := Host.sin angles

variable (m : (ℓ : Loc nD τ sig) → Buf (Elt Ideal) ℓ)

/-- The integer zero converted is zero. -/
theorem zero_converted : (FloatOps.sitofp .f32 (0#32) : Ideal .f32) = (0 : EReal) := by
  show (((0#32 : BitVec 32).toInt : ℝ) : EReal) = 0
  simp

/-- The cosines, with lanes of zeros after them. -/
theorem cos_entry (c : Dev nD) (s : Fin 2048) (j : Fin 128) :
    (show FVec Ideal S2048x128 .f32 from V m c main_v19) (ix2 s j) = if h : j.val < 64 then cosines (ix2 s ⟨j.val, h⟩) else (0 : EReal) := by
  have e : (show FVec Ideal S2048x128 .f32 from V m c main_v19) = pad S2048x128 ![0, 0] ![0, 64] ![0, 0] cosines
      (sitofp .f32 (constantI S_ 32 0#32)) pads_S2048x64_S2048x128_000_0640 h_S_ := by
    show V m c main_v19 = _
    unfold V
    simp only [hostOps0, hostOps0_1, hostOps0_2, hostOps0_3, hostOps0_4, hostOps0_5, hostOps0_6, List.flatten_cons, List.flatten_nil,
      List.append_nil, List.cons_append, List.nil_append, StableHlo.TRef.binary, StableHlo.TRef.unary, StableHlo.TRef.toBuf,
      StableHlo.TRef.ofBuf, cast_eq]
    after_results
    rfl
  rw [e]
  generalize cosines = u
  pointwise
  rw [zero_converted]

/-- The sines, with lanes of zeros after them. -/
theorem sin_entry (c : Dev nD) (s : Fin 2048) (j : Fin 128) :
    (show FVec Ideal S2048x128 .f32 from V m c main_v21) (ix2 s j) = if h : j.val < 64 then sines (ix2 s ⟨j.val, h⟩) else (0 : EReal) := by
  have e : (show FVec Ideal S2048x128 .f32 from V m c main_v21) = pad S2048x128 ![0, 0] ![0, 64] ![0, 0] sines
      (sitofp .f32 (constantI S_ 32 0#32)) pads_S2048x64_S2048x128_000_0640 h_S_ := by
    show V m c main_v21 = _
    unfold V
    simp only [hostOps0, hostOps0_1, hostOps0_2, hostOps0_3, hostOps0_4, hostOps0_5, hostOps0_6, List.flatten_cons, List.flatten_nil,
      List.append_nil, List.cons_append, List.nil_append, StableHlo.TRef.binary, StableHlo.TRef.unary, StableHlo.TRef.toBuf,
      StableHlo.TRef.ofBuf, cast_eq]
    after_results
    rfl
  rw [e]
  generalize sines = u
  pointwise
  rw [zero_converted]

/-- The queries' gain as a row. -/
theorem gain_q_entry (c : Dev nD) (k : Fin 512) :
    (show FVec Ideal S1x512 .f32 from V m c main_v27) (ix2 0 k) = (show FVec Ideal S1x512 .f32 from m ((c : Thread nD τ).loc main_arg1)) (ix2 0 k) := by
  have e : (show FVec Ideal S1x512 .f32 from V m c main_v27) = broadcastInDim S1x512 ![1] bcast_S512_S1x512_1
      (shapeCast S512 (show FVec Ideal S1x512 .f32 from m ((c : Thread nD τ).loc main_arg1)) shapeCasts_S1x512_S512) := by
    show V m c main_v27 = _
    unfold V
    simp only [hostOps0, hostOps0_1, hostOps0_2, hostOps0_3, hostOps0_4, hostOps0_5, hostOps0_6, List.flatten_cons, List.flatten_nil,
      List.append_nil, List.cons_append, List.nil_append, StableHlo.TRef.binary, StableHlo.TRef.unary, StableHlo.TRef.toBuf,
      StableHlo.TRef.ofBuf, cast_eq]
    after_results
    rfl
  rw [e]
  pointwise

/-- The keys' and values' gain as a row. -/
theorem gain_kv_entry (c : Dev nD) (k : Fin 256) :
    (show FVec Ideal S1x256 .f32 from V m c main_v29) (ix2 0 k) = (show FVec Ideal S1x256 .f32 from m ((c : Thread nD τ).loc main_arg3)) (ix2 0 k) := by
  have e : (show FVec Ideal S1x256 .f32 from V m c main_v29) = broadcastInDim S1x256 ![1] bcast_S256_S1x256_1
      (shapeCast S256 (show FVec Ideal S1x256 .f32 from m ((c : Thread nD τ).loc main_arg3)) shapeCasts_S1x256_S256) := by
    show V m c main_v29 = _
    unfold V
    simp only [hostOps0, hostOps0_1, hostOps0_2, hostOps0_3, hostOps0_4, hostOps0_5, hostOps0_6, List.flatten_cons, List.flatten_nil,
      List.append_nil, List.cons_append, List.nil_append, StableHlo.TRef.binary, StableHlo.TRef.unary, StableHlo.TRef.toBuf,
      StableHlo.TRef.ofBuf, cast_eq]
    after_results
    rfl
  rw [e]
  pointwise

/-- The keys' and values' weights. -/
theorem w_kv_entry (c : Dev nD) (k : Fin 256) (j : Fin 2048) :
    (show FVec Ideal S256x2048 .bf16 from V m c main_v32) (ix2 k j) = (show FVec Ideal S1x256x2048 .f32 from m ((c : Thread nD τ).loc main_arg4)) (ix3 0 k j) := by
  have e : (show FVec Ideal S256x2048 .bf16 from V m c main_v32) = truncf .bf16 (shapeCast S256x2048
      (show FVec Ideal S1x256x2048 .f32 from m ((c : Thread nD τ).loc main_arg4)) shapeCasts_S1x256x2048_S256x2048) bitsLt_bf16_f32 := by
    show V m c main_v32 = _
    unfold V
    simp only [hostOps0, hostOps0_1, hostOps0_2, hostOps0_3, hostOps0_4, hostOps0_5, hostOps0_6, List.flatten_cons, List.flatten_nil,
      List.append_nil, List.cons_append, List.nil_append, StableHlo.TRef.binary, StableHlo.TRef.unary, StableHlo.TRef.toBuf,
      StableHlo.TRef.ofBuf, cast_eq]
    after_results
    rfl
  rw [e]
  pointwise

/-- The queries' weights, every head's 192 columns with 64 columns of zeros after them. -/
def headed (w : FVec Ideal S1x512x1536 .f32) : FVec Ideal S512x8x256 .f32 :=
  pad S512x8x256 ![0, 0, 0] ![0, 0, 64] ![0, 0, 0] (shapeCast S512x8x192 (shapeCast S512x1536 w shapeCasts_S1x512x1536_S512x1536)
    shapeCasts_S512x1536_S512x8x192) (sitofp .f32 (constantI S_ 32 0#32)) pads_S512x8x192_S512x8x256_000_000_0640 h_S_

/-- An entry of the queries' padded weights. -/
theorem headed_at (w : FVec Ideal S1x512x1536 .f32) (k : Fin 512) (h : Fin 8) (j : Fin 256) :
    headed w (ix3 k h j) = if hj : j.val < 192 then w (ix3 0 k ⟨192 * h.val + j.val, by omega⟩) else (0 : EReal) := by
  pointwise [headed]
  rw [zero_converted]
  simp only [Nat.mul_comm 192]

/-- The queries' weights, at a lane of a head. -/
theorem w_q_entry (c : Dev nD) (k : Fin 512) (h : Fin 8) (j : Fin 256) :
    (show FVec Ideal S512x2048 .bf16 from V m c main_v30) (ix2 k ⟨256 * h.val + j.val, by omega⟩) = if hj : j.val < 192 then
      (show FVec Ideal S1x512x1536 .f32 from m ((c : Thread nD τ).loc main_arg2)) (ix3 0 k ⟨192 * h.val + j.val, by omega⟩) else (0 : EReal) := by
  have e : (show FVec Ideal S512x2048 .bf16 from V m c main_v30) = truncf .bf16 (shapeCast S512x2048
      (headed (show FVec Ideal S1x512x1536 .f32 from m ((c : Thread nD τ).loc main_arg2))) shapeCasts_S512x8x256_S512x2048) bitsLt_bf16_f32 := by
    show V m c main_v30 = _
    unfold V
    simp only [hostOps0, hostOps0_1, hostOps0_2, hostOps0_3, hostOps0_4, hostOps0_5, hostOps0_6, List.flatten_cons, List.flatten_nil,
      List.append_nil, List.cons_append, List.nil_append, StableHlo.TRef.binary, StableHlo.TRef.unary, StableHlo.TRef.toBuf,
      StableHlo.TRef.ofBuf, cast_eq]
    after_results
    rfl
  rw [e]
  rw [← headed_at]
  generalize headed _ = u
  pointwise

end Cert.QkvEntry

end
-- ==== Proof.QkvSpec.lean ====
/- A query's, a key's and a value's lane without the padding. -/
module

public import proofs.«01_k».proof.Proof.QkvCases

@[expose] public section

set_option maxRecDepth 16384

noncomputable section

namespace Cert.QkvSpec

open Cert.QkvTile Cert.QkvChunk Cert.QkvCases Cert.OutBlock
open Idealize.ShloMosaic Idealize.ShloMosaic.TcCoe Idealize.SL.Sem

/-- A normalized row times a column of weights. -/
def entry {n : ℕ} (d : BitVec 32) (a g w : Fin n → EReal) : EReal := ∑ k, normed d a g k * w k

/-- Equal parts give equal entries. -/
theorem entry_congr {n : ℕ} {d : BitVec 32} {a a' g g' w w' : Fin n → EReal} (ha : ∀ k, a k = a' k) (hg : ∀ k, g k = g' k)
    (hw : ∀ k, w k = w' k) : entry d a g w = entry d a' g' w' := by
  rw [funext ha, funext hg, funext hw]

/-- The rotary embedding of 64 lanes. -/
def rotated (x c s : Fin 64 → EReal) (j : Fin 64) : EReal :=
  x j * c j + (if h : j.val < 32 then -x ⟨j.val + 32, by omega⟩ else x ⟨j.val - 32, by omega⟩) * s j

/-- Where the cosines and the sines are padded with zeros, the lanes from 64 on are zero and the others are rotated. -/
theorem turned_padded {x c' s' : Fin 128 → EReal} {x0 c s : Fin 64 → EReal} (hx : ∀ j : Fin 64, x ⟨j.val, by omega⟩ = x0 j)
    (hc : ∀ j, c' j = if h : j.val < 64 then c ⟨j.val, h⟩ else 0) (hs : ∀ j, s' j = if h : j.val < 64 then s ⟨j.val, h⟩ else 0)
    (j : Fin 128) : turned x c' s' j = if h : j.val < 64 then rotated x0 c s ⟨j.val, h⟩ else 0 := by
  unfold turned rotated
  by_cases h : j.val < 64
  · rw [hc, hs, dif_pos h, dif_pos h, dif_pos h, ← hx ⟨j.val, h⟩]
    refine congrArg (fun u => (x j * c ⟨j.val, h⟩ + u * s ⟨j.val, h⟩ : EReal)) ?_
    by_cases h2 : j.val < 32
    · rw [dif_pos h2, dif_pos h2, ← hx]
    · rw [dif_neg h2, dif_neg h2, ← hx]
  · rw [hc, hs, dif_neg h, dif_neg h, dif_neg h, mul_zero, mul_zero, add_zero]

/-- A query's lane: 128 scaled lanes, 64 rotated and scaled lanes, 64 lanes of zeros. -/
def queryEntry (a g : Fin 512 → EReal) (w : Fin 512 → Fin 1536 → EReal) (c s : Fin 64 → EReal) (h : Fin 8) (j : Fin 256) : EReal :=
  if h1 : j.val < 128 then entry 0x44000000#32 a g (fun k => w k ⟨192 * h.val + j.val, by omega⟩) * Ideal.ofBits .f32 0x3DD53B95#32
  else if h2 : j.val < 192 then rotated (fun l => entry 0x44000000#32 a g (fun k => w k ⟨192 * h.val + 128 + l.val, by omega⟩)) c s
    ⟨j.val - 128, by omega⟩ * Ideal.ofBits .f32 0x3DD53B95#32
  else 0

/-- With padded weights, cosines and sines, a query's lane is the one without the padding. -/
theorem queryLane_eq {a' a g' g : Fin 512 → EReal} {w' : Fin 512 → Fin 2048 → EReal} {w : Fin 512 → Fin 1536 → EReal}
    {c' s' : Fin 128 → EReal} {c s : Fin 64 → EReal} (ha : ∀ k, a' k = a k) (hg : ∀ k, g' k = g k)
    (hw : ∀ k (h : Fin 8) (j : Fin 256), w' k ⟨256 * h.val + j.val, by omega⟩
      = if hj : j.val < 192 then w k ⟨192 * h.val + j.val, by omega⟩ else 0)
    (hc : ∀ j, c' j = if h : j.val < 64 then c ⟨j.val, h⟩ else 0) (hs : ∀ j, s' j = if h : j.val < 64 then s ⟨j.val, h⟩ else 0)
    (h : Fin 8) (j : Fin 256) : queryLane a' g' w' c' s' h j = queryEntry a g w c s h j := by
  unfold queryLane queryEntry
  by_cases h1 : j.val < 128
  · rw [dif_pos h1, dif_pos h1]
    refine congrArg (fun u : EReal => u * Ideal.ofBits .f32 0x3DD53B95#32) (entry_congr ha hg fun k => ?_)
    exact (hw k h j).trans (dif_pos (by omega))
  · have hx : ∀ l : Fin 64, product 0x44000000#32 a' g' w' ⟨256 * h.val + 128 + l.val, by omega⟩
        = entry 0x44000000#32 a g (fun k => w k ⟨192 * h.val + 128 + l.val, by omega⟩) := by
      refine fun l => entry_congr ha hg fun k => ?_
      refine Eq.trans (congrArg (w' k) (Fin.ext ?_)) ((hw k h ⟨128 + l.val, by omega⟩).trans ((dif_pos (show 128 + l.val < 192 by omega)).trans
        (congrArg (w k) (Fin.ext ?_))))
      · show 256 * h.val + 128 + l.val = 256 * h.val + (128 + l.val)
        omega
      · show 192 * h.val + (128 + l.val) = 192 * h.val + 128 + l.val
        omega
    rw [dif_neg h1, dif_neg h1, turned_padded hx hc hs]
    by_cases h2 : j.val < 192
    · rw [dif_pos h2, dif_pos (show j.val - 128 < 64 by omega)]
    · rw [dif_neg h2, dif_neg (show ¬ j.val - 128 < 64 by omega), zero_mul]

end Cert.QkvSpec

end
-- ==== Proof.QkvArray.lean ====
/- What the result arrays of the queries, keys and values hold after the run. -/
module

public import proofs.«01_k».proof.Proof.QkvQueryBlock
public import proofs.«01_k».proof.Proof.QkvKeyBlock
public import proofs.«01_k».proof.Proof.QkvEntry
public import proofs.«01_k».proof.Proof.QkvSpec
public import Idealize.ShloMosaic.Lib.Pipeline.ValueKit

@[expose] public section

set_option maxRecDepth 16384

noncomputable section

namespace Cert.QkvArray

open Cert.QkvIdeal Cert.QkvIdeal.Gen Cert.QkvEntry Cert.QkvSpec Cert.QkvQueryBlock Cert.QkvKeyBlock
open Idealize.ShloMosaic Idealize.ShloMosaic.TcCoe Idealize.SL.Sem

/-- The row of a batch and a position. -/
def rowOf (b : Fin 8) (s : Fin 2048) : Fin 16384 := ⟨2048 * b.val + s.val, by omega⟩

/-- The queries. -/
def queries (x : FVec Ideal S16384x4096 .bf16) (g : FVec Ideal S1x512 .f32) (w : FVec Ideal S1x512x1536 .f32) : FVec Ideal S8x8x2048x256 .bf16 := fun i =>
  queryEntry (fun k => x (ix2 (rowOf (i 0) (i 2)) ⟨3072 + k.val, by omega⟩)) (fun k => g (ix2 0 k)) (fun k l => w (ix3 0 k l))
    (fun l => cosines (ix2 (i 2) l)) (fun l => sines (ix2 (i 2) l)) (i 1) (i 3)

/-- The keys. -/
def keys (x : FVec Ideal S16384x4096 .bf16) (g : FVec Ideal S1x256 .f32) (w : FVec Ideal S1x256x2048 .f32) : FVec Ideal S8x8x2048x128 .bf16 := fun i =>
  entry 0x43800000#32 (fun k => x (ix2 (rowOf (i 0) (i 2)) ⟨3584 + k.val, by omega⟩)) (fun k => g (ix2 0 k))
    (fun k => w (ix3 0 k ⟨256 * (i 1).val + (i 3).val, by
      have : (i 1).val < 8 := (i 1).isLt
      have : (i 3).val < 128 := (i 3).isLt
      omega⟩))

/-- The values. -/
def values (x : FVec Ideal S16384x4096 .bf16) (g : FVec Ideal S1x256 .f32) (w : FVec Ideal S1x256x2048 .f32) : FVec Ideal S8x8x2048x128 .bf16 := fun i =>
  entry 0x43800000#32 (fun k => x (ix2 (rowOf (i 0) (i 2)) ⟨3584 + k.val, by omega⟩)) (fun k => g (ix2 0 k))
    (fun k => w (ix3 0 k ⟨256 * (i 1).val + 128 + (i 3).val, by
      have : (i 1).val < 8 := (i 1).isLt
      have : (i 3).val < 128 := (i 3).isLt
      omega⟩))

/-- The key all heads share: 64 rotated lanes, 64 lanes of zeros. -/
def shared (x : FVec Ideal S16384x4096 .bf16) : FVec Ideal S8x2048x128 .bf16 := fun i =>
  if h : (i 2).val < 64 then rotated (fun l => x (ix2 (rowOf (i 0) (i 1)) ⟨3840 + l.val, by omega⟩)) (fun l => cosines (ix2 (i 1) l))
    (fun l => sines (ix2 (i 1) l)) ⟨(i 2).val, h⟩
  else (0 : EReal)

/-- The block of each window at a grid point. -/
theorem idx : ∀ t : Fin cfg0.N, win0_0.index t = ![t.val, 6] ∧ win0_1.index t = ![t.val, 14] ∧ win0_2.index t = ![t.val, 30]
    ∧ win0_3.index t = ![t.val % 2, 0] ∧ win0_4.index t = ![t.val % 2, 0] ∧ win0_5.index t = ![0, 0] ∧ win0_6.index t = ![0, 0]
    ∧ win0_7.index t = ![0, 0] ∧ win0_8.index t = ![0, 0] ∧ win0_9.index t = ![t.val / 2, 0, t.val % 2, 0]
    ∧ win0_10.index t = ![t.val / 2, 0, t.val % 2, 0] ∧ win0_11.index t = ![t.val / 2, t.val % 2, 0]
    ∧ win0_12.index t = ![t.val / 2, 0, t.val % 2, 0] ∧ t.val < 16 :=
  (by decide +kernel : ∀ t : Fin grid0.N, _)

/-- A grid point's number is below 16. -/
theorem point_lt (t : Fin cfg0.N) : t.val < 16 := (idx t).2.2.2.2.2.2.2.2.2.2.2.2.2

/-- The batch of a grid point. -/
def batch (t : Fin cfg0.N) : Fin 8 := ⟨t.val / 2, by have := point_lt t; omega⟩

/-- The position of a grid point's row. -/
def position (t : Fin cfg0.N) (r : Fin 1024) : Fin 2048 := ⟨t.val % 2 * 1024 + r.val, by omega⟩

variable (m : (ℓ : Loc nD τ sig) → Buf (Elt Ideal) ℓ)

/-- The queries' columns of the projection. -/
theorem q_block (c : Dev nD) (t : Fin cfg0.N) (r : Fin 1024) (k : Fin 512) :
    (show FVec Ideal S1024x512 .bf16 from iblk m c 0 t) (ix2 r k) = (show FVec Ideal S16384x4096 .bf16 from m ((c : Thread nD τ).loc main_arg0)) (ix2 (rowOf (batch t) (position t r)) ⟨3072 + k.val, by omega⟩) := by
  refine Eq.trans ?_ (congrFun (V_main_arg0 m c) _)
  blk_ext [iblk, idx t, batch, position, rowOf]

/-- The keys' and values' columns of the projection. -/
theorem kv_block (c : Dev nD) (t : Fin cfg0.N) (r : Fin 1024) (k : Fin 256) :
    (show FVec Ideal S1024x256 .bf16 from iblk m c 1 t) (ix2 r k) = (show FVec Ideal S16384x4096 .bf16 from m ((c : Thread nD τ).loc main_arg0)) (ix2 (rowOf (batch t) (position t r)) ⟨3584 + k.val, by omega⟩) := by
  refine Eq.trans ?_ (congrFun (V_main_arg0 m c) _)
  blk_ext [iblk, idx t, batch, position, rowOf]

/-- The shared key's columns of the projection. -/
theorem pe_block (c : Dev nD) (t : Fin cfg0.N) (r : Fin 1024) (k : Fin 128) :
    (show FVec Ideal S1024x128 .bf16 from iblk m c 2 t) (ix2 r k) = (show FVec Ideal S16384x4096 .bf16 from m ((c : Thread nD τ).loc main_arg0)) (ix2 (rowOf (batch t) (position t r)) ⟨3840 + k.val, by omega⟩) := by
  refine Eq.trans ?_ (congrFun (V_main_arg0 m c) _)
  blk_ext [iblk, idx t, batch, position, rowOf]

/-- The block of the cosines. -/
theorem cos_block (c : Dev nD) (t : Fin cfg0.N) (r : Fin 1024) (j : Fin 128) :
    (show FVec Ideal S1024x128 .f32 from iblk m c 3 t) (ix2 r j) = if h : j.val < 64 then cosines (ix2 (position t r) ⟨j.val, h⟩) else (0 : EReal) := by
  refine Eq.trans ?_ (cos_entry m c (position t r) j)
  blk_ext [iblk, idx t, batch, position, rowOf]

/-- The block of the sines. -/
theorem sin_block (c : Dev nD) (t : Fin cfg0.N) (r : Fin 1024) (j : Fin 128) :
    (show FVec Ideal S1024x128 .f32 from iblk m c 4 t) (ix2 r j) = if h : j.val < 64 then sines (ix2 (position t r) ⟨j.val, h⟩) else (0 : EReal) := by
  refine Eq.trans ?_ (sin_entry m c (position t r) j)
  blk_ext [iblk, idx t, batch, position, rowOf]

/-- The queries' gain. -/
theorem gq_block (c : Dev nD) (t : Fin cfg0.N) (k : Fin 512) :
    (show FVec Ideal S1x512 .f32 from iblk m c 5 t) (ix2 0 k) = (show FVec Ideal S1x512 .f32 from m ((c : Thread nD τ).loc main_arg1)) (ix2 0 k) := by
  refine Eq.trans ?_ (gain_q_entry m c k)
  blk_ext [iblk, idx t, batch, position, rowOf]

/-- The keys' and values' gain. -/
theorem gkv_block (c : Dev nD) (t : Fin cfg0.N) (k : Fin 256) :
    (show FVec Ideal S1x256 .f32 from iblk m c 6 t) (ix2 0 k) = (show FVec Ideal S1x256 .f32 from m ((c : Thread nD τ).loc main_arg3)) (ix2 0 k) := by
  refine Eq.trans ?_ (gain_kv_entry m c k)
  blk_ext [iblk, idx t, batch, position, rowOf]

/-- The queries' weights. -/
theorem wq_block (c : Dev nD) (t : Fin cfg0.N) (k : Fin 512) (h : Fin 8) (j : Fin 256) :
    (show FVec Ideal S512x2048 .bf16 from iblk m c 7 t) (ix2 k ⟨256 * h.val + j.val, by omega⟩) = if hj : j.val < 192 then
      (show FVec Ideal S1x512x1536 .f32 from m ((c : Thread nD τ).loc main_arg2)) (ix3 0 k ⟨192 * h.val + j.val, by omega⟩) else (0 : EReal) := by
  refine Eq.trans ?_ (w_q_entry m c k h j)
  blk_ext [iblk, idx t, batch, position, rowOf]

/-- The keys' and values' weights. -/
theorem wkv_block (c : Dev nD) (t : Fin cfg0.N) (k : Fin 256) (j : Fin 2048) :
    (show FVec Ideal S256x2048 .bf16 from iblk m c 8 t) (ix2 k j) = (show FVec Ideal S1x256x2048 .f32 from m ((c : Thread nD τ).loc main_arg4)) (ix3 0 k j) := by
  refine Eq.trans ?_ (w_kv_entry m c k j)
  blk_ext [iblk, idx t, batch, position, rowOf]

/-- The place of a block's entry in window 9's array. -/
theorem place9 (t : Fin cfg0.N) (y : S1x8x1024x256.Idx) :
    ((win0_9.blk t).view.emb y : S8x8x2048x256.Idx) = ix4 (batch t) (y 1) (position t (y 2)) (y 3) := by
  blk_ext [idx t, batch, position]

/-- The place of a block's entry in window 10's array. -/
theorem place10 (t : Fin cfg0.N) (y : S1x8x1024x128.Idx) :
    ((win0_10.blk t).view.emb y : S8x8x2048x128.Idx) = ix4 (batch t) (y 1) (position t (y 2)) (y 3) := by
  blk_ext [idx t, batch, position]

/-- The place of a block's entry in window 12's array. -/
theorem place12 (t : Fin cfg0.N) (y : S1x8x1024x128.Idx) :
    ((win0_12.blk t).view.emb y : S8x8x2048x128.Idx) = ix4 (batch t) (y 1) (position t (y 2)) (y 3) := by
  blk_ext [idx t, batch, position]

/-- The place of a block's entry in window 11's array. -/
theorem place11 (t : Fin cfg0.N) (y : S1x1024x128.Idx) :
    ((win0_11.blk t).view.emb y : S8x2048x128.Idx) = ix3 (batch t) (position t (y 1)) (y 2) := by
  blk_ext [idx t, batch, position]

/-- The first result array is the queries. -/
theorem final_queries (c : Dev nD) : (dats m 0 c).arrAt 9 cfg0.N = queries (m ((c : Thread nD τ).loc main_arg0)) (m ((c : Thread nD τ).loc main_arg1)) (m ((c : Thread nD τ).loc main_arg2)) := by
  refine (dats m 0 c).arrAt_eq_of_covers 9 _ (by decide +kernel) fun t _ y => ?_
  refine Eq.trans ?_ (congrArg (queries (m ((c : Thread nD τ).loc main_arg0)) (m ((c : Thread nD τ).loc main_arg1)) (m ((c : Thread nD τ).loc main_arg2))) (place9 t y)).symm
  blk_simp
  rw [after0_9]
  exact (out_queries _ _ _ _ _ _ _ _ _ y).trans (queryLane_eq (fun k => q_block m c t (y 2) k) (fun k => gq_block m c t k)
    (fun k h j => wq_block m c t k h j) (fun j => cos_block m c t (y 2) j) (fun j => sin_block m c t (y 2) j) (y 1) (y 3))

/-- The second result array is the keys. -/
theorem final_keys (c : Dev nD) : (dats m 0 c).arrAt 10 cfg0.N = keys (m ((c : Thread nD τ).loc main_arg0)) (m ((c : Thread nD τ).loc main_arg3)) (m ((c : Thread nD τ).loc main_arg4)) := by
  refine (dats m 0 c).arrAt_eq_of_covers 10 _ (by decide +kernel) fun t _ y => ?_
  refine Eq.trans ?_ (congrArg (keys (m ((c : Thread nD τ).loc main_arg0)) (m ((c : Thread nD τ).loc main_arg3)) (m ((c : Thread nD τ).loc main_arg4))) (place10 t y)).symm
  blk_simp
  rw [after0_10]
  exact (out_keys _ _ _ _ _ _ _ _ _ y).trans (entry_congr (fun k => kv_block m c t (y 2) k) (fun k => gkv_block m c t k)
    (fun k => wkv_block m c t k _))

/-- The third result array is the shared key. -/
theorem final_shared (c : Dev nD) : (dats m 0 c).arrAt 11 cfg0.N = shared (m ((c : Thread nD τ).loc main_arg0)) := by
  refine (dats m 0 c).arrAt_eq_of_covers 11 _ (by decide +kernel) fun t _ y => ?_
  refine Eq.trans ?_ (congrArg (shared (m ((c : Thread nD τ).loc main_arg0))) (place11 t y)).symm
  blk_simp
  rw [after0_11]
  exact (out_shared _ _ _ _ _ _ _ _ _ y).trans (turned_padded (fun j => pe_block m c t (y 1) ⟨j.val, by omega⟩) (fun j => cos_block m c t (y 1) j)
    (fun j => sin_block m c t (y 1) j) (y 2))

/-- The fourth result array is the values. -/
theorem final_values (c : Dev nD) : (dats m 0 c).arrAt 12 cfg0.N = values (m ((c : Thread nD τ).loc main_arg0)) (m ((c : Thread nD τ).loc main_arg3)) (m ((c : Thread nD τ).loc main_arg4)) := by
  refine (dats m 0 c).arrAt_eq_of_covers 12 _ (by decide +kernel) fun t _ y => ?_
  refine Eq.trans ?_ (congrArg (values (m ((c : Thread nD τ).loc main_arg0)) (m ((c : Thread nD τ).loc main_arg3)) (m ((c : Thread nD τ).loc main_arg4))) (place12 t y)).symm
  blk_simp
  rw [after0_12]
  exact (out_values _ _ _ _ _ _ _ _ _ y).trans (entry_congr (fun k => kv_block m c t (y 2) k) (fun k => gkv_block m c t k)
    (fun k => wkv_block m c t k _))

end Cert.QkvArray

end
-- ==== Proof.QkvRefParts.lean ====
/- The steps of the reference of the queries, keys and values, one by one. -/
module

public import proofs.«01_k».proof.Proof.QkvArray
public import proofs.«01_k».proof.Proof.Gen.QkvRefIdeal.Run
public import Idealize.ShloMosaic.Lib.Pipeline.ValueKit

@[expose] public section

set_option maxRecDepth 16384

noncomputable section

namespace Cert.QkvRefParts

open Cert.QkvRefIdeal Cert.QkvRefIdeal.Gen Cert.OutBlock Cert.QkvSpec
open Idealize.ShloMosaic Idealize.ShloMosaic.TcCoe Idealize.SL.Sem

/-- The queries' columns of the projection. -/
def queryColumns (x : FVec Ideal S16384x4096 .bf16) : FVec Ideal S8x2048x512 .f32 :=
  extractStridedSlice S8x2048x512 ![0, 0, 3072] (shapeCast S8x2048x4096 (extf .f32 x bitsLt_bf16_f32)
    shapeCasts_S16384x4096_S8x2048x4096) slices_S8x2048x4096_S8x2048x512_0_0_3072

/-- An entry of these columns. -/
theorem queryColumns_at (x : FVec Ideal S16384x4096 .bf16) (b : Fin 8) (s : Fin 2048) (k : Fin 512) :
    queryColumns x (ix3 b s k) = x (ix2 (QkvArray.rowOf b s) ⟨3072 + k.val, by omega⟩) := by
  pointwise [queryColumns, QkvArray.rowOf]
  blk_ext

/-- The keys' and values' columns of the projection. -/
def keyColumns (x : FVec Ideal S16384x4096 .bf16) : FVec Ideal S8x2048x256 .f32 :=
  extractStridedSlice S8x2048x256 ![0, 0, 3584] (shapeCast S8x2048x4096 (extf .f32 x bitsLt_bf16_f32)
    shapeCasts_S16384x4096_S8x2048x4096) slices_S8x2048x4096_S8x2048x256_0_0_3584

/-- An entry of these columns. -/
theorem keyColumns_at (x : FVec Ideal S16384x4096 .bf16) (b : Fin 8) (s : Fin 2048) (k : Fin 256) :
    keyColumns x (ix3 b s k) = x (ix2 (QkvArray.rowOf b s) ⟨3584 + k.val, by omega⟩) := by
  pointwise [keyColumns, QkvArray.rowOf]
  blk_ext

/-- The shared key's columns of the projection. -/
def sharedColumns (x : FVec Ideal S16384x4096 .bf16) : FVec Ideal S8x2048x64 .f32 :=
  extractStridedSlice S8x2048x64 ![0, 0, 3840] (shapeCast S8x2048x4096 (extf .f32 x bitsLt_bf16_f32)
    shapeCasts_S16384x4096_S8x2048x4096) slices_S8x2048x4096_S8x2048x64_0_0_3840

/-- An entry of these columns. -/
theorem sharedColumns_at (x : FVec Ideal S16384x4096 .bf16) (b : Fin 8) (s : Fin 2048) (k : Fin 64) :
    sharedColumns x (ix3 b s k) = x (ix2 (QkvArray.rowOf b s) ⟨3840 + k.val, by omega⟩) := by
  pointwise [sharedColumns, QkvArray.rowOf]
  blk_ext

/-- Rows of 512, normalized. -/
def rms512 (u : FVec Ideal S8x2048x512 .f32) (g : FVec Ideal S1x512 .f32) : FVec Ideal S8x2048x512 .f32 :=
  mulf (mulf u (broadcastInDim S8x2048x512 ![0, 1, 2] bcast_S8x2048x1_S8x2048x512_0_1_2 (Host.rsqrt (addf (Host.divf (broadcastInDim
    S8x2048x1 ![0, 1] bcast_S8x2048_S8x2048x1_0_1 (Host.reduceAdd (mulf u u) (constant S_ .f32 0x00000000#32)
    reducesTo_S8x2048x512_S8x2048_d2 h_S_)) (broadcastInDim S8x2048x1 ![] bcast_S_S8x2048x1 (constant S_ .f32 0x44000000#32)))
    (broadcastInDim S8x2048x1 ![] bcast_S_S8x2048x1 (constant S_ .f32 0x358637BD#32)))))) (broadcastInDim S8x2048x512 ![0, 1, 2]
    bcast_S1x1x512_S8x2048x512_0_1_2 (broadcastInDim S1x1x512 ![2] bcast_S512_S1x1x512_2 (shapeCast S512 g shapeCasts_S1x512_S512)))

/-- An entry of the normalized rows of 512. -/
theorem rms512_at (u : FVec Ideal S8x2048x512 .f32) (g : FVec Ideal S1x512 .f32) (b : Fin 8) (s : Fin 2048) (k : Fin 512) :
    rms512 u g (ix3 b s k) = normed 0x44000000#32 (fun l => u (ix3 b s l)) (fun l => g (ix2 0 l)) k := by
  unfold normed
  pointwise [rms512]

/-- Rows of 256, normalized. -/
def rms256 (u : FVec Ideal S8x2048x256 .f32) (g : FVec Ideal S1x256 .f32) : FVec Ideal S8x2048x256 .f32 :=
  mulf (mulf u (broadcastInDim S8x2048x256 ![0, 1, 2] bcast_S8x2048x1_S8x2048x256_0_1_2 (Host.rsqrt (addf (Host.divf (broadcastInDim
    S8x2048x1 ![0, 1] bcast_S8x2048_S8x2048x1_0_1 (Host.reduceAdd (mulf u u) (constant S_ .f32 0x00000000#32)
    reducesTo_S8x2048x256_S8x2048_d2 h_S_)) (broadcastInDim S8x2048x1 ![] bcast_S_S8x2048x1 (constant S_ .f32 0x43800000#32)))
    (broadcastInDim S8x2048x1 ![] bcast_S_S8x2048x1 (constant S_ .f32 0x358637BD#32)))))) (broadcastInDim S8x2048x256 ![0, 1, 2]
    bcast_S1x1x256_S8x2048x256_0_1_2 (broadcastInDim S1x1x256 ![2] bcast_S256_S1x1x256_2 (shapeCast S256 g shapeCasts_S1x256_S256)))

/-- An entry of the normalized rows of 256. -/
theorem rms256_at (u : FVec Ideal S8x2048x256 .f32) (g : FVec Ideal S1x256 .f32) (b : Fin 8) (s : Fin 2048) (k : Fin 256) :
    rms256 u g (ix3 b s k) = normed 0x43800000#32 (fun l => u (ix3 b s l)) (fun l => g (ix2 0 l)) k := by
  unfold normed
  pointwise [rms256]

/-- The normalized rows of 512 times the weights, by heads. -/
def queryHeads (u : FVec Ideal S8x2048x512 .f32) (w : FVec Ideal S1x512x1536 .f32) : FVec Ideal S8x2048x8x192 .f32 :=
  shapeCast S8x2048x8x192 (Host.dotGeneral dot_S8x2048x512_S512x1536_S8x2048x1536_2_0_01_1_n_n none u
    (shapeCast S512x1536 w shapeCasts_S1x512x1536_S512x1536)) shapeCasts_S8x2048x1536_S8x2048x8x192

/-- An entry of the product by heads. -/
theorem queryHeads_at (u : FVec Ideal S8x2048x512 .f32) (w : FVec Ideal S1x512x1536 .f32) (b : Fin 8) (s : Fin 2048) (h : Fin 8) (j : Fin 192) :
    queryHeads u w (ix4 b s h j) = (∑ k : Fin 512, u (ix3 b s k) * w (ix3 0 k ⟨192 * h.val + j.val, by omega⟩) : EReal) := by
  pointwise [queryHeads]
  simp only [Nat.mul_comm 192]

/-- The normalized rows of 256 times the weights, by heads. -/
def keyHeads (u : FVec Ideal S8x2048x256 .f32) (w : FVec Ideal S1x256x2048 .f32) : FVec Ideal S8x2048x8x256 .f32 :=
  shapeCast S8x2048x8x256 (Host.dotGeneral dot_S8x2048x256_S256x2048_S8x2048x2048_2_0_01_1_n_n none u
    (shapeCast S256x2048 w shapeCasts_S1x256x2048_S256x2048)) shapeCasts_S8x2048x2048_S8x2048x8x256

/-- An entry of the product by heads. -/
theorem keyHeads_at (u : FVec Ideal S8x2048x256 .f32) (w : FVec Ideal S1x256x2048 .f32) (b : Fin 8) (s : Fin 2048) (h : Fin 8) (j : Fin 256) :
    keyHeads u w (ix4 b s h j) = (∑ k : Fin 256, u (ix3 b s k) * w (ix3 0 k ⟨256 * h.val + j.val, by omega⟩) : EReal) := by
  pointwise [keyHeads]
  simp only [Nat.mul_comm 256]

/-- The rotary embedding of the queries' lanes. -/
def turnHeads (u : FVec Ideal S8x2048x8x64 .f32) (c s : FVec Ideal S2048x64 .f32) : FVec Ideal S8x2048x8x64 .f32 :=
  addf (mulf u (broadcastInDim S8x2048x8x64 ![0, 1, 2, 3] bcast_S1x2048x1x64_S8x2048x8x64_0_1_2_3 (broadcastInDim S1x2048x1x64
    ![1, 2, 3] bcast_S2048x1x64_S1x2048x1x64_1_2_3 (broadcastInDim S2048x1x64 ![0, 2] bcast_S2048x64_S2048x1x64_0_2 c))))
    (mulf (concatenate S8x2048x8x64 3 [⟨S8x2048x8x32, (Host.negf (extractStridedSlice S8x2048x8x32 ![0, 0, 0, 32] u
    slices_S8x2048x8x64_S8x2048x8x32_0_0_0_32))⟩, ⟨S8x2048x8x32, (extractStridedSlice S8x2048x8x32 ![0, 0, 0, 0] u
    slices_S8x2048x8x64_S8x2048x8x32_0_0_0_0)⟩] concatenates_S8x2048x8x32_S8x2048x8x32_S8x2048x8x64_d3)
    (broadcastInDim S8x2048x8x64 ![0, 1, 2, 3] bcast_S1x2048x1x64_S8x2048x8x64_0_1_2_3 (broadcastInDim S1x2048x1x64
    ![1, 2, 3] bcast_S2048x1x64_S1x2048x1x64_1_2_3 (broadcastInDim S2048x1x64 ![0, 2] bcast_S2048x64_S2048x1x64_0_2 s))))

/-- An entry of the queries' rotary embedding. -/
theorem turnHeads_at (u : FVec Ideal S8x2048x8x64 .f32) (c s : FVec Ideal S2048x64 .f32) (b : Fin 8) (p : Fin 2048) (h : Fin 8) (j : Fin 64) :
    turnHeads u c s (ix4 b p h j) = rotated (fun l => u (ix4 b p h l)) (fun l => c (ix2 p l)) (fun l => s (ix2 p l)) j := by
  unfold rotated
  pointwise [turnHeads]
  simp only [Nat.add_comm 32]

/-- The rotary embedding of the shared key. -/
def turnShared (u : FVec Ideal S8x2048x64 .f32) (c s : FVec Ideal S2048x64 .f32) : FVec Ideal S8x2048x64 .f32 :=
  addf (mulf u (broadcastInDim S8x2048x64 ![0, 1, 2] bcast_S1x2048x64_S8x2048x64_0_1_2 (broadcastInDim S1x2048x64 ![1, 2]
    bcast_S2048x64_S1x2048x64_1_2 c))) (mulf (concatenate S8x2048x64 2 [⟨S8x2048x32, (Host.negf (extractStridedSlice S8x2048x32
    ![0, 0, 32] u slices_S8x2048x64_S8x2048x32_0_0_32))⟩, ⟨S8x2048x32, (extractStridedSlice S8x2048x32 ![0, 0, 0] u
    slices_S8x2048x64_S8x2048x32_0_0_0)⟩] concatenates_S8x2048x32_S8x2048x32_S8x2048x64_d2) (broadcastInDim S8x2048x64 ![0, 1, 2]
    bcast_S1x2048x64_S8x2048x64_0_1_2 (broadcastInDim S1x2048x64 ![1, 2] bcast_S2048x64_S1x2048x64_1_2 s)))

/-- An entry of the shared key's rotary embedding. -/
theorem turnShared_at (u : FVec Ideal S8x2048x64 .f32) (c s : FVec Ideal S2048x64 .f32) (b : Fin 8) (p : Fin 2048) (j : Fin 64) :
    turnShared u c s (ix3 b p j) = rotated (fun l => u (ix3 b p l)) (fun l => c (ix2 p l)) (fun l => s (ix2 p l)) j := by
  unfold rotated
  pointwise [turnShared]
  simp only [Nat.add_comm 32]

/-- The queries' plain and turned lanes side by side, scaled, padded and with the heads in front. -/
def assembled (a : FVec Ideal S8x2048x8x128 .f32) (r : FVec Ideal S8x2048x8x64 .f32) : FVec Ideal S8x8x2048x256 .bf16 :=
  truncf .bf16 (transpose S8x8x2048x256 [0, 2, 1, 3] (pad S8x2048x8x256 ![0, 0, 0, 0] ![0, 0, 0, 64] ![0, 0, 0, 0] (mulf
    (concatenate S8x2048x8x192 3 [⟨S8x2048x8x128, a⟩, ⟨S8x2048x8x64, r⟩] concatenates_S8x2048x8x128_S8x2048x8x64_S8x2048x8x192_d3)
    (broadcastInDim S8x2048x8x192 ![] bcast_S_S8x2048x8x192 (constant S_ .f32 0x3DD53B95#32))) (sitofp .f32 (constantI S_ 32 0#32))
    pads_S8x2048x8x192_S8x2048x8x256_000_000_000_0640 h_S_) transposes_S8x2048x8x256_S8x8x2048x256_0_2_1_3) bitsLt_bf16_f32

/-- An entry of the assembled queries. -/
theorem assembled_at (a : FVec Ideal S8x2048x8x128 .f32) (r : FVec Ideal S8x2048x8x64 .f32) (b h : Fin 8) (p : Fin 2048) (j : Fin 256) :
    assembled a r (ix4 b h p j) = if h1 : j.val < 128 then (a (ix4 b p h ⟨j.val, h1⟩) * Ideal.ofBits .f32 0x3DD53B95#32 : EReal)
      else if h2 : j.val < 192 then (r (ix4 b p h ⟨j.val - 128, by omega⟩) * Ideal.ofBits .f32 0x3DD53B95#32 : EReal) else (0 : EReal) := by
  pointwise [assembled]
  rw [QkvEntry.zero_converted]
  by_cases h1 : j.val < 128
  · rw [dif_pos (show j.val < 192 by omega), dif_pos h1, dif_pos h1]
  · simp only [dif_neg h1]

/-- The lanes of a product by heads that are the keys. -/
def firstLanes (p : FVec Ideal S8x2048x8x256 .f32) : FVec Ideal S8x8x2048x128 .bf16 :=
  truncf .bf16 (transpose S8x8x2048x128 [0, 2, 1, 3] (extractStridedSlice S8x2048x8x128 ![0, 0, 0, 0] p
    slices_S8x2048x8x256_S8x2048x8x128_0_0_0_0) transposes_S8x2048x8x128_S8x8x2048x128_0_2_1_3) bitsLt_bf16_f32

/-- An entry of the keys' lanes. -/
theorem firstLanes_at (p : FVec Ideal S8x2048x8x256 .f32) (b h : Fin 8) (s : Fin 2048) (j : Fin 128) :
    firstLanes p (ix4 b h s j) = p (ix4 b s h ⟨j.val, by omega⟩) := by
  pointwise [firstLanes]

/-- The lanes of a product by heads that are the values. -/
def lastLanes (p : FVec Ideal S8x2048x8x256 .f32) : FVec Ideal S8x8x2048x128 .bf16 :=
  truncf .bf16 (transpose S8x8x2048x128 [0, 2, 1, 3] (extractStridedSlice S8x2048x8x128 ![0, 0, 0, 128] p
    slices_S8x2048x8x256_S8x2048x8x128_0_0_0_128) transposes_S8x2048x8x128_S8x8x2048x128_0_2_1_3) bitsLt_bf16_f32

/-- An entry of the values' lanes. -/
theorem lastLanes_at (p : FVec Ideal S8x2048x8x256 .f32) (b h : Fin 8) (s : Fin 2048) (j : Fin 128) :
    lastLanes p (ix4 b h s j) = p (ix4 b s h ⟨128 + j.val, by omega⟩) := by
  pointwise [lastLanes]

/-- The shared key with its lanes of zeros. -/
def widened (u : FVec Ideal S8x2048x64 .f32) : FVec Ideal S8x2048x128 .bf16 :=
  truncf .bf16 (pad S8x2048x128 ![0, 0, 0] ![0, 0, 64] ![0, 0, 0] u (sitofp .f32 (constantI S_ 32 0#32))
    pads_S8x2048x64_S8x2048x128_000_000_0640 h_S_) bitsLt_bf16_f32

/-- An entry of the widened shared key. -/
theorem widened_at (u : FVec Ideal S8x2048x64 .f32) (b : Fin 8) (s : Fin 2048) (j : Fin 128) :
    widened u (ix3 b s j) = if h : j.val < 64 then u (ix3 b s ⟨j.val, h⟩) else (0 : EReal) := by
  pointwise [widened]
  rw [QkvEntry.zero_converted]

/-- The queries' first 128 lanes of each head. -/
def plainLanes (p : FVec Ideal S8x2048x8x192 .f32) : FVec Ideal S8x2048x8x128 .f32 :=
  extractStridedSlice S8x2048x8x128 ![0, 0, 0, 0] p slices_S8x2048x8x192_S8x2048x8x128_0_0_0_0

/-- The queries' last 64 lanes of each head. -/
def turningLanes (p : FVec Ideal S8x2048x8x192 .f32) : FVec Ideal S8x2048x8x64 .f32 :=
  extractStridedSlice S8x2048x8x64 ![0, 0, 0, 128] p slices_S8x2048x8x192_S8x2048x8x64_0_0_0_128

/-- An entry of the plain lanes. -/
theorem plainLanes_at (p : FVec Ideal S8x2048x8x192 .f32) (b : Fin 8) (s : Fin 2048) (h : Fin 8) (j : Fin 128) :
    plainLanes p (ix4 b s h j) = p (ix4 b s h ⟨j.val, by omega⟩) := by
  pointwise [plainLanes]

/-- An entry of the turning lanes. -/
theorem turningLanes_at (p : FVec Ideal S8x2048x8x192 .f32) (b : Fin 8) (s : Fin 2048) (h : Fin 8) (j : Fin 64) :
    turningLanes p (ix4 b s h j) = p (ix4 b s h ⟨128 + j.val, by omega⟩) := by
  pointwise [turningLanes]

end Cert.QkvRefParts

end
-- ==== Proof.QkvRef.lean ====
/- The reference of the queries, keys and values computes the same arrays. -/
module

public import proofs.«01_k».proof.Proof.QkvRefParts

@[expose] public section

set_option maxRecDepth 16384

noncomputable section

namespace Cert.QkvRef

open Cert.QkvRefIdeal Cert.QkvRefIdeal.Gen Cert.OutBlock Cert.QkvSpec Cert.QkvRefParts
open Idealize.ShloMosaic Idealize.ShloMosaic.TcCoe Idealize.SL.Sem

/-- An entry of the queries' product by heads. -/
theorem queryProduct_at (x : FVec Ideal S16384x4096 .bf16) (g : FVec Ideal S1x512 .f32) (w : FVec Ideal S1x512x1536 .f32) (b : Fin 8) (s : Fin 2048) (h : Fin 8) (j : Fin 192) :
    queryHeads (rms512 (queryColumns x) g) w (ix4 b s h j) = entry 0x44000000#32 (fun k => x (ix2 (QkvArray.rowOf b s) ⟨3072 + k.val, by omega⟩))
      (fun k => g (ix2 0 k)) (fun k => w (ix3 0 k ⟨192 * h.val + j.val, by omega⟩)) := by
  rw [queryHeads_at]
  simp only [rms512_at, queryColumns_at]
  rfl

/-- An entry of the keys' and values' product by heads. -/
theorem keyProduct_at (x : FVec Ideal S16384x4096 .bf16) (g : FVec Ideal S1x256 .f32) (w : FVec Ideal S1x256x2048 .f32) (b : Fin 8) (s : Fin 2048) (h : Fin 8) (j : Fin 256) :
    keyHeads (rms256 (keyColumns x) g) w (ix4 b s h j) = entry 0x43800000#32 (fun k => x (ix2 (QkvArray.rowOf b s) ⟨3584 + k.val, by omega⟩))
      (fun k => g (ix2 0 k)) (fun k => w (ix3 0 k ⟨256 * h.val + j.val, by omega⟩)) := by
  rw [keyHeads_at]
  simp only [rms256_at, keyColumns_at]
  rfl

/-- The kernel's queries are the reference's. -/
theorem queries_eq (x : FVec Ideal S16384x4096 .bf16) (g : FVec Ideal S1x512 .f32) (w : FVec Ideal S1x512x1536 .f32) :
    QkvArray.queries x g w = assembled (plainLanes (queryHeads (rms512 (queryColumns x) g) w)) (turnHeads (turningLanes (queryHeads (rms512 (queryColumns x) g) w)) QkvEntry.cosines QkvEntry.sines) := by
  funext i
  obtain ⟨b, h, s, j, rfl⟩ : ∃ (b h : Fin 8) (s : Fin 2048) (j : Fin 256), i = ix4 b h s j := ⟨i 0, i 1, i 2, i 3, eq_ix4 i⟩
  rw [assembled_at]
  simp only [plainLanes_at, turnHeads_at, turningLanes_at, queryProduct_at]
  show queryEntry _ _ _ _ _ h j = _
  unfold queryEntry
  refine dite_congr rfl (fun h1 => rfl) fun h1 => dite_congr rfl (fun h2 => ?_) fun h2 => rfl
  refine congrArg (fun f => (rotated f (fun l => QkvEntry.cosines (ix2 s l)) (fun l => QkvEntry.sines (ix2 s l))
    ⟨j.val - 128, by omega⟩ * Ideal.ofBits .f32 0x3DD53B95#32 : EReal)) (funext fun l => ?_)
  exact entry_congr (fun k => rfl) (fun k => rfl) (fun k => congrArg (fun l => w (ix3 0 k l)) (Fin.ext (Nat.add_assoc _ _ _)))

/-- The kernel's keys are the reference's. -/
theorem keys_eq (x : FVec Ideal S16384x4096 .bf16) (g : FVec Ideal S1x256 .f32) (w : FVec Ideal S1x256x2048 .f32) :
    QkvArray.keys x g w = firstLanes (keyHeads (rms256 (keyColumns x) g) w) := by
  funext i
  obtain ⟨b, h, s, j, rfl⟩ : ∃ (b h : Fin 8) (s : Fin 2048) (j : Fin 128), i = ix4 b h s j := ⟨i 0, i 1, i 2, i 3, eq_ix4 i⟩
  exact ((firstLanes_at _ b h s j).trans (keyProduct_at x g w b s h ⟨j.val, by omega⟩)).symm

/-- The kernel's values are the reference's. -/
theorem values_eq (x : FVec Ideal S16384x4096 .bf16) (g : FVec Ideal S1x256 .f32) (w : FVec Ideal S1x256x2048 .f32) :
    QkvArray.values x g w = lastLanes (keyHeads (rms256 (keyColumns x) g) w) := by
  funext i
  obtain ⟨b, h, s, j, rfl⟩ : ∃ (b h : Fin 8) (s : Fin 2048) (j : Fin 128), i = ix4 b h s j := ⟨i 0, i 1, i 2, i 3, eq_ix4 i⟩
  refine Eq.trans ?_ ((lastLanes_at _ b h s j).trans (keyProduct_at x g w b s h ⟨128 + j.val, by omega⟩)).symm
  exact entry_congr (fun k => rfl) (fun k => rfl) (fun k => congrArg (fun l => w (ix3 0 k l)) (Fin.ext (Nat.add_assoc _ _ _)))

/-- The kernel's shared key is the reference's. -/
theorem shared_eq (x : FVec Ideal S16384x4096 .bf16) :
    QkvArray.shared x = widened (turnShared (sharedColumns x) QkvEntry.cosines QkvEntry.sines) := by
  funext i
  obtain ⟨b, s, j, rfl⟩ : ∃ (b : Fin 8) (s : Fin 2048) (j : Fin 128), i = ix3 b s j := ⟨i 0, i 1, i 2, eq_ix3 i⟩
  rw [widened_at]
  simp only [turnShared_at, sharedColumns_at]
  rfl

/-- What the reference's run leaves in its first result. -/
theorem run_queries (m : (ℓ : Loc nD τ sig) → Buf (Elt Ideal) ℓ) (c : Dev nD) :
    Value.res_main_v92 (F := Ideal) m c = QkvArray.queries (m ((c.tc : Thread nD τ).loc main_arg0)) (m ((c.tc : Thread nD τ).loc main_arg1)) (m ((c.tc : Thread nD τ).loc main_arg2)) := by
  rw [queries_eq]
  rfl

/-- What the reference's run leaves in its third result. -/
theorem run_shared (m : (ℓ : Loc nD τ sig) → Buf (Elt Ideal) ℓ) (c : Dev nD) :
    Value.res_main_v96 (F := Ideal) m c = QkvArray.shared (m ((c.tc : Thread nD τ).loc main_arg0)) := by
  rw [shared_eq]
  rfl

end Cert.QkvRef

end
-- ==== Proof.QkvClaim.lean ====
/- The value claim of the queries, keys and values: the kernel's arrays are the reference's. -/
module

public import proofs.«01_k».proof.Defs
public import proofs.«01_k».proof.Proof.QkvArray
public import proofs.«01_k».proof.Proof.QkvRef
public import proofs.«01_k».proof.Proof.Gen.QkvIdeal.Frame
public import proofs.«01_k».proof.Proof.Gen.QkvRefIdeal.Run

@[expose] public section

set_option maxRecDepth 16384

noncomputable section

namespace Cert.QkvClaim

open Cert
open Idealize.ShloMosaic Idealize.ShloMosaic.TcCoe Idealize.SL.Sem

/-- The kernel's run: its result arrays named, its arguments as launched. -/
theorem run_result (m : (ℓ : Loc QkvIdeal.nD QkvIdeal.τ QkvIdeal.sig) → Buf (Elt Ideal) ℓ) (ρ : Dev QkvIdeal.nD → PrngReg) :
    θ_run QkvIdeal.defs (onTc (τ := QkvIdeal.τ) (QkvIdeal.main (F := Ideal))) ⟨m, fun _ => 0, ρ⟩ fun r =>
      ∀ c : Dev QkvIdeal.nD,
      r.2.mem ((c.tc : Thread QkvIdeal.nD QkvIdeal.τ).loc QkvIdeal.main_v33_0) = (QkvIdeal.Gen.dats m 0 c).arrAt 9 QkvIdeal.cfg0.N
      ∧ r.2.mem ((c.tc : Thread QkvIdeal.nD QkvIdeal.τ).loc QkvIdeal.main_v33_1) = (QkvIdeal.Gen.dats m 0 c).arrAt 10 QkvIdeal.cfg0.N
      ∧ r.2.mem ((c.tc : Thread QkvIdeal.nD QkvIdeal.τ).loc QkvIdeal.main_v33_2) = (QkvIdeal.Gen.dats m 0 c).arrAt 11 QkvIdeal.cfg0.N
      ∧ r.2.mem ((c.tc : Thread QkvIdeal.nD QkvIdeal.τ).loc QkvIdeal.main_v33_3) = (QkvIdeal.Gen.dats m 0 c).arrAt 12 QkvIdeal.cfg0.N
      ∧ r.2.mem ((c.tc : Thread QkvIdeal.nD QkvIdeal.τ).loc QkvIdeal.main_arg0)
          = m ((c.tc : Thread QkvIdeal.nD QkvIdeal.τ).loc QkvIdeal.main_arg0)
      ∧ r.2.mem ((c.tc : Thread QkvIdeal.nD QkvIdeal.τ).loc QkvIdeal.main_arg1)
          = m ((c.tc : Thread QkvIdeal.nD QkvIdeal.τ).loc QkvIdeal.main_arg1)
      ∧ r.2.mem ((c.tc : Thread QkvIdeal.nD QkvIdeal.τ).loc QkvIdeal.main_arg2)
          = m ((c.tc : Thread QkvIdeal.nD QkvIdeal.τ).loc QkvIdeal.main_arg2)
      ∧ r.2.mem ((c.tc : Thread QkvIdeal.nD QkvIdeal.τ).loc QkvIdeal.main_arg3)
          = m ((c.tc : Thread QkvIdeal.nD QkvIdeal.τ).loc QkvIdeal.main_arg3)
      ∧ r.2.mem ((c.tc : Thread QkvIdeal.nD QkvIdeal.τ).loc QkvIdeal.main_arg4)
          = m ((c.tc : Thread QkvIdeal.nD QkvIdeal.τ).loc QkvIdeal.main_arg4) :=
  (θ_run QkvIdeal.defs _ _).mono (fun r h c => ⟨(h c).1 9, (h c).1 10, (h c).1 11, (h c).1 12,
      ((h c).1 0).trans (((QkvIdeal.Gen.dats m 0 c).arrAt_in 0 rfl _).trans
        ((QkvIdeal.Gen.A_eq m c 0).trans (QkvIdeal.Gen.V_main_arg0 m c))),
      ((h c).2 QkvIdeal.main_arg1 (Pipeline.mem_restRefs_of QkvIdeal.main_arg1 (by decide) (by decide))).trans
        (QkvIdeal.Gen.V_main_arg1 m c),
      ((h c).2 QkvIdeal.main_arg2 (Pipeline.mem_restRefs_of QkvIdeal.main_arg2 (by decide) (by decide))).trans
        (QkvIdeal.Gen.V_main_arg2 m c),
      ((h c).2 QkvIdeal.main_arg3 (Pipeline.mem_restRefs_of QkvIdeal.main_arg3 (by decide) (by decide))).trans
        (QkvIdeal.Gen.V_main_arg3 m c),
      ((h c).2 QkvIdeal.main_arg4 (Pipeline.mem_restRefs_of QkvIdeal.main_arg4 (by decide) (by decide))).trans
        (QkvIdeal.Gen.V_main_arg4 m c)⟩)
    (QkvIdeal.Gen.run_main m ρ)

/-- From memories agreeing on the arguments the queries, keys and values and their references end with the same arrays. -/
theorem equal : algebraic_QkvIdeal_QkvRefIdeal := by
  intro m ρ m' ρ' _ hag
  refine ⟨fun c => QkvArray.queries (m ((c.tc : Thread QkvIdeal.nD QkvIdeal.τ).loc QkvIdeal.main_arg0))
    (m ((c.tc : Thread QkvIdeal.nD QkvIdeal.τ).loc QkvIdeal.main_arg1)) (m ((c.tc : Thread QkvIdeal.nD QkvIdeal.τ).loc QkvIdeal.main_arg2)),
    fun c => QkvArray.keys (m ((c.tc : Thread QkvIdeal.nD QkvIdeal.τ).loc QkvIdeal.main_arg0))
    (m ((c.tc : Thread QkvIdeal.nD QkvIdeal.τ).loc QkvIdeal.main_arg3)) (m ((c.tc : Thread QkvIdeal.nD QkvIdeal.τ).loc QkvIdeal.main_arg4)),
    fun c => QkvArray.shared (m ((c.tc : Thread QkvIdeal.nD QkvIdeal.τ).loc QkvIdeal.main_arg0)),
    fun c => QkvArray.values (m ((c.tc : Thread QkvIdeal.nD QkvIdeal.τ).loc QkvIdeal.main_arg0))
    (m ((c.tc : Thread QkvIdeal.nD QkvIdeal.τ).loc QkvIdeal.main_arg3)) (m ((c.tc : Thread QkvIdeal.nD QkvIdeal.τ).loc QkvIdeal.main_arg4)), ?_, ?_⟩
  · exact (θ_run _ _ _).mono (fun r h c => ⟨(h c).1.trans (QkvArray.final_queries m c), (h c).2.1.trans (QkvArray.final_keys m c),
      (h c).2.2.1.trans (QkvArray.final_shared m c), (h c).2.2.2.1.trans (QkvArray.final_values m c), (h c).2.2.2.2⟩) (run_result m ρ)
  · refine (θ_run _ _ _).mono (fun r h c => ⟨((h c).1.trans (QkvRef.run_queries m' c)).trans ?_,
      ((h c).2.1.trans (QkvRef.keys_eq _ _ _).symm).trans ?_, ((h c).2.2.1.trans (QkvRef.run_shared m' c)).trans ?_,
      ((h c).2.2.2.1.trans (QkvRef.values_eq _ _ _).symm).trans ?_, (h c).2.2.2.2⟩) (QkvRefIdeal.Value.run m' ρ')
    all_goals
      obtain ⟨h0, h1, h2, h3, h4⟩ := hag c
    · rw [h0, h1, h2]
    · rw [h0, h3, h4]
    · rw [h0]
    · rw [h0, h3, h4]

end Cert.QkvClaim

end
-- ==== Proof.lean ====
/- The claims of the certificate, put together. -/
module

public import proofs.«01_k».proof.Defs
public import proofs.«01_k».proof.Proof.Gen.Kernel.Frame
public import proofs.«01_k».proof.Proof.Gen.KernelIdeal.Frame
public import proofs.«01_k».proof.Proof.Gen.FfnUp.Frame
public import proofs.«01_k».proof.Proof.Gen.FfnUpIdeal.Frame
public import proofs.«01_k».proof.Proof.Gen.FfnDown.Frame
public import proofs.«01_k».proof.Proof.Gen.FfnDownIdeal.Frame
public import proofs.«01_k».proof.Proof.Gen.InProj.Frame
public import proofs.«01_k».proof.Proof.Gen.InProjIdeal.Frame
public import proofs.«01_k».proof.Proof.Gen.OutProj.Frame
public import proofs.«01_k».proof.Proof.Gen.OutProjIdeal.Frame
public import proofs.«01_k».proof.Proof.Gen.Qkv.Frame
public import proofs.«01_k».proof.Proof.Gen.QkvIdeal.Frame
public import proofs.«01_k».proof.Proof.Gen.ReferenceIdeal.Run
public import proofs.«01_k».proof.Proof.Gen.FfnUpRefIdeal.Run
public import proofs.«01_k».proof.Proof.Gen.FfnDownRefIdeal.Run
public import proofs.«01_k».proof.Proof.Gen.InProjRefIdeal.Run
public import proofs.«01_k».proof.Proof.Gen.OutProjRefIdeal.Run
public import proofs.«01_k».proof.Proof.Gen.QkvRefIdeal.Run
public import proofs.«01_k».proof.Proof.AttnPreFacts
public import proofs.«01_k».proof.Proof.AttnClaim
public import proofs.«01_k».proof.Proof.UpClaim
public import proofs.«01_k».proof.Proof.DownClaim
public import proofs.«01_k».proof.Proof.InClaim
public import proofs.«01_k».proof.Proof.OutClaim
public import proofs.«01_k».proof.Proof.QkvClaim
public import Idealize.ShloMosaic.Lib.Quiescent

@[expose] public section

noncomputable section

namespace Cert.Proof

open Idealize.ShloMosaic Idealize.SL.Sem

/-- The reference of the attention runs, its arguments end unchanged and every counter is zero. -/
theorem frame_ReferenceIdeal : quiescent_ReferenceIdeal := fun m ρ _ =>
  (θ_run _ _ _).mono (fun _ h => ⟨fun c => (h c).2, sem_eq_zero_of_no_sems rfl _⟩) (ReferenceIdeal.Value.run m ρ)

/-- The reference of the up projection runs, its arguments end unchanged and every counter is zero. -/
theorem frame_FfnUpRefIdeal : quiescent_FfnUpRefIdeal := fun m ρ _ =>
  (θ_run _ _ _).mono (fun _ h => ⟨fun c => (h c).2, sem_eq_zero_of_no_sems rfl _⟩) (FfnUpRefIdeal.Value.run m ρ)

/-- The reference of the down projection runs, its arguments end unchanged and every counter is zero. -/
theorem frame_FfnDownRefIdeal : quiescent_FfnDownRefIdeal := fun m ρ _ =>
  (θ_run _ _ _).mono (fun _ h => ⟨fun c => (h c).2, sem_eq_zero_of_no_sems rfl _⟩) (FfnDownRefIdeal.Value.run m ρ)

/-- The reference of the input projection runs, its arguments end unchanged and every counter is zero. -/
theorem frame_InProjRefIdeal : quiescent_InProjRefIdeal := fun m ρ _ =>
  (θ_run _ _ _).mono (fun _ h => ⟨fun c => (h c).2, sem_eq_zero_of_no_sems rfl _⟩) (InProjRefIdeal.Value.run m ρ)

/-- The reference of the output projection runs, its arguments end unchanged and every counter is zero. -/
theorem frame_OutProjRefIdeal : quiescent_OutProjRefIdeal := fun m ρ _ =>
  (θ_run _ _ _).mono (fun _ h => ⟨fun c => (h c).2.2.2, sem_eq_zero_of_no_sems rfl _⟩) (OutProjRefIdeal.Value.run m ρ)

/-- The reference of the queries, keys and values runs, its arguments end unchanged and every counter is zero. -/
theorem frame_QkvRefIdeal : quiescent_QkvRefIdeal := fun m ρ _ =>
  (θ_run _ _ _).mono (fun _ h => ⟨fun c => (h c).2.2.2.2, sem_eq_zero_of_no_sems rfl _⟩) (QkvRefIdeal.Value.run m ρ)

/-- Everything the certificate claims. -/
theorem claim : Cert.Claim :=
  ⟨Kernel.Gen.facts,
   FfnUp.Gen.facts,
   FfnDown.Gen.facts,
   InProj.Gen.facts,
   OutProj.Gen.facts,
   Qkv.Gen.facts,
   KernelIdeal.Gen.facts,
   ReferenceIdeal.Gen.facts,
   FfnUpIdeal.Gen.facts,
   FfnUpRefIdeal.Gen.facts,
   FfnDownIdeal.Gen.facts,
   FfnDownRefIdeal.Gen.facts,
   InProjIdeal.Gen.facts,
   InProjRefIdeal.Gen.facts,
   OutProjIdeal.Gen.facts,
   OutProjRefIdeal.Gen.facts,
   QkvIdeal.Gen.facts,
   QkvRefIdeal.Gen.facts,
   AttnPreFacts.facts,
   fun m ρ _ => Kernel.Gen.frame m ρ,
   fun m ρ _ => FfnUp.Gen.frame m ρ,
   fun m ρ _ => FfnDown.Gen.frame m ρ,
   fun m ρ _ => InProj.Gen.frame m ρ,
   fun m ρ _ => OutProj.Gen.frame m ρ,
   fun m ρ _ => Qkv.Gen.frame m ρ,
   fun m ρ _ => KernelIdeal.Gen.frame m ρ,
   fun m ρ _ => KernelIdeal.Gen.frame m ρ,
   frame_ReferenceIdeal,
   fun m ρ _ => frame_ReferenceIdeal m ρ trivial,
   fun m ρ _ => FfnUpIdeal.Gen.frame m ρ,
   frame_FfnUpRefIdeal,
   fun m ρ _ => FfnDownIdeal.Gen.frame m ρ,
   frame_FfnDownRefIdeal,
   fun m ρ _ => InProjIdeal.Gen.frame m ρ,
   frame_InProjRefIdeal,
   fun m ρ _ => OutProjIdeal.Gen.frame m ρ,
   frame_OutProjRefIdeal,
   fun m ρ _ => QkvIdeal.Gen.frame m ρ,
   frame_QkvRefIdeal,
   trivial,
   AttnClaim.equal,
   trivial,
   UpClaim.equal,
   trivial,
   DownClaim.equal,
   trivial,
   InClaim.equal,
   trivial,
   OutClaim.equal,
   trivial,
   QkvClaim.equal⟩

end Cert.Proof

end
